-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_up_dx [hPre_finite_up_dx : Cert.Pre_finite_up_dx.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_up_dx.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_up_dx [hPre_finite_up_dx : Cert.Pre_finite_up_dx.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_up_dx.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_in_dx [hPre_finite_in_dx : Cert.Pre_finite_in_dx.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_in_dx.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_in_dx [hPre_finite_in_dx : Cert.Pre_finite_in_dx.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_in_dx.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_down [hPre_finite_down : Cert.Pre_finite_down.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_down.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_down [hPre_finite_down : Cert.Pre_finite_down.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_down.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite_ada_bwd [hPre_finite_ada_bwd : Cert.Pre_finite_ada_bwd.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite_ada_bwd.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite_ada_bwd [hPre_finite_ada_bwd : Cert.Pre_finite_ada_bwd.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite_ada_bwd.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_up_dx [hKernel2Ideal : Cert.Kernel2Ideal.Facts] [hPre_finite_up_dx : Cert.Pre_finite_up_dx.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_up_dx m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_up_dx [hReference2Ideal : Cert.Reference2Ideal.Facts] [hPre_finite_up_dx : Cert.Pre_finite_up_dx.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_up_dx m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Kernel13Ideal_pre_finite_in_dx [hKernel13Ideal : Cert.Kernel13Ideal.Facts] [hPre_finite_in_dx : Cert.Pre_finite_in_dx.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_in_dx m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_finite_in_dx [hReference13Ideal : Cert.Reference13Ideal.Facts] [hPre_finite_in_dx : Cert.Pre_finite_in_dx.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_in_dx m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Kernel15Ideal_pre_finite_down [hKernel15Ideal : Cert.Kernel15Ideal.Facts] [hPre_finite_down : Cert.Pre_finite_down.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_down m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_finite_down [hReference15Ideal : Cert.Reference15Ideal.Facts] [hPre_finite_down : Cert.Pre_finite_down.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_down m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Kernel32Ideal_pre_finite_ada_bwd [hKernel32Ideal : Cert.Kernel32Ideal.Facts] [hPre_finite_ada_bwd : Cert.Pre_finite_ada_bwd.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite_ada_bwd m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Reference32Ideal_pre_finite_ada_bwd [hReference32Ideal : Cert.Reference32Ideal.Facts] [hPre_finite_ada_bwd : Cert.Pre_finite_ada_bwd.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite_ada_bwd m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v23) = v2 c
          ∧ r.2.mem ((c.tc : Thread Cert.Reference14Ideal.nD Cert.Reference14Ideal.τ).loc Cert.Reference14Ideal.main_v24) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4)) (v1 : (c : Dev Cert.Kernel28Ideal.nD) → Buf (Elt Ideal) ((c.tc : Thread Cert.Kernel28Ideal.nD Cert.Kernel28Ideal.τ).loc Cert.Kernel28Ideal.main_v5)) (v2 : (c : Dev Cert.Kernel28Ideal.nD) → Buf (Elt Ideal) ((c.tc : Thread Cert.Kernel28Ideal.nD Cert.Kernel28Ideal.τ).loc Cert.Kernel28Ideal.main_v6)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4) = v0 c
          ∧ r.2.mem ((c.tc : Thread Cert.Kernel28Ideal.nD Cert.Kernel28Ideal.τ).loc Cert.Kernel28Ideal.main_v5) = v1 c
          ∧ r.2.mem ((c.tc : Thread Cert.Kernel28Ideal.nD Cert.Kernel28Ideal.τ).loc Cert.Kernel28Ideal.main_v6) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v5) = v1 c
          ∧ r.2.mem ((c.tc : Thread Cert.Reference28Ideal.nD Cert.Reference28Ideal.τ).loc Cert.Reference28Ideal.main_v11) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v48) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v45) = v0 c
          ∧ r.2.mem ((c.tc : Thread Cert.Reference34Ideal.nD Cert.Reference34Ideal.τ).loc Cert.Reference34Ideal.main_v46) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel2_Kernel2Ideal : Prop :=
  True

def algebraic_Kernel2Ideal_Reference2Ideal_pre_finite_up_dx [hKernel2Ideal : Cert.Kernel2Ideal.Facts] [hReference2Ideal : Cert.Reference2Ideal.Facts] [hPre_finite_up_dx : Cert.Pre_finite_up_dx.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_up_dx m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_v49) = v3 c
          ∧ r.2.mem ((c.tc : Thread Cert.Reference2Ideal.nD Cert.Reference2Ideal.τ).loc Cert.Reference2Ideal.main_v56) = v4 c
          ∧ r.2.mem ((c.tc : Thread Cert.Reference2Ideal.nD Cert.Reference2Ideal.τ).loc Cert.Reference2Ideal.main_v84) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel13_Kernel13Ideal : Prop :=
  True

def algebraic_Kernel13Ideal_Reference13Ideal_pre_finite_in_dx [hKernel13Ideal : Cert.Kernel13Ideal.Facts] [hReference13Ideal : Cert.Reference13Ideal.Facts] [hPre_finite_in_dx : Cert.Pre_finite_in_dx.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_in_dx m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)) (v4 : (c : Dev Cert.Kernel13Ideal.nD) → Buf (Elt Ideal) ((c.tc : Thread Cert.Kernel13Ideal.nD Cert.Kernel13Ideal.τ).loc Cert.Kernel13Ideal.main_v1_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_v1_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v82) = v0 c
          ∧ r.2.mem ((c.tc : Thread Cert.Reference13Ideal.nD Cert.Reference13Ideal.τ).loc Cert.Reference13Ideal.main_v48) = v1 c
          ∧ r.2.mem ((c.tc : Thread Cert.Reference13Ideal.nD Cert.Reference13Ideal.τ).loc Cert.Reference13Ideal.main_v47) = v2 c
          ∧ r.2.mem ((c.tc : Thread Cert.Reference13Ideal.nD Cert.Reference13Ideal.τ).loc Cert.Reference13Ideal.main_v54) = v3 c
          ∧ r.2.mem ((c.tc : Thread Cert.Reference13Ideal.nD Cert.Reference13Ideal.τ).loc Cert.Reference13Ideal.main_v81) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel15_Kernel15Ideal : Prop :=
  True

def algebraic_Kernel15Ideal_Reference15Ideal_pre_finite_down [hKernel15Ideal : Cert.Kernel15Ideal.Facts] [hReference15Ideal : Cert.Reference15Ideal.Facts] [hPre_finite_down : Cert.Pre_finite_down.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_down m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v2_3)) (v4 : (c : Dev Cert.Kernel15Ideal.nD) → Buf (Elt Ideal) ((c.tc : Thread Cert.Kernel15Ideal.nD Cert.Kernel15Ideal.τ).loc Cert.Kernel15Ideal.main_v2_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v2_3) = v3 c
          ∧ r.2.mem ((c.tc : Thread Cert.Kernel15Ideal.nD Cert.Kernel15Ideal.τ).loc Cert.Kernel15Ideal.main_v2_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v68) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v73) = v3 c
          ∧ r.2.mem ((c.tc : Thread Cert.Reference15Ideal.nD Cert.Reference15Ideal.τ).loc Cert.Reference15Ideal.main_v51) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel32_Kernel32Ideal : Prop :=
  True

def algebraic_Kernel32Ideal_Reference32Ideal_pre_finite_ada_bwd [hKernel32Ideal : Cert.Kernel32Ideal.Facts] [hReference32Ideal : Cert.Reference32Ideal.Facts] [hPre_finite_ada_bwd : Cert.Pre_finite_ada_bwd.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite_ada_bwd m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v18) = v0 c
          ∧ r.2.mem ((c.tc : Thread Cert.Reference32Ideal.nD Cert.Reference32Ideal.τ).loc Cert.Reference32Ideal.main_v21) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel2 : Cert.Kernel2.Facts) (hKernel2Ideal : Cert.Kernel2Ideal.Facts) (hReference2Ideal : Cert.Reference2Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel32 : Cert.Kernel32.Facts) (hKernel32Ideal : Cert.Kernel32Ideal.Facts) (hReference32Ideal : Cert.Reference32Ideal.Facts) (hPre_finite_up_dx : Cert.Pre_finite_up_dx.Facts) (hPre_finite_in_dx : Cert.Pre_finite_in_dx.Facts) (hPre_finite_down : Cert.Pre_finite_down.Facts) (hPre_finite_ada_bwd : Cert.Pre_finite_ada_bwd.Facts),
    quiescent_Kernel (hKernel := hKernel)
    ∧ quiescent_KernelIdeal (hKernelIdeal := hKernelIdeal)
    ∧ quiescent_ReferenceIdeal (hReferenceIdeal := hReferenceIdeal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel2 (hKernel2 := hKernel2)
    ∧ quiescent_Kernel2Ideal (hKernel2Ideal := hKernel2Ideal)
    ∧ quiescent_Kernel2Ideal_pre_finite_up_dx (hKernel2Ideal := hKernel2Ideal) (hPre_finite_up_dx := hPre_finite_up_dx)
    ∧ quiescent_Reference2Ideal (hReference2Ideal := hReference2Ideal)
    ∧ quiescent_Reference2Ideal_pre_finite_up_dx (hReference2Ideal := hReference2Ideal) (hPre_finite_up_dx := hPre_finite_up_dx)
    ∧ quiescent_Kernel13 (hKernel13 := hKernel13)
    ∧ quiescent_Kernel13Ideal (hKernel13Ideal := hKernel13Ideal)
    ∧ quiescent_Kernel13Ideal_pre_finite_in_dx (hKernel13Ideal := hKernel13Ideal) (hPre_finite_in_dx := hPre_finite_in_dx)
    ∧ quiescent_Reference13Ideal (hReference13Ideal := hReference13Ideal)
    ∧ quiescent_Reference13Ideal_pre_finite_in_dx (hReference13Ideal := hReference13Ideal) (hPre_finite_in_dx := hPre_finite_in_dx)
    ∧ quiescent_Kernel15 (hKernel15 := hKernel15)
    ∧ quiescent_Kernel15Ideal (hKernel15Ideal := hKernel15Ideal)
    ∧ quiescent_Kernel15Ideal_pre_finite_down (hKernel15Ideal := hKernel15Ideal) (hPre_finite_down := hPre_finite_down)
    ∧ quiescent_Reference15Ideal (hReference15Ideal := hReference15Ideal)
    ∧ quiescent_Reference15Ideal_pre_finite_down (hReference15Ideal := hReference15Ideal) (hPre_finite_down := hPre_finite_down)
    ∧ quiescent_Kernel32 (hKernel32 := hKernel32)
    ∧ quiescent_Kernel32Ideal (hKernel32Ideal := hKernel32Ideal)
    ∧ quiescent_Kernel32Ideal_pre_finite_ada_bwd (hKernel32Ideal := hKernel32Ideal) (hPre_finite_ada_bwd := hPre_finite_ada_bwd)
    ∧ quiescent_Reference32Ideal (hReference32Ideal := hReference32Ideal)
    ∧ quiescent_Reference32Ideal_pre_finite_ada_bwd (hReference32Ideal := hReference32Ideal) (hPre_finite_ada_bwd := hPre_finite_ada_bwd)
    ∧ preserves_Kernel_KernelIdeal
    ∧ algebraic_KernelIdeal_ReferenceIdeal (hKernelIdeal := hKernelIdeal) (hReferenceIdeal := hReferenceIdeal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel2_Kernel2Ideal
    ∧ algebraic_Kernel2Ideal_Reference2Ideal_pre_finite_up_dx (hKernel2Ideal := hKernel2Ideal) (hReference2Ideal := hReference2Ideal) (hPre_finite_up_dx := hPre_finite_up_dx)
    ∧ preserves_Kernel13_Kernel13Ideal
    ∧ algebraic_Kernel13Ideal_Reference13Ideal_pre_finite_in_dx (hKernel13Ideal := hKernel13Ideal) (hReference13Ideal := hReference13Ideal) (hPre_finite_in_dx := hPre_finite_in_dx)
    ∧ preserves_Kernel15_Kernel15Ideal
    ∧ algebraic_Kernel15Ideal_Reference15Ideal_pre_finite_down (hKernel15Ideal := hKernel15Ideal) (hReference15Ideal := hReference15Ideal) (hPre_finite_down := hPre_finite_down)
    ∧ preserves_Kernel32_Kernel32Ideal
    ∧ algebraic_Kernel32Ideal_Reference32Ideal_pre_finite_ada_bwd (hKernel32Ideal := hKernel32Ideal) (hReference32Ideal := hReference32Ideal) (hPre_finite_ada_bwd := hPre_finite_ada_bwd)
-- ==== Pre_finite_ada_bwd.lean ====
abbrev S8x1024 : Shape := ⟨2, ![8, 1024]⟩
abbrev S16x768 : Shape := ⟨2, ![16, 768]⟩
abbrev S1024x768 : Shape := ⟨2, ![1024, 768]⟩
abbrev S1024 : Shape := ⟨1, ![1024]⟩
abbrev S8x768 : Shape := ⟨2, ![8, 768]⟩
abbrev S_ : Shape := ⟨0, ![]⟩

class Facts : Prop where
  slices_S16x768_S8x768_8_0 : S16x768.Slices ![8, 0] S8x768
  bcast_S_S8x768 : S_.BroadcastsInDim S8x768 (![] : Fin 0 → Fin S8x768.rank)
  reducesTo_S8x768_S_d0_1 : S8x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x1024 .f32) (main_arg1 : FVec F S16x768 .f32) (main_arg2 : FVec F S1024x768 .f32) (main_arg3 : FVec F S1024 .f32) : IVec S_ 1 :=
  let main_v0 : FVec F S8x768 .f32 := (extractStridedSlice S8x768 ![8, 0] · slices_S16x768_S8x768_8_0) main_arg1
  let main_v1 : FVec F S8x768 .f32 := Host.absf main_v0
  let main_cst : FVec F S_ .f32 := constant S_ .f32 0x7F800000#32
  let main_v2 : FVec F S8x768 .f32 := broadcastInDim S8x768 ![] bcast_S_S8x768 main_cst
  let main_v3 : IVec S8x768 1 := cmpf .olt main_v1 main_v2
  let main_c : IVec S_ 1 := constantI S_ 1 1#1
  let main_v4 : IVec S_ 1 := (fun x v => Host.reduce IntOp.andi x v reducesTo_S8x768_S_d0_1 h_S_) main_v3 main_c
  let main_v5 : FVec F S1024x768 .f32 := Host.absf main_arg2
  let main_cst_0 : FVec F S_ .f32 := constant S_ .f32 0x7F800000#32
  let main_v6 : FVec F S1024x768 .f32 := broadcastInDim S1024x768 ![] bcast_S_S1024x768 main_cst_0
  let main_v7 : IVec S1024x768 1 := cmpf .olt main_v5 main_v6
  let main_c_1 : IVec S_ 1 := constantI S_ 1 1#1
  let main_v8 : IVec S_ 1 := (fun x v => Host.reduce IntOp.andi x v reducesTo_S1024x768_S_d0_1 h_S_) main_v7 main_c_1
  let main_v9 : IVec S_ 1 := andi main_v4 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  main_v14
-- ==== Pre_finite_down.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_arg5 : FVec F S1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  let main_v25 : FVec F S1024 .f32 := Host.absf main_arg5
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  main_v29

def fn {F : FTy → Type} [FloatOps F] (main_arg0 : FVec F S4096x4096 .bf16) (main_arg1 : FVec F S4096x1024 .f32) (main_arg2 : FVec F S4096x1024 .f32) (main_arg3 : FVec F S1x1024 .f32) (main_arg4 : FVec F S4096x1024 .f32) (main_arg5 : FVec F S1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_v14 main_v15 main_v16
-- ==== Pre_finite_in_dx.lean ====
abbrev S4352x1536 : Shape := ⟨2, ![4352, 1536]⟩
abbrev S1024x1536 : Shape := ⟨2, ![1024, 1536]⟩
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩

class Facts : Prop where
  slices_S4352x1536_S4096x1536_0_0 : S4352x1536.Slices ![0, 0] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg6 : FVec F S1x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg6
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S4352x1536 .bf16) (main_arg1 : FVec F S1024x1536 .f32) (main_arg2 : FVec F S4096x1024 .f32) (main_arg3 : FVec F S4096x1024 .f32) (main_arg4 : FVec F S4096x1024 .f32) (main_arg5 : FVec F S1x1024 .f32) (main_arg6 : FVec F S1x1024 .f32) : IVec S_ 1 :=
  let main_v0 : FVec F S4096x1536 .bf16 := (extractStridedSlice S4096x1536 ![0, 0] · slices_S4352x1536_S4096x1536_0_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S1024x1536 .f32 := Host.absf main_arg1
  let main_cst_0 : FVec F S_ .f32 := constant S_ .f32 0x7F800000#32
  let main_v7 : FVec F S1024x1536 .f32 := broadcastInDim S1024x1536 ![] bcast_S_S1024x1536 main_cst_0
  let main_v8 : IVec S1024x1536 1 := cmpf .olt main_v6 main_v7
  let main_c_1 : IVec S_ 1 := constantI S_ 1 1#1
  let main_v9 : IVec S_ 1 := (fun x v => Host.reduce IntOp.andi x v reducesTo_S1024x1536_S_d0_1 h_S_) main_v8 main_c_1
  let main_v10 : IVec S_ 1 := andi main_v5 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg5
  let main_cst_4 : FVec F S_ .f32 := constant S_ .f32 0x7F800000#32
  fn_part1 (F := F) main_arg6 main_v15 main_v16 main_cst_4
-- ==== Pre_finite_up_dx.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg6 : FVec F S1x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg6
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S4096x4096 .bf16) (main_arg1 : FVec F S8x1024x512 .bf16) (main_arg2 : FVec F S4096x1024 .f32) (main_arg3 : FVec F S4096x1024 .f32) (main_arg4 : FVec F S4096x1024 .f32) (main_arg5 : FVec F S1x1024 .f32) (main_arg6 : FVec F S1x1024 .f32) (main_arg7 : FVec F S1x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S8x1024x512 .f32 := (extf .f32 · bitsLt_bf16_f32) main_arg1
  let main_v6 : FVec F S8x1024x512 .f32 := Host.absf main_v5
  let main_cst_0 : FVec F S_ .f32 := constant S_ .f32 0x7F800000#32
  let main_v7 : FVec F S8x1024x512 .f32 := broadcastInDim S8x1024x512 ![] bcast_S_S8x1024x512 main_cst_0
  let main_v8 : IVec S8x1024x512 1 := cmpf .olt main_v6 main_v7
  let main_c_1 : IVec S_ 1 := constantI S_ 1 1#1
  let main_v9 : IVec S_ 1 := (fun x v => Host.reduce IntOp.andi x v reducesTo_S8x1024x512_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg5
  let main_cst_4 : FVec F S_ .f32 := constant S_ .f32 0x7F800000#32
  fn_part1 (F := F) main_arg6 main_v15 main_v16 main_cst_4
-- ==== Kernel.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .bf16⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S1024x4096 : Shape := ⟨2, ![1024, 4096]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S8x1024x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S1024x4096 : Shape := ⟨2, ![1024, 4096]⟩
abbrev S4096x4096 : Shape := ⟨2, ![4096, 4096]⟩
abbrev S_ : Shape := ⟨0, ![]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .bf16⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x8x512, .f32⟩
  | .hbm, ⟨11, _⟩ => ⟨S8x1024x512, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S8x1024x512 : Shape := ⟨3, ![8, 1024, 512]⟩
abbrev S4096x4096 : Shape := ⟨2, ![4096, 4096]⟩
abbrev S2048x1024 : Shape := ⟨2, ![2048, 1024]⟩
abbrev S1x1024x512 : Shape := ⟨3, ![1, 1024, 512]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S8x1024x512, .f32⟩
  | .hbm, ⟨3, _⟩ => ⟨S1024x8x512, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .bf16⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel10.lean ====
abbrev S4352x1024 : Shape := ⟨2, ![4352, 1024]⟩
abbrev S1024x1536 : Shape := ⟨2, ![1024, 1536]⟩
abbrev S4352x1536 : Shape := ⟨2, ![4352, 1536]⟩
abbrev S1088x1024 : Shape := ⟨2, ![1088, 1024]⟩
abbrev S1088x1536 : Shape := ⟨2, ![1088, 1536]⟩

abbrev nBuf : Space → Nat
  | .hbm => 4
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .f32⟩
  | .hbm, ⟨2, _⟩ => ⟨S1024x1536, .bf16⟩
  | .hbm, ⟨3, _⟩ => ⟨S4352x1536, .f32⟩
  | .local _ .vmem, ⟨0, _⟩ => ⟨S1088x1024, .bf16⟩
  | .local _ .vmem, ⟨1, _⟩ => ⟨S1088x1024, .bf16⟩
  | .local _ .vmem, ⟨2, _⟩ => ⟨S1024x1536, .bf16⟩
  | .local _ .vmem, ⟨3, _⟩ => ⟨S1088x1536, .f32⟩
  | .local _ .vmem, ⟨4, _⟩ => ⟨S1088x1536, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x1024 : Shape := ⟨2, ![4352, 1024]⟩
abbrev S1024x1536 : Shape := ⟨2, ![1024, 1536]⟩
abbrev S4352x1536 : Shape := ⟨2, ![4352, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .f32⟩
  | .hbm, ⟨2, _⟩ => ⟨S4352x1024, .f32⟩
  | .hbm, ⟨3, _⟩ => ⟨S4352x1536, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S1024x4352 : Shape := ⟨2, ![1024, 4352]⟩
abbrev S4352x1536 : Shape := ⟨2, ![4352, 1536]⟩
abbrev S1024x1536 : Shape := ⟨2, ![1024, 1536]⟩
abbrev S1024x2176 : Shape := ⟨2, ![1024, 2176]⟩
abbrev S2176x1536 : Shape := ⟨2, ![2176, 1536]⟩

abbrev nBuf : Space → Nat
  | .hbm => 3
  | .vmem => 6
  | .smem => 0
  | _ => 0

abbrev bufTy : (tb : Table) → Fin (tcTables nBuf tb) → BufTy
  | .hbm, ⟨0, _⟩ => ⟨S1024x4352, .bf16⟩
  | .hbm, ⟨1, _⟩ => ⟨S4352x1536, .bf16⟩
  | .hbm, ⟨2, _⟩ => ⟨S1024x1536, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1536, .bf16⟩
  | .local _ .vmem, ⟨3, _⟩ => ⟨S2176x1536, .bf16⟩
  | .local _ .vmem, ⟨4, _⟩ => ⟨S1024x1536, .bf16⟩
  | .local _ .vmem, ⟨5, _⟩ => ⟨S1024x1536, .f32⟩
  | _, _ => ⟨S1024x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S1024x4352 : Shape := ⟨2, ![1024, 4352]⟩
abbrev S4352x1536 : Shape := ⟨2, ![4352, 1536]⟩
abbrev S_ : Shape := ⟨0, ![]⟩
abbrev S1024x1536 : Shape := ⟨2, ![1024, 1536]⟩
abbrev S4352x1024 : Shape := ⟨2, ![4352, 1024]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4352, .bf16⟩
  | .hbm, ⟨1, _⟩ => ⟨S4352x1536, .bf16⟩
  | .hbm, ⟨2, _⟩ => ⟨S_, .f32⟩
  | .hbm, ⟨3, _⟩ => ⟨S1024x1536, .f32⟩
  | .hbm, ⟨4, _⟩ => ⟨S4352x1024, .bf16⟩
  | .hbm, ⟨5, _⟩ => ⟨S4352x1024, .f32⟩
  | .hbm, ⟨6, _⟩ => ⟨S4352x1536, .f32⟩
  | .hbm, ⟨7, _⟩ => ⟨S4352x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | _, _ => ⟨S1024x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4352x1536 : Shape := ⟨2, ![4352, 1536]⟩
abbrev S1024x1536 : Shape := ⟨2, ![1024, 1536]⟩
abbrev S256x1024 : Shape := ⟨2, ![256, 1024]⟩
abbrev S256x1536 : Shape := ⟨2, ![256, 1536]⟩

abbrev nBuf : Space → Nat
  | .hbm => 4
  | .vmem => 3
  | .smem => 0
  | _ => 0

abbrev bufTy : (tb : Table) → Fin (tcTables nBuf tb) → BufTy
  | .hbm, ⟨0, _⟩ => ⟨S4352x1536, .bf16⟩
  | .hbm, ⟨1, _⟩ => ⟨S1024x1536, .f32⟩
  | .hbm, ⟨2, _⟩ => ⟨S1024x1536, .bf16⟩
  | .hbm, ⟨3, _⟩ => ⟨S256x1024, .f32⟩
  | .local _ .vmem, ⟨0, _⟩ => ⟨S256x1536, .bf16⟩
  | .local _ .vmem, ⟨1, _⟩ => ⟨S1024x1536, .bf16⟩
  | .local _ .vmem, ⟨2, _⟩ => ⟨S256x1024, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4352x1536 : Shape := ⟨2, ![4352, 1536]⟩
abbrev S1024x1536 : Shape := ⟨2, ![1024, 1536]⟩
abbrev S_ : Shape := ⟨0, ![]⟩
abbrev S256x1024 : Shape := ⟨2, ![256, 1024]⟩
abbrev S256x1536 : Shape := ⟨2, ![256, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S1024x1536, .f32⟩
  | .hbm, ⟨2, _⟩ => ⟨S_, .f32⟩
  | .hbm, ⟨3, _⟩ => ⟨S256x1024, .f32⟩
  | .hbm, ⟨4, _⟩ => ⟨S256x1536, .f32⟩
  | .hbm, ⟨5, _⟩ => ⟨S256x1536, .bf16⟩
  | .hbm, ⟨6, _⟩ => ⟨S256x1536, .f32⟩
  | .hbm, ⟨7, _⟩ => ⟨S256x1024, .f32⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x512, .bf16⟩
  | .local _ .vmem, ⟨16, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference14Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel20.lean ====
abbrev S1024x768 : Shape := ⟨2, ![1024, 768]⟩
abbrev S1x1024x768 : Shape := ⟨3, ![1, 1024, 768]⟩
abbrev S128x768 : Shape := ⟨2, ![128, 768]⟩
abbrev S1x128x768 : Shape := ⟨3, ![1, 128, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S128x768, .f32⟩
  | .local _ .vmem, ⟨1, _⟩ => ⟨S128x768, .f32⟩
  | .local _ .vmem, ⟨2, _⟩ => ⟨S1x128x768, .f32⟩
  | .local _ .vmem, ⟨3, _⟩ => ⟨S1x128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1024x768 : Shape := ⟨2, ![1024, 768]⟩
abbrev S1x1024x768 : Shape := ⟨3, ![1, 1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1x1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x256x512, .f32⟩
  | .local _ .vmem, ⟨3, _⟩ => ⟨S8x256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .f32⟩
  | .local _ .vmem, ⟨3, _⟩ => ⟨S8x128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S64x512 : Shape := ⟨2, ![64, 512]⟩
abbrev S8x64x512 : Shape := ⟨3, ![8, 64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S64x512, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S64x512 : Shape := ⟨2, ![64, 512]⟩
abbrev S8x64x512 : Shape := ⟨3, ![8, 64, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S8x64x512, .f32⟩
  | .hbm, ⟨2, _⟩ => ⟨S64x512, .f32⟩
  | .hbm, ⟨3, _⟩ => ⟨S64x512, .f32⟩
  | .hbm, ⟨4, _⟩ => ⟨S_, .f32⟩
  | .hbm, ⟨5, _⟩ => ⟨S64x512, .f32⟩
  | .hbm, ⟨6, _⟩ => ⟨S_, .f32⟩
  | .hbm, ⟨7, _⟩ => ⟨S64x512, .f32⟩
  | .hbm, ⟨8, _⟩ => ⟨S64x512, .f32⟩
  | .hbm, ⟨9, _⟩ => ⟨S_, .f32⟩
  | .hbm, ⟨10, _⟩ => ⟨S64x512, .f32⟩
  | .hbm, ⟨11, _⟩ => ⟨S64x512, .f32⟩
  | .hbm, ⟨12, _⟩ => ⟨S64x512, .f32⟩
  | .hbm, ⟨13, _⟩ => ⟨S_, .f32⟩
  | .hbm, ⟨14, _⟩ => ⟨S64x512, .f32⟩
  | .hbm, ⟨15, _⟩ => ⟨S64x512, .f32⟩
  | .hbm, ⟨16, _⟩ => ⟨S64x512, .f32⟩
  | .hbm, ⟨17, _⟩ => ⟨S_, .f32⟩
  | .hbm, ⟨18, _⟩ => ⟨S64x512, .f32⟩
  | .hbm, ⟨19, _⟩ => ⟨S64x512, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S1024x192 : Shape := ⟨2, ![1024, 192]⟩
abbrev S8x1024x192 : Shape := ⟨3, ![8, 1024, 192]⟩
abbrev S512x192 : Shape := ⟨2, ![512, 192]⟩
abbrev S8x512x192 : Shape := ⟨3, ![8, 512, 192]⟩
abbrev S1x512x192 : Shape := ⟨3, ![1, 512, 192]⟩

abbrev nBuf : Space → Nat
  | .hbm => 8
  | .vmem => 16
  | .smem => 0
  | _ => 0

abbrev bufTy : (tb : Table) → Fin (tcTables nBuf tb) → BufTy
  | .hbm, ⟨0, _⟩ => ⟨S1024x192, .f32⟩
  | .hbm, ⟨1, _⟩ => ⟨S8x1024x192, .bf16⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S8x512x192, .bf16⟩
  | .local _ .vmem, ⟨3, _⟩ => ⟨S8x512x192, .bf16⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | .local _ .vmem, ⟨14, _⟩ => ⟨S512x192, .f32⟩
  | .local _ .vmem, ⟨15, _⟩ => ⟨S512x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x192 : Shape := ⟨2, ![1024, 192]⟩
abbrev S8x1024x192 : Shape := ⟨3, ![8, 1024, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S8x1024x192, .bf16⟩
  | .hbm, ⟨2, _⟩ => ⟨S1024x192, .f32⟩
  | .hbm, ⟨3, _⟩ => ⟨S1024x192, .f32⟩
  | .hbm, ⟨4, _⟩ => ⟨S8x1024x192, .f32⟩
  | .hbm, ⟨5, _⟩ => ⟨S_, .f32⟩
  | .hbm, ⟨6, _⟩ => ⟨S1024x192, .f32⟩
  | .hbm, ⟨7, _⟩ => ⟨S_, .f32⟩
  | .hbm, ⟨8, _⟩ => ⟨S1024x192, .f32⟩
  | .hbm, ⟨9, _⟩ => ⟨S1024x192, .f32⟩
  | .hbm, ⟨10, _⟩ => ⟨S_, .f32⟩
  | .hbm, ⟨11, _⟩ => ⟨S1024x192, .f32⟩
  | .hbm, ⟨12, _⟩ => ⟨S1024x192, .f32⟩
  | .hbm, ⟨13, _⟩ => ⟨S1024x192, .f32⟩
  | .hbm, ⟨14, _⟩ => ⟨S_, .f32⟩
  | .hbm, ⟨15, _⟩ => ⟨S1024x192, .f32⟩
  | .hbm, ⟨16, _⟩ => ⟨S1024x192, .f32⟩
  | .hbm, ⟨17, _⟩ => ⟨S1024x192, .f32⟩
  | .hbm, ⟨18, _⟩ => ⟨S_, .f32⟩
  | .hbm, ⟨19, _⟩ => ⟨S1024x192, .f32⟩
  | .hbm, ⟨20, _⟩ => ⟨S1024x192, .f32⟩
  | .hbm, ⟨21, _⟩ => ⟨S1024x192, .f32⟩
  | .hbm, ⟨22, _⟩ => ⟨S_, .f32⟩
  | .hbm, ⟨23, _⟩ => ⟨S1024x192, .f32⟩
  | .hbm, ⟨24, _⟩ => ⟨S1024x192, .f32⟩
  | .hbm, ⟨25, _⟩ => ⟨S_, .f32⟩
  | .hbm, ⟨26, _⟩ => ⟨S1024x192, .f32⟩
  | .hbm, ⟨27, _⟩ => ⟨S1024x192, .f32⟩
  | .hbm, ⟨28, _⟩ => ⟨S1024x192, .f32⟩
  | .hbm, ⟨29, _⟩ => ⟨S_, .f32⟩
  | .hbm, ⟨30, _⟩ => ⟨S1024x192, .f32⟩
  | .hbm, ⟨31, _⟩ => ⟨S1024x192, .f32⟩
  | .hbm, ⟨32, _⟩ => ⟨S1024x192, .f32⟩
  | .hbm, ⟨33, _⟩ => ⟨S_, .f32⟩
  | .hbm, ⟨34, _⟩ => ⟨S1024x192, .f32⟩
  | .hbm, ⟨35, _⟩ => ⟨S1024x192, .f32⟩
  | .hbm, ⟨36, _⟩ => ⟨S1024x192, .f32⟩
  | .hbm, ⟨37, _⟩ => ⟨S_, .f32⟩
  | .hbm, ⟨38, _⟩ => ⟨S1024x192, .f32⟩
  | .hbm, ⟨39, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S31x64 : Shape := ⟨2, ![31, 64]⟩
abbrev S8x31x64 : Shape := ⟨3, ![8, 31, 64]⟩
abbrev S1x31x64 : Shape := ⟨3, ![1, 31, 64]⟩

abbrev nBuf : Space → Nat
  | .hbm => 8
  | .vmem => 8
  | .smem => 0
  | _ => 0

abbrev bufTy : (tb : Table) → Fin (tcTables nBuf tb) → BufTy
  | .hbm, ⟨0, _⟩ => ⟨S31x64, .f32⟩
  | .hbm, ⟨1, _⟩ => ⟨S8x31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .local _ .vmem, ⟨0, _⟩ => ⟨S31x64, .f32⟩
  | .local _ .vmem, ⟨1, _⟩ => ⟨S8x31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | .local _ .vmem, ⟨7, _⟩ => ⟨S31x64, .f32⟩
  | _, _ => ⟨S31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S31x64 : Shape := ⟨2, ![31, 64]⟩
abbrev S8x31x64 : Shape := ⟨3, ![8, 31, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S31x64, .f32⟩
  | .hbm, ⟨1, _⟩ => ⟨S8x31x64, .f32⟩
  | .hbm, ⟨2, _⟩ => ⟨S31x64, .f32⟩
  | .hbm, ⟨3, _⟩ => ⟨S31x64, .f32⟩
  | .hbm, ⟨4, _⟩ => ⟨S_, .f32⟩
  | .hbm, ⟨5, _⟩ => ⟨S31x64, .f32⟩
  | .hbm, ⟨6, _⟩ => ⟨S_, .f32⟩
  | .hbm, ⟨7, _⟩ => ⟨S31x64, .f32⟩
  | .hbm, ⟨8, _⟩ => ⟨S31x64, .f32⟩
  | .hbm, ⟨9, _⟩ => ⟨S_, .f32⟩
  | .hbm, ⟨10, _⟩ => ⟨S31x64, .f32⟩
  | .hbm, ⟨11, _⟩ => ⟨S31x64, .f32⟩
  | .hbm, ⟨12, _⟩ => ⟨S31x64, .f32⟩
  | .hbm, ⟨13, _⟩ => ⟨S_, .f32⟩
  | .hbm, ⟨14, _⟩ => ⟨S31x64, .f32⟩
  | .hbm, ⟨15, _⟩ => ⟨S31x64, .f32⟩
  | .hbm, ⟨16, _⟩ => ⟨S31x64, .f32⟩
  | .hbm, ⟨17, _⟩ => ⟨S_, .f32⟩
  | .hbm, ⟨18, _⟩ => ⟨S31x64, .f32⟩
  | .hbm, ⟨19, _⟩ => ⟨S31x64, .f32⟩
  | .hbm, ⟨20, _⟩ => ⟨S31x64, .f32⟩
  | .hbm, ⟨21, _⟩ => ⟨S_, .f32⟩
  | .hbm, ⟨22, _⟩ => ⟨S31x64, .f32⟩
  | .hbm, ⟨23, _⟩ => ⟨S31x64, .f32⟩
  | .hbm, ⟨24, _⟩ => ⟨S_, .f32⟩
  | .hbm, ⟨25, _⟩ => ⟨S31x64, .f32⟩
  | .hbm, ⟨26, _⟩ => ⟨S31x64, .f32⟩
  | .hbm, ⟨27, _⟩ => ⟨S31x64, .f32⟩
  | .hbm, ⟨28, _⟩ => ⟨S_, .f32⟩
  | .hbm, ⟨29, _⟩ => ⟨S31x64, .f32⟩
  | .hbm, ⟨30, _⟩ => ⟨S31x64, .f32⟩
  | .hbm, ⟨31, _⟩ => ⟨S31x64, .f32⟩
  | .hbm, ⟨32, _⟩ => ⟨S_, .f32⟩
  | .hbm, ⟨33, _⟩ => ⟨S31x64, .f32⟩
  | .hbm, ⟨34, _⟩ => ⟨S31x64, .f32⟩
  | .hbm, ⟨35, _⟩ => ⟨S31x64, .f32⟩
  | .hbm, ⟨36, _⟩ => ⟨S_, .f32⟩
  | .hbm, ⟨37, _⟩ => ⟨S31x64, .f32⟩
  | .hbm, ⟨38, _⟩ => ⟨S31x64, .f32⟩
  | _, _ => ⟨S31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S24x1024 : Shape := ⟨2, ![24, 1024]⟩
abbrev S1x320x1024 : Shape := ⟨3, ![1, 320, 1024]⟩
abbrev S8x1024 : Shape := ⟨2, ![8, 1024]⟩
abbrev S1x8x1024 : Shape := ⟨3, ![1, 8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S24x1024, .f32⟩
  | .hbm, ⟨1, _⟩ => ⟨S1x320x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x1024, .f32⟩
  | .local _ .vmem, ⟨1, _⟩ => ⟨S8x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S24x1024 : Shape := ⟨2, ![24, 1024]⟩
abbrev S1x320x1024 : Shape := ⟨3, ![1, 320, 1024]⟩
abbrev S1x24x1024 : Shape := ⟨3, ![1, 24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S1x320x1024, .f32⟩
  | .hbm, ⟨2, _⟩ => ⟨S24x1024, .f32⟩
  | .hbm, ⟨3, _⟩ => ⟨S24x1024, .f32⟩
  | .hbm, ⟨4, _⟩ => ⟨S1x24x1024, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel28.lean ====
abbrev S1x2x32x64x16 : Shape := ⟨5, ![1, 2, 32, 64, 16]⟩
abbrev S1x2x32x16x64 : Shape := ⟨5, ![1, 2, 32, 16, 64]⟩

abbrev nBuf : Space → Nat
  | .hbm => 13
  | .vmem => 7
  | .smem => 0
  | _ => 0

abbrev bufTy : (tb : Table) → Fin (tcTables nBuf tb) → BufTy
  | .hbm, ⟨0, _⟩ => ⟨S1x2x32x64x16, .f32⟩
  | .hbm, ⟨1, _⟩ => ⟨S1x2x32x16x64, .f32⟩
  | .hbm, ⟨2, _⟩ => ⟨S1x2x32x64x16, .f32⟩
  | .hbm, ⟨3, _⟩ => ⟨S1x2x32x64x16, .f32⟩
  | .hbm, ⟨4, _⟩ => ⟨S1x2x32x16x64, .f32⟩
  | .hbm, ⟨5, _⟩ => ⟨S1x2x32x16x64, .f32⟩
  | .hbm, ⟨6, _⟩ => ⟨S1x2x32x16x64, .f32⟩
  | .hbm, ⟨7, _⟩ => ⟨S1x2x32x16x64, .f32⟩
  | .hbm, ⟨8, _⟩ => ⟨S1x2x32x16x64, .f32⟩
  | .hbm, ⟨9, _⟩ => ⟨S1x2x32x16x64, .f32⟩
  | .hbm, ⟨10, _⟩ => ⟨S1x2x32x64x16, .f32⟩
  | .hbm, ⟨11, _⟩ => ⟨S1x2x32x64x16, .f32⟩
  | .hbm, ⟨12, _⟩ => ⟨S1x2x32x64x16, .f32⟩
  | .local _ .vmem, ⟨0, _⟩ => ⟨S1x2x32x16x64, .f32⟩
  | .local _ .vmem, ⟨1, _⟩ => ⟨S1x2x32x16x64, .f32⟩
  | .local _ .vmem, ⟨2, _⟩ => ⟨S1x2x32x16x64, .f32⟩
  | .local _ .vmem, ⟨3, _⟩ => ⟨S1x2x32x16x64, .f32⟩
  | .local _ .vmem, ⟨4, _⟩ => ⟨S1x2x32x16x64, .f32⟩
  | .local _ .vmem, ⟨5, _⟩ => ⟨S1x2x32x16x64, .f32⟩
  | .local _ .vmem, ⟨6, _⟩ => ⟨S1x2x32x16x64, .f32⟩
  | _, _ => ⟨S1x2x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2x32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2x32x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2x32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2x32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2x32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference28Ideal.lean ====
abbrev S1x2x32x64x16 : Shape := ⟨5, ![1, 2, 32, 64, 16]⟩
abbrev S1x2x32x16x64 : Shape := ⟨5, ![1, 2, 32, 16, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2x32x64x16, .f32⟩
  | .hbm, ⟨1, _⟩ => ⟨S1x2x32x16x64, .f32⟩
  | .hbm, ⟨2, _⟩ => ⟨S1x2x32x64x16, .f32⟩
  | .hbm, ⟨3, _⟩ => ⟨S1x2x32x64x16, .f32⟩
  | .hbm, ⟨4, _⟩ => ⟨S1x2x32x64x16, .f32⟩
  | .hbm, ⟨5, _⟩ => ⟨S_, .f32⟩
  | .hbm, ⟨6, _⟩ => ⟨S1x2x32x64x16, .f32⟩
  | .hbm, ⟨7, _⟩ => ⟨S1x2x32x64x16, .f32⟩
  | .hbm, ⟨8, _⟩ => ⟨S_, .f32⟩
  | .hbm, ⟨9, _⟩ => ⟨S1x2x32x64x16, .f32⟩
  | .hbm, ⟨10, _⟩ => ⟨S1x2x32x64x16, .f32⟩
  | .hbm, ⟨11, _⟩ => ⟨S1x2x32x64x16, .f32⟩
  | .hbm, ⟨12, _⟩ => ⟨S_, .f32⟩
  | .hbm, ⟨13, _⟩ => ⟨S1x2x32x64x16, .f32⟩
  | .hbm, ⟨14, _⟩ => ⟨S1x2x32x64x16, .f32⟩
  | .hbm, ⟨15, _⟩ => ⟨S1x2x32x64x16, .f32⟩
  | .hbm, ⟨16, _⟩ => ⟨S_, .f32⟩
  | .hbm, ⟨17, _⟩ => ⟨S1x2x32x64x16, .f32⟩
  | .hbm, ⟨18, _⟩ => ⟨S1x2x32x64x16, .f32⟩
  | .hbm, ⟨19, _⟩ => ⟨S1x2x32x64x16, .f32⟩
  | .hbm, ⟨20, _⟩ => ⟨S_, .f32⟩
  | .hbm, ⟨21, _⟩ => ⟨S1x2x32x64x16, .f32⟩
  | .hbm, ⟨22, _⟩ => ⟨S1x2x32x64x16, .f32⟩
  | .hbm, ⟨23, _⟩ => ⟨S_, .f32⟩
  | .hbm, ⟨24, _⟩ => ⟨S1x2x32x64x16, .f32⟩
  | .hbm, ⟨25, _⟩ => ⟨S1x2x32x64x16, .f32⟩
  | .hbm, ⟨26, _⟩ => ⟨S1x2x32x64x16, .f32⟩
  | .hbm, ⟨27, _⟩ => ⟨S_, .f32⟩
  | .hbm, ⟨28, _⟩ => ⟨S1x2x32x64x16, .f32⟩
  | .hbm, ⟨29, _⟩ => ⟨S1x2x32x64x16, .f32⟩
  | .hbm, ⟨30, _⟩ => ⟨S1x2x32x64x16, .f32⟩
  | .hbm, ⟨31, _⟩ => ⟨S_, .f32⟩
  | .hbm, ⟨32, _⟩ => ⟨S1x2x32x64x16, .f32⟩
  | .hbm, ⟨33, _⟩ => ⟨S1x2x32x64x16, .f32⟩
  | .hbm, ⟨34, _⟩ => ⟨S1x2x32x64x16, .f32⟩
  | .hbm, ⟨35, _⟩ => ⟨S_, .f32⟩
  | .hbm, ⟨36, _⟩ => ⟨S1x2x32x64x16, .f32⟩
  | .hbm, ⟨37, _⟩ => ⟨S1x2x32x64x16, .f32⟩
  | _, _ => ⟨S1x2x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel29.lean ====
abbrev S1x2x32x16x64 : Shape := ⟨5, ![1, 2, 32, 16, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x2x32x16x64, .f32⟩
  | .hbm, ⟨1, _⟩ => ⟨S1x2x32x16x64, .f32⟩
  | .hbm, ⟨2, _⟩ => ⟨S1x2x32x16x64, .f32⟩
  | .hbm, ⟨3, _⟩ => ⟨S1x2x32x16x64, .f32⟩
  | .hbm, ⟨4, _⟩ => ⟨S1x2x32x16x64, .f32⟩
  | .hbm, ⟨5, _⟩ => ⟨S1x2x32x16x64, .f32⟩
  | .hbm, ⟨6, _⟩ => ⟨S1x2x32x16x64, .f32⟩
  | .local _ .vmem, ⟨0, _⟩ => ⟨S1x2x32x16x64, .f32⟩
  | .local _ .vmem, ⟨1, _⟩ => ⟨S1x2x32x16x64, .f32⟩
  | .local _ .vmem, ⟨2, _⟩ => ⟨S1x2x32x16x64, .f32⟩
  | .local _ .vmem, ⟨3, _⟩ => ⟨S1x2x32x16x64, .f32⟩
  | .local _ .vmem, ⟨4, _⟩ => ⟨S1x2x32x16x64, .f32⟩
  | .local _ .vmem, ⟨5, _⟩ => ⟨S1x2x32x16x64, .f32⟩
  | .local _ .vmem, ⟨6, _⟩ => ⟨S1x2x32x16x64, .f32⟩
  | _, _ => ⟨S1x2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2x32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2x32x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2x32x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2x32x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2x32x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference29Ideal.lean ====
abbrev S1x2x32x16x64 : Shape := ⟨5, ![1, 2, 32, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x32x16x64, .f32⟩
  | .hbm, ⟨1, _⟩ => ⟨S1x2x32x16x64, .f32⟩
  | .hbm, ⟨2, _⟩ => ⟨S1x2x32x16x64, .f32⟩
  | .hbm, ⟨3, _⟩ => ⟨S1x2x32x16x64, .f32⟩
  | .hbm, ⟨4, _⟩ => ⟨S_, .f32⟩
  | .hbm, ⟨5, _⟩ => ⟨S1x2x32x16x64, .f32⟩
  | .hbm, ⟨6, _⟩ => ⟨S1x2x32x16x64, .f32⟩
  | .hbm, ⟨7, _⟩ => ⟨S_, .f32⟩
  | .hbm, ⟨8, _⟩ => ⟨S1x2x32x16x64, .f32⟩
  | .hbm, ⟨9, _⟩ => ⟨S1x2x32x16x64, .f32⟩
  | .hbm, ⟨10, _⟩ => ⟨S1x2x32x16x64, .f32⟩
  | .hbm, ⟨11, _⟩ => ⟨S_, .f32⟩
  | .hbm, ⟨12, _⟩ => ⟨S1x2x32x16x64, .f32⟩
  | .hbm, ⟨13, _⟩ => ⟨S1x2x32x16x64, .f32⟩
  | .hbm, ⟨14, _⟩ => ⟨S1x2x32x16x64, .f32⟩
  | .hbm, ⟨15, _⟩ => ⟨S_, .f32⟩
  | .hbm, ⟨16, _⟩ => ⟨S1x2x32x16x64, .f32⟩
  | .hbm, ⟨17, _⟩ => ⟨S1x2x32x16x64, .f32⟩
  | .hbm, ⟨18, _⟩ => ⟨S1x2x32x16x64, .f32⟩
  | .hbm, ⟨19, _⟩ => ⟨S_, .f32⟩
  | .hbm, ⟨20, _⟩ => ⟨S1x2x32x16x64, .f32⟩
  | .hbm, ⟨21, _⟩ => ⟨S1x2x32x16x64, .f32⟩
  | .hbm, ⟨22, _⟩ => ⟨S_, .f32⟩
  | .hbm, ⟨23, _⟩ => ⟨S1x2x32x16x64, .f32⟩
  | .hbm, ⟨24, _⟩ => ⟨S1x2x32x16x64, .f32⟩
  | .hbm, ⟨25, _⟩ => ⟨S1x2x32x16x64, .f32⟩
  | .hbm, ⟨26, _⟩ => ⟨S_, .f32⟩
  | .hbm, ⟨27, _⟩ => ⟨S1x2x32x16x64, .f32⟩
  | .hbm, ⟨28, _⟩ => ⟨S1x2x32x16x64, .f32⟩
  | .hbm, ⟨29, _⟩ => ⟨S1x2x32x16x64, .f32⟩
  | .hbm, ⟨30, _⟩ => ⟨S_, .f32⟩
  | .hbm, ⟨31, _⟩ => ⟨S1x2x32x16x64, .f32⟩
  | .hbm, ⟨32, _⟩ => ⟨S1x2x32x16x64, .f32⟩
  | .hbm, ⟨33, _⟩ => ⟨S1x2x32x16x64, .f32⟩
  | .hbm, ⟨34, _⟩ => ⟨S_, .f32⟩
  | .hbm, ⟨35, _⟩ => ⟨S1x2x32x16x64, .f32⟩
  | .hbm, ⟨36, _⟩ => ⟨S1x2x32x16x64, .f32⟩
  | _, _ => ⟨S1x2x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference30Ideal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference31Ideal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel33.lean ====
abbrev S256x1024 : Shape := ⟨2, ![256, 1024]⟩
abbrev S1x1024 : Shape := ⟨2, ![1, 1024]⟩
abbrev S4x8x1024 : Shape := ⟨3, ![4, 8, 1024]⟩
abbrev S256 : Shape := ⟨1, ![256]⟩
abbrev S256x1 : Shape := ⟨2, ![256, 1]⟩
abbrev S1x8x1024 : Shape := ⟨3, ![1, 8, 1024]⟩
abbrev S8x1024 : Shape := ⟨2, ![8, 1024]⟩
abbrev S32x8x1024 : Shape := ⟨3, ![32, 8, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S4x8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S4x8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference33Ideal.lean ====
abbrev S256x1024 : Shape := ⟨2, ![256, 1024]⟩
abbrev S1x1024 : Shape := ⟨2, ![1, 1024]⟩
abbrev S8x1024 : Shape := ⟨2, ![8, 1024]⟩
abbrev S_ : Shape := ⟨0, ![]⟩
abbrev S1024 : Shape := ⟨1, ![1024]⟩
abbrev S256 : Shape := ⟨1, ![256]⟩
abbrev S256x1 : Shape := ⟨2, ![256, 1]⟩
abbrev S32x8x1024 : Shape := ⟨3, ![32, 8, 1024]⟩
abbrev S1x8x1024 : Shape := ⟨3, ![1, 8, 1024]⟩
abbrev S4x8x1024 : Shape := ⟨3, ![4, 8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S32x8x1024, .f32⟩
  | .hbm, ⟨27, _⟩ => ⟨S1x8x1024, .f32⟩
  | .hbm, ⟨28, _⟩ => ⟨S32x8x1024, .f32⟩
  | .hbm, ⟨29, _⟩ => ⟨S32x8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S1x8x1024, .f32⟩
  | .hbm, ⟨34, _⟩ => ⟨S32x8x1024, .f32⟩
  | .hbm, ⟨35, _⟩ => ⟨S32x8x1024, .f32⟩
  | .hbm, ⟨36, _⟩ => ⟨S1x8x1024, .f32⟩
  | .hbm, ⟨37, _⟩ => ⟨S32x8x1024, .f32⟩
  | .hbm, ⟨38, _⟩ => ⟨S32x8x1024, .f32⟩
  | .hbm, ⟨39, _⟩ => ⟨S32x8x1024, .f32⟩
  | .hbm, ⟨40, _⟩ => ⟨S_, .f32⟩
  | .hbm, ⟨41, _⟩ => ⟨S8x1024, .f32⟩
  | .hbm, ⟨42, _⟩ => ⟨S1x8x1024, .f32⟩
  | .hbm, ⟨43, _⟩ => ⟨S_, .f32⟩
  | .hbm, ⟨44, _⟩ => ⟨S8x1024, .f32⟩
  | .hbm, ⟨45, _⟩ => ⟨S32x8x1024, .f32⟩
  | .hbm, ⟨46, _⟩ => ⟨S_, .f32⟩
  | .hbm, ⟨47, _⟩ => ⟨S8x1024, .f32⟩
  | .hbm, ⟨48, _⟩ => ⟨S1x8x1024, .f32⟩
  | .hbm, ⟨49, _⟩ => ⟨S32x8x1024, .f32⟩
  | .hbm, ⟨50, _⟩ => ⟨S32x8x1024, .f32⟩
  | .hbm, ⟨51, _⟩ => ⟨S_, .f32⟩
  | .hbm, ⟨52, _⟩ => ⟨S8x1024, .f32⟩
  | .hbm, ⟨53, _⟩ => ⟨S32x8x1024, .f32⟩
  | .hbm, ⟨54, _⟩ => ⟨S_, .f32⟩
  | .hbm, ⟨55, _⟩ => ⟨S8x1024, .f32⟩
  | .hbm, ⟨56, _⟩ => ⟨S1x8x1024, .f32⟩
  | .hbm, ⟨57, _⟩ => ⟨S_, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S1x8x1024, .f32⟩
  | .hbm, ⟨62, _⟩ => ⟨S1x8x1024, .f32⟩
  | .hbm, ⟨63, _⟩ => ⟨S1x8x1024, .f32⟩
  | .hbm, ⟨64, _⟩ => ⟨S1x8x1024, .f32⟩
  | .hbm, ⟨65, _⟩ => ⟨S4x8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel34.lean ====
abbrev S4096x1024 : Shape := ⟨2, ![4096, 1024]⟩
abbrev S256x1024 : Shape := ⟨2, ![256, 1024]⟩
abbrev S1x1024 : Shape := ⟨2, ![1, 1024]⟩
abbrev S2x2x1024 : Shape := ⟨3, ![2, 2, 1024]⟩
abbrev S4352x1024 : Shape := ⟨2, ![4352, 1024]⟩
abbrev S1024x4352 : Shape := ⟨2, ![1024, 4352]⟩
abbrev S1x2x1024 : Shape := ⟨3, ![1, 2, 1024]⟩
abbrev S1024x256 : Shape := ⟨2, ![1024, 256]⟩
abbrev S256 : Shape := ⟨1, ![256]⟩
abbrev S256x1 : Shape := ⟨2, ![256, 1]⟩
abbrev S1x1x1024 : Shape := ⟨3, ![1, 1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1x1024, .f32⟩
  | .hbm, ⟨3, _⟩ => ⟨S2x2x1024, .f32⟩
  | .hbm, ⟨4, _⟩ => ⟨S4352x1024, .bf16⟩
  | .hbm, ⟨5, _⟩ => ⟨S1024x4352, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x2x1024, .f32⟩
  | .local _ .vmem, ⟨6, _⟩ => ⟨S1x2x1024, .f32⟩
  | .local _ .vmem, ⟨7, _⟩ => ⟨S256x1024, .bf16⟩
  | .local _ .vmem, ⟨8, _⟩ => ⟨S256x1024, .bf16⟩
  | .local _ .vmem, ⟨9, _⟩ => ⟨S1024x256, .bf16⟩
  | .local _ .vmem, ⟨10, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference34Ideal.lean ====
abbrev S4096x1024 : Shape := ⟨2, ![4096, 1024]⟩
abbrev S256x1024 : Shape := ⟨2, ![256, 1024]⟩
abbrev S1x1024 : Shape := ⟨2, ![1, 1024]⟩
abbrev S2x2x1024 : Shape := ⟨3, ![2, 2, 1024]⟩
abbrev S1x2x1024 : Shape := ⟨3, ![1, 2, 1024]⟩
abbrev S2x1024 : Shape := ⟨2, ![2, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x1024 : Shape := ⟨2, ![4352, 1024]⟩
abbrev S1024x4352 : Shape := ⟨2, ![1024, 4352]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1x1024, .f32⟩
  | .hbm, ⟨3, _⟩ => ⟨S2x2x1024, .f32⟩
  | .hbm, ⟨4, _⟩ => ⟨S1x2x1024, .f32⟩
  | .hbm, ⟨5, _⟩ => ⟨S2x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x2x1024, .f32⟩
  | .hbm, ⟨31, _⟩ => ⟨S2x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S4352x1024, .f32⟩
  | .hbm, ⟨57, _⟩ => ⟨S4352x1024, .bf16⟩
  | .hbm, ⟨58, _⟩ => ⟨S1024x4352, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel2.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S8x8x1024 : Shape := ⟨3, ![8, 8, 1024]⟩
abbrev S512x2048 : Shape := ⟨2, ![512, 2048]⟩
abbrev S4x1024x512 : Shape := ⟨3, ![4, 1024, 512]⟩
abbrev S512x1024 : Shape := ⟨2, ![512, 1024]⟩
abbrev S1x8x1024 : Shape := ⟨3, ![1, 8, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S64x8x1024 : Shape := ⟨3, ![64, 8, 1024]⟩
abbrev S8x1024 : Shape := ⟨2, ![8, 1024]⟩

abbrev nBuf : Space → Nat
  | .hbm => 14
  | .vmem => 26
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S8x8x1024, .f32⟩
  | .hbm, ⟨11, _⟩ => ⟨S8x8x1024, .f32⟩
  | .hbm, ⟨12, _⟩ => ⟨S8x8x1024, .f32⟩
  | .hbm, ⟨13, _⟩ => ⟨S8x8x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x8x1024, .f32⟩
  | .local _ .vmem, ⟨25, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]
-- ==== Reference2Ideal.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S1024x8x512 : Shape := ⟨3, ![1024, 8, 512]⟩
abbrev S1024x4096 : Shape := ⟨2, ![1024, 4096]⟩
abbrev S1024 : Shape := ⟨1, ![1024]⟩
abbrev S8x8x1024 : Shape := ⟨3, ![8, 8, 1024]⟩
abbrev S_ : Shape := ⟨0, ![]⟩
abbrev S4096 : Shape := ⟨1, ![4096]⟩
abbrev S4096x1 : Shape := ⟨2, ![4096, 1]⟩
abbrev S8x64x8x1024 : Shape := ⟨4, ![8, 64, 8, 1024]⟩
abbrev S8x1x8x1024 : Shape := ⟨4, ![8, 1, 8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x1024x512, .f32⟩
  | .hbm, ⟨9, _⟩ => ⟨S1024x8x512, .f32⟩
  | .hbm, ⟨10, _⟩ => ⟨S1024x4096, .f32⟩
  | .hbm, ⟨11, _⟩ => ⟨S1024, .f32⟩
  | .hbm, ⟨12, _⟩ => ⟨S8x8x1024, .f32⟩
  | .hbm, ⟨13, _⟩ => ⟨S_, .f32⟩
  | .hbm, ⟨14, _⟩ => ⟨S8x8x1024, .f32⟩
  | .hbm, ⟨15, _⟩ => ⟨S1024, .f32⟩
  | .hbm, ⟨16, _⟩ => ⟨S8x8x1024, .f32⟩
  | .hbm, ⟨17, _⟩ => ⟨S_, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S8x64x8x1024, .f32⟩
  | .hbm, ⟨40, _⟩ => ⟨S8x1x8x1024, .f32⟩
  | .hbm, ⟨41, _⟩ => ⟨S8x64x8x1024, .f32⟩
  | .hbm, ⟨42, _⟩ => ⟨S8x64x8x1024, .f32⟩
  | .hbm, ⟨43, _⟩ => ⟨S8x1x8x1024, .f32⟩
  | .hbm, ⟨44, _⟩ => ⟨S8x1x8x1024, .f32⟩
  | .hbm, ⟨45, _⟩ => ⟨S_, .f32⟩
  | .hbm, ⟨46, _⟩ => ⟨S8x1x8x1024, .f32⟩
  | .hbm, ⟨47, _⟩ => ⟨S8x1x8x1024, .f32⟩
  | .hbm, ⟨48, _⟩ => ⟨S8x64x8x1024, .f32⟩
  | .hbm, ⟨49, _⟩ => ⟨S8x64x8x1024, .f32⟩
  | .hbm, ⟨50, _⟩ => ⟨S8x64x8x1024, .f32⟩
  | .hbm, ⟨51, _⟩ => ⟨S8x64x8x1024, .f32⟩
  | .hbm, ⟨52, _⟩ => ⟨S4096x1024, .f32⟩
  | .hbm, ⟨53, _⟩ => ⟨S4096x4096, .f32⟩
  | .hbm, ⟨54, _⟩ => ⟨S4096x4096, .f32⟩
  | .hbm, ⟨55, _⟩ => ⟨S4096x1024, .f32⟩
  | .hbm, ⟨56, _⟩ => ⟨S8x64x8x1024, .f32⟩
  | .hbm, ⟨57, _⟩ => ⟨S_, .f32⟩
  | .hbm, ⟨58, _⟩ => ⟨S8x8x1024, .f32⟩
  | .hbm, ⟨59, _⟩ => ⟨S8x1x8x1024, .f32⟩
  | .hbm, ⟨60, _⟩ => ⟨S8x64x8x1024, .f32⟩
  | .hbm, ⟨61, _⟩ => ⟨S_, .f32⟩
  | .hbm, ⟨62, _⟩ => ⟨S8x8x1024, .f32⟩
  | .hbm, ⟨63, _⟩ => ⟨S8x1x8x1024, .f32⟩
  | .hbm, ⟨64, _⟩ => ⟨S8x64x8x1024, .f32⟩
  | .hbm, ⟨65, _⟩ => ⟨S8x64x8x1024, .f32⟩
  | .hbm, ⟨66, _⟩ => ⟨S_, .f32⟩
  | .hbm, ⟨67, _⟩ => ⟨S8x8x1024, .f32⟩
  | .hbm, ⟨68, _⟩ => ⟨S_, .f32⟩
  | .hbm, ⟨69, _⟩ => ⟨S8x8x1024, .f32⟩
  | .hbm, ⟨70, _⟩ => ⟨S8x64x8x1024, .f32⟩
  | .hbm, ⟨71, _⟩ => ⟨S_, .f32⟩
  | .hbm, ⟨72, _⟩ => ⟨S8x8x1024, .f32⟩
  | .hbm, ⟨73, _⟩ => ⟨S8x1x8x1024, .f32⟩
  | .hbm, ⟨74, _⟩ => ⟨S8x64x8x1024, .f32⟩
  | .hbm, ⟨75, _⟩ => ⟨S8x64x8x1024, .f32⟩
  | .hbm, ⟨76, _⟩ => ⟨S_, .f32⟩
  | .hbm, ⟨77, _⟩ => ⟨S8x8x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S8x8x1024, .f32⟩
  | .hbm, ⟨101, _⟩ => ⟨S8x64x8x1024, .f32⟩
  | .hbm, ⟨102, _⟩ => ⟨S8x1x8x1024, .f32⟩
  | .hbm, ⟨103, _⟩ => ⟨S8x64x8x1024, .f32⟩
  | .hbm, ⟨104, _⟩ => ⟨S8x64x8x1024, .f32⟩
  | .hbm, ⟨105, _⟩ => ⟨S8x64x8x1024, .f32⟩
  | .hbm, ⟨106, _⟩ => ⟨S8x64x8x1024, .f32⟩
  | .hbm, ⟨107, _⟩ => ⟨S_, .f32⟩
  | .hbm, ⟨108, _⟩ => ⟨S8x8x1024, .f32⟩
  | .hbm, ⟨109, _⟩ => ⟨S8x1x8x1024, .f32⟩
  | .hbm, ⟨110, _⟩ => ⟨S_, .f32⟩
  | .hbm, ⟨111, _⟩ => ⟨S8x8x1024, .f32⟩
  | .hbm, ⟨112, _⟩ => ⟨S4096x1024, .f32⟩
  | .hbm, ⟨113, _⟩ => ⟨S4096x1024, .f32⟩
  | .hbm, ⟨114, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Kernel13.lean ====
abbrev S4352x1536 : Shape := ⟨2, ![4352, 1536]⟩
abbrev S1024x1536 : Shape := ⟨2, ![1024, 1536]⟩
abbrev S4096x1024 : Shape := ⟨2, ![4096, 1024]⟩
abbrev S1x1024 : Shape := ⟨2, ![1, 1024]⟩
abbrev S8x8x1024 : Shape := ⟨3, ![8, 8, 1024]⟩
abbrev S512x1536 : Shape := ⟨2, ![512, 1536]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S64x8x1024 : Shape := ⟨3, ![64, 8, 1024]⟩
abbrev S8x1024 : Shape := ⟨2, ![8, 1024]⟩

abbrev nBuf : Space → Nat
  | .hbm => 13
  | .vmem => 21
  | .smem => 0
  | _ => 0

abbrev bufTy : (tb : Table) → Fin (tcTables nBuf tb) → BufTy
  | .hbm, ⟨0, _⟩ => ⟨S4352x1536, .bf16⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x1536, .bf16⟩
  | .hbm, ⟨8, _⟩ => ⟨S4096x1024, .f32⟩
  | .hbm, ⟨9, _⟩ => ⟨S8x8x1024, .f32⟩
  | .hbm, ⟨10, _⟩ => ⟨S8x8x1024, .f32⟩
  | .hbm, ⟨11, _⟩ => ⟨S8x8x1024, .f32⟩
  | .hbm, ⟨12, _⟩ => ⟨S8x8x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x8x1024, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== Reference13Ideal.lean ====
abbrev S4352x1536 : Shape := ⟨2, ![4352, 1536]⟩
abbrev S1024x1536 : Shape := ⟨2, ![1024, 1536]⟩
abbrev S4096x1024 : Shape := ⟨2, ![4096, 1024]⟩
abbrev S1x1024 : Shape := ⟨2, ![1, 1024]⟩
abbrev S1024 : Shape := ⟨1, ![1024]⟩
abbrev S8x8x1024 : Shape := ⟨3, ![8, 8, 1024]⟩
abbrev S_ : Shape := ⟨0, ![]⟩
abbrev S4096 : Shape := ⟨1, ![4096]⟩
abbrev S4096x1 : Shape := ⟨2, ![4096, 1]⟩
abbrev S8x64x8x1024 : Shape := ⟨4, ![8, 64, 8, 1024]⟩
abbrev S8x1x8x1024 : Shape := ⟨4, ![8, 1, 8, 1024]⟩
abbrev S4096x1536 : Shape := ⟨2, ![4096, 1536]⟩

abbrev nBuf : Space → Nat
  | .hbm => 109
  | .vmem => 0
  | .smem => 0
  | _ => 0

abbrev bufTy : (tb : Table) → Fin (tcTables nBuf tb) → BufTy
  | .hbm, ⟨0, _⟩ => ⟨S4352x1536, .bf16⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S8x8x1024, .f32⟩
  | .hbm, ⟨9, _⟩ => ⟨S_, .f32⟩
  | .hbm, ⟨10, _⟩ => ⟨S8x8x1024, .f32⟩
  | .hbm, ⟨11, _⟩ => ⟨S1024, .f32⟩
  | .hbm, ⟨12, _⟩ => ⟨S8x8x1024, .f32⟩
  | .hbm, ⟨13, _⟩ => ⟨S_, .f32⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S8x64x8x1024, .f32⟩
  | .hbm, ⟨36, _⟩ => ⟨S8x1x8x1024, .f32⟩
  | .hbm, ⟨37, _⟩ => ⟨S8x64x8x1024, .f32⟩
  | .hbm, ⟨38, _⟩ => ⟨S8x64x8x1024, .f32⟩
  | .hbm, ⟨39, _⟩ => ⟨S8x1x8x1024, .f32⟩
  | .hbm, ⟨40, _⟩ => ⟨S8x1x8x1024, .f32⟩
  | .hbm, ⟨41, _⟩ => ⟨S_, .f32⟩
  | .hbm, ⟨42, _⟩ => ⟨S8x1x8x1024, .f32⟩
  | .hbm, ⟨43, _⟩ => ⟨S8x1x8x1024, .f32⟩
  | .hbm, ⟨44, _⟩ => ⟨S8x64x8x1024, .f32⟩
  | .hbm, ⟨45, _⟩ => ⟨S8x64x8x1024, .f32⟩
  | .hbm, ⟨46, _⟩ => ⟨S8x64x8x1024, .f32⟩
  | .hbm, ⟨47, _⟩ => ⟨S8x64x8x1024, .f32⟩
  | .hbm, ⟨48, _⟩ => ⟨S4096x1024, .f32⟩
  | .hbm, ⟨49, _⟩ => ⟨S4096x1536, .f32⟩
  | .hbm, ⟨50, _⟩ => ⟨S4096x1536, .bf16⟩
  | .hbm, ⟨51, _⟩ => ⟨S4096x1536, .f32⟩
  | .hbm, ⟨52, _⟩ => ⟨S4096x1024, .f32⟩
  | .hbm, ⟨53, _⟩ => ⟨S8x64x8x1024, .f32⟩
  | .hbm, ⟨54, _⟩ => ⟨S_, .f32⟩
  | .hbm, ⟨55, _⟩ => ⟨S8x8x1024, .f32⟩
  | .hbm, ⟨56, _⟩ => ⟨S8x1x8x1024, .f32⟩
  | .hbm, ⟨57, _⟩ => ⟨S8x64x8x1024, .f32⟩
  | .hbm, ⟨58, _⟩ => ⟨S_, .f32⟩
  | .hbm, ⟨59, _⟩ => ⟨S8x8x1024, .f32⟩
  | .hbm, ⟨60, _⟩ => ⟨S8x1x8x1024, .f32⟩
  | .hbm, ⟨61, _⟩ => ⟨S8x64x8x1024, .f32⟩
  | .hbm, ⟨62, _⟩ => ⟨S8x64x8x1024, .f32⟩
  | .hbm, ⟨63, _⟩ => ⟨S_, .f32⟩
  | .hbm, ⟨64, _⟩ => ⟨S8x8x1024, .f32⟩
  | .hbm, ⟨65, _⟩ => ⟨S_, .f32⟩
  | .hbm, ⟨66, _⟩ => ⟨S8x8x1024, .f32⟩
  | .hbm, ⟨67, _⟩ => ⟨S8x64x8x1024, .f32⟩
  | .hbm, ⟨68, _⟩ => ⟨S_, .f32⟩
  | .hbm, ⟨69, _⟩ => ⟨S8x8x1024, .f32⟩
  | .hbm, ⟨70, _⟩ => ⟨S8x1x8x1024, .f32⟩
  | .hbm, ⟨71, _⟩ => ⟨S8x64x8x1024, .f32⟩
  | .hbm, ⟨72, _⟩ => ⟨S8x64x8x1024, .f32⟩
  | .hbm, ⟨73, _⟩ => ⟨S_, .f32⟩
  | .hbm, ⟨74, _⟩ => ⟨S8x8x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S8x8x1024, .f32⟩
  | .hbm, ⟨97, _⟩ => ⟨S8x64x8x1024, .f32⟩
  | .hbm, ⟨98, _⟩ => ⟨S8x1x8x1024, .f32⟩
  | .hbm, ⟨99, _⟩ => ⟨S8x64x8x1024, .f32⟩
  | .hbm, ⟨100, _⟩ => ⟨S8x64x8x1024, .f32⟩
  | .hbm, ⟨101, _⟩ => ⟨S8x64x8x1024, .f32⟩
  | .hbm, ⟨102, _⟩ => ⟨S8x64x8x1024, .f32⟩
  | .hbm, ⟨103, _⟩ => ⟨S_, .f32⟩
  | .hbm, ⟨104, _⟩ => ⟨S8x8x1024, .f32⟩
  | .hbm, ⟨105, _⟩ => ⟨S8x1x8x1024, .f32⟩
  | .hbm, ⟨106, _⟩ => ⟨S_, .f32⟩
  | .hbm, ⟨107, _⟩ => ⟨S8x8x1024, .f32⟩
  | .hbm, ⟨108, _⟩ => ⟨S4096x1024, .f32⟩
  | _, _ => ⟨S4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel15.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S8x8x1024 : Shape := ⟨3, ![8, 8, 1024]⟩
abbrev S512x2048 : Shape := ⟨2, ![512, 2048]⟩
abbrev S2048x1024 : Shape := ⟨2, ![2048, 1024]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S64x8x1024 : Shape := ⟨3, ![64, 8, 1024]⟩
abbrev S8x1024 : Shape := ⟨2, ![8, 1024]⟩

abbrev nBuf : Space → Nat
  | .hbm => 13
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S8x8x1024, .f32⟩
  | .hbm, ⟨12, _⟩ => ⟨S8x8x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== Reference15Ideal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S8x8x1024 : Shape := ⟨3, ![8, 8, 1024]⟩
abbrev S4096 : Shape := ⟨1, ![4096]⟩
abbrev S4096x1 : Shape := ⟨2, ![4096, 1]⟩
abbrev S8x64x8x1024 : Shape := ⟨4, ![8, 64, 8, 1024]⟩
abbrev S8x1x8x1024 : Shape := ⟨4, ![8, 1, 8, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S8x8x1024, .f32⟩
  | .hbm, ⟨16, _⟩ => ⟨S_, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S8x64x8x1024, .f32⟩
  | .hbm, ⟨39, _⟩ => ⟨S8x1x8x1024, .f32⟩
  | .hbm, ⟨40, _⟩ => ⟨S8x64x8x1024, .f32⟩
  | .hbm, ⟨41, _⟩ => ⟨S8x64x8x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S8x64x8x1024, .f32⟩
  | .hbm, ⟨67, _⟩ => ⟨S8x64x8x1024, .f32⟩
  | .hbm, ⟨68, _⟩ => ⟨S_, .f32⟩
  | .hbm, ⟨69, _⟩ => ⟨S8x8x1024, .f32⟩
  | .hbm, ⟨70, _⟩ => ⟨S8x1x8x1024, .f32⟩
  | .hbm, ⟨71, _⟩ => ⟨S8x64x8x1024, .f32⟩
  | .hbm, ⟨72, _⟩ => ⟨S8x64x8x1024, .f32⟩
  | .hbm, ⟨73, _⟩ => ⟨S_, .f32⟩
  | .hbm, ⟨74, _⟩ => ⟨S8x8x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S8x64x8x1024, .f32⟩
  | .hbm, ⟨99, _⟩ => ⟨S_, .f32⟩
  | .hbm, ⟨100, _⟩ => ⟨S8x8x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_cst_9 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Kernel32.lean ====
abbrev S8x1024 : Shape := ⟨2, ![8, 1024]⟩
abbrev S16x768 : Shape := ⟨2, ![16, 768]⟩
abbrev S1024x768 : Shape := ⟨2, ![1024, 768]⟩
abbrev S1024 : Shape := ⟨1, ![1024]⟩
abbrev S1x1024 : Shape := ⟨2, ![1, 1024]⟩
abbrev S16x1024 : Shape := ⟨2, ![16, 1024]⟩
abbrev S8x768 : Shape := ⟨2, ![8, 768]⟩
abbrev S768 : Shape := ⟨1, ![768]⟩
abbrev S1x768 : Shape := ⟨2, ![1, 768]⟩

abbrev nBuf : Space → Nat
  | .hbm => 10
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S16x768, .f32⟩
  | .hbm, ⟨2, _⟩ => ⟨S1024x768, .f32⟩
  | .hbm, ⟨3, _⟩ => ⟨S1024, .f32⟩
  | .hbm, ⟨4, _⟩ => ⟨S1x1024, .f32⟩
  | .hbm, ⟨5, _⟩ => ⟨S8x1024, .f32⟩
  | .hbm, ⟨6, _⟩ => ⟨S16x1024, .f32⟩
  | .hbm, ⟨7, _⟩ => ⟨S1x1024, .f32⟩
  | .hbm, ⟨8, _⟩ => ⟨S1024x768, .f32⟩
  | .hbm, ⟨9, _⟩ => ⟨S8x1024, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | .local _ .vmem, ⟨3, _⟩ => ⟨S1x1024, .f32⟩
  | .local _ .vmem, ⟨4, _⟩ => ⟨S1024x768, .f32⟩
  | .local _ .vmem, ⟨5, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference32Ideal.lean ====
abbrev S8x1024 : Shape := ⟨2, ![8, 1024]⟩
abbrev S16x768 : Shape := ⟨2, ![16, 768]⟩
abbrev S1024x768 : Shape := ⟨2, ![1024, 768]⟩
abbrev S1024 : Shape := ⟨1, ![1024]⟩
abbrev S_ : Shape := ⟨0, ![]⟩
abbrev S8x768 : Shape := ⟨2, ![8, 768]⟩
abbrev S1x1024 : Shape := ⟨2, ![1, 1024]⟩
abbrev S1x768 : Shape := ⟨2, ![1, 768]⟩
abbrev S768 : Shape := ⟨1, ![768]⟩
abbrev S768x1024 : Shape := ⟨2, ![768, 1024]⟩
abbrev S7x1024 : Shape := ⟨2, ![7, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S16x768, .f32⟩
  | .hbm, ⟨2, _⟩ => ⟨S1024x768, .f32⟩
  | .hbm, ⟨3, _⟩ => ⟨S1024, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S1x768, .f32⟩
  | .hbm, ⟨29, _⟩ => ⟨S8x768, .f32⟩
  | .hbm, ⟨30, _⟩ => ⟨S16x768, .f32⟩
  | .hbm, ⟨31, _⟩ => ⟨S8x768, .f32⟩
  | .hbm, ⟨32, _⟩ => ⟨S8x768, .f32⟩
  | .hbm, ⟨33, _⟩ => ⟨S_, .f32⟩
  | .hbm, ⟨34, _⟩ => ⟨S768, .f32⟩
  | .hbm, ⟨35, _⟩ => ⟨S1x768, .f32⟩
  | .hbm, ⟨36, _⟩ => ⟨S768x1024, .f32⟩
  | .hbm, ⟨37, _⟩ => ⟨S1024x768, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S768x1024, .f32⟩
  | .hbm, ⟨46, _⟩ => ⟨S1024x768, .f32⟩
  | .hbm, ⟨47, _⟩ => ⟨S1024x768, .f32⟩
  | .hbm, ⟨48, _⟩ => ⟨S1x1024, .f32⟩
  | .hbm, ⟨49, _⟩ => ⟨S_, .f32⟩
  | .hbm, ⟨50, _⟩ => ⟨S7x1024, .f32⟩
  | .hbm, ⟨51, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_v2_2 : Ref sig .tc := ⟨.hbm, 21, rfl⟩
abbrev main_call1_cst_1 : Ref sig .tc := ⟨.hbm, 22, rfl⟩
abbrev main_call1_v6 : Ref sig .tc := ⟨.hbm, 23, rfl⟩
abbrev main_call1_v7 : Ref sig .tc := ⟨.hbm, 24, rfl⟩
abbrev main_v2_1 : Ref sig .tc := ⟨.hbm, 25, rfl⟩
abbrev main_v2_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_1 : Ref sig .tc := ⟨.hbm, 49, rfl⟩
abbrev main_v20 : Ref sig .tc := ⟨.hbm, 50, rfl⟩
abbrev main_v21 : Ref sig .tc := ⟨.hbm, 51, rfl⟩

abbrev nD : Nat := 1
abbrev τ : Topo := Topo.v7x

variable {F : FTy → Type} [FloatOps F]
-- ==== Proof.DownDx.lean ====
/-
  The gradient of the second product of the MLP (`relu(f)² · w2`) with respect to the hidden layer `f`.

  WHAT A BLOCK COMPUTES: grid point `(i, j)` holds 2048 rows of the output gradient `dm2` and 1024 rows of the weight
  `w2` (columns of its transpose), multiplies them over the 1024 model columns, and scales the product by
  `2 · max f 0` at its own tile of `f`.
  WHAT THE ARRAY HOLDS: the eight tiles cover the whole gradient, so the array is one function of `dm2`, `w2`, `f`.
  WHAT THE REFERENCE COMPUTES: the derivative of `relu` as a choice on `f > 0`, times the derivative of the square,
  times `dm2 · w2ᵀ`.
  THE EQUATION: where `f > 0` both are `(∑ dm2 · w2) · 2 · f`; elsewhere `max f 0 = 0` and both are `0`, whatever the
  product is, since zero times anything is zero in the extended reals.
-/
module

public import proofs.«01_k».proof.Defs
public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.DownDx

open Cert.KernelIdeal Cert.KernelIdeal.Gen

/-- The reference's own term: the gradient of `relu(f)² · w2` at `f`, for the output gradient `dm2`. -/
abbrev REF (D : FVec Ideal S4096x1024 .bf16) (W : FVec Ideal S4096x1024 .f32) (H : FVec Ideal S4096x4096 .bf16) :
    FVec Ideal S4096x4096 .bf16 :=
  truncf .bf16 (select (cmpf .ogt (extf .f32 H Cert.ReferenceIdeal.Gen.bitsLt_bf16_f32) (broadcastInDim Cert.ReferenceIdeal.S4096x4096 ![] Cert.ReferenceIdeal.Gen.bcast_S_S4096x4096 (constant Cert.ReferenceIdeal.S_ .f32 0x00000000#32)))
    (mulf (Host.dotGeneral Cert.ReferenceIdeal.dot_S4096x1024_S4096x1024_S4096x4096_1_1_0_0_n_n none (extf .f32 D Cert.ReferenceIdeal.Gen.bitsLt_bf16_f32) W)
      (mulf (broadcastInDim Cert.ReferenceIdeal.S4096x4096 ![] Cert.ReferenceIdeal.Gen.bcast_S_S4096x4096 (constant Cert.ReferenceIdeal.S_ .f32 0x40000000#32)) (maximumf (extf .f32 H Cert.ReferenceIdeal.Gen.bitsLt_bf16_f32) (broadcastInDim Cert.ReferenceIdeal.S4096x4096 ![] Cert.ReferenceIdeal.Gen.bcast_S_S4096x4096 (constant Cert.ReferenceIdeal.S_ .f32 0x00000000#32)))))
    (broadcastInDim Cert.ReferenceIdeal.S4096x4096 ![] Cert.ReferenceIdeal.Gen.bcast_S_S4096x4096 (constant Cert.ReferenceIdeal.S_ .f32 0x00000000#32))) Cert.ReferenceIdeal.Gen.bitsLt_bf16_f32

variable (m : (ℓ : Loc nD τ sig) → Buf (Elt Ideal) ℓ) (c : Dev nD)

/-- Which block each window stages at grid point `t`: rows by `t / 4`, weight rows by `t % 4`. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The two ways to write the gated product are one: where `h` is not positive both are zero, whatever `p` is. -/
theorem gate (p k h : EReal) : p * k * max h 0 = if 0 < h then p * (k * max h 0) else 0 := by
  split_ifs with hh
  · rw [mul_assoc]
  · rw [max_eq_right (not_lt.mp hh), mul_zero]

/-- One tile: the body's value is the reference's tile. -/
theorem point (t : Fin cfg0.N) (y : S2048x1024.Idx) :
    k0_pay1 (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  rw [← gate]
  simp only [iblk]
  entry_read
  blk_point [iblk, V, idx t]

/-- The whole array after the run. -/
theorem final : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The kernel's result is the reference's, from any memory in which their arguments agree. -/
theorem algebraic : Cert.algebraic_KernelIdeal_ReferenceIdeal := by
  pair_intro
  · run_from Cert.KernelIdeal.Gen.run_main m g
  · run_from Cert.ReferenceIdeal.Value.run m' g'
    exact (final m c).symm

end Cert.KernelIdeal.DownDx

end
-- ==== Proof.DownDw.lean ====
/-
  The gradient of the second product of the MLP (`relu(f)² · w2`) with respect to the weight `w2`.

  WHAT A BLOCK COMPUTES: the grid sweeps 4 row tiles of the gradient, and for each the positions in two halves. A point
  squares the positive part of its tile of `fᵀ` and multiplies it by the half's rows of `dm2`; the first half's product
  starts the accumulator, the second half's is added to it, and the sum is the tile of the result.
  WHAT THE ARRAY HOLDS: row `k`, column `n` is `∑ p, (max fᵀ[k, p] 0)² · dm2[p, n]` over all 4096 positions.
  WHAT THE REFERENCE COMPUTES: the derivative of the product at `w2`: the same sum, not cut, factors in the other order.
  THE EQUATION: a sum over 4096 positions is the sum over the first 2048 plus the sum over the last 2048.
-/
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.DownDw

open Cert.Kernel5Ideal Cert.Kernel5Ideal.Gen

/-- The reference's own term: the gradient of `relu(f)² · w2` at `w2` for the output gradient `dm2`. -/
abbrev REF (H : FVec Ideal S4096x4096 .bf16) (D : FVec Ideal S4096x1024 .bf16) : FVec Ideal S4096x1024 .f32 :=
  transpose Cert.Reference5Ideal.S4096x1024 [1, 0] (Host.dotGeneral Cert.Reference5Ideal.dot_S4096x1024_S4096x4096_S1024x4096_0_0_1_1_n_n none
    (extf .f32 D Cert.Reference5Ideal.Gen.bitsLt_bf16_f32)
    (mulf
      (maximumf (extf .f32 (transpose Cert.Reference5Ideal.S4096x4096 [1, 0] H Cert.Reference5Ideal.Gen.transposes_S4096x4096_S4096x4096_1_0) Cert.Reference5Ideal.Gen.bitsLt_bf16_f32) (broadcastInDim Cert.Reference5Ideal.S4096x4096 ![] Cert.Reference5Ideal.Gen.bcast_S_S4096x4096 (constant Cert.Reference5Ideal.S_ .f32 0x00000000#32)))
      (maximumf (extf .f32 (transpose Cert.Reference5Ideal.S4096x4096 [1, 0] H Cert.Reference5Ideal.Gen.transposes_S4096x4096_S4096x4096_1_0) Cert.Reference5Ideal.Gen.bitsLt_bf16_f32) (broadcastInDim Cert.Reference5Ideal.S4096x4096 ![] Cert.Reference5Ideal.Gen.bcast_S_S4096x4096 (constant Cert.Reference5Ideal.S_ .f32 0x00000000#32)))))
    Cert.Reference5Ideal.Gen.transposes_S1024x4096_S4096x1024_1_0

variable (m : (ℓ : Loc nD τ sig) → Buf (Elt Ideal) ℓ) (c : Dev nD)

/-- Which block each window stages at grid point `t`: row tile `t / 2`, half `t % 2`. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- A point that starts a tile leaves its own product in the accumulator. -/
theorem carry_A (t : Fin cfg0.N) (h0 : t.val % 2 = 0) (h1 : ¬t.val % 2 = 1) (j : S1024x1024.Idx) :
    (outsAt0 m c t.val t.isLt).2 j = k0_pay1 (iblk m c 0 t) (iblk m c 1 t) j := by
  rw [outsAt0_A m c t h0 h1 h1]
  frame_out
  pointwise [k0_pay2]

/-- A point that ends a tile leaves the accumulator plus its own product as the tile. -/
theorem tile_B (t : Fin cfg0.N) (h0 : ¬t.val % 2 = 0) (h1 : t.val % 2 = 1) (j : S1024x1024.Idx) :
    (outsAt0 m c t.val t.isLt).1 j
      = (outsAt0 m c (t.val - 1) (Nat.lt_of_le_of_lt (Nat.sub_le _ _) t.isLt)).2 j + k0_pay1 (iblk m c 0 t) (iblk m c 1 t) j := by
  rw [outsAt0_B m c t h0 h1 h1]
  frame_out
  pointwise [k0_pay3]
  rw [(Memref.isWhole_whole cc0_scratch0).read_unread]

/-- The two halves of a tile together are the reference's tile: `s` is the point before `t`. -/
theorem halves (s t : Fin cfg0.N) (hs : s.val + 1 = t.val) (ht : t.val % 2 = 1) (y : S1024x1024.Idx) :
    k0_pay1 (iblk m c 0 s) (iblk m c 1 s) y + k0_pay1 (iblk m c 0 t) (iblk m c 1 t) y
      = REF (m ((c : Thread nD τ).loc main_arg0)) (m ((c : Thread nD τ).loc main_arg1))
          (((cfg0.win 2).blk t).view.emb y) := by
  pointwise [k0_pay1, REF]
  rw [Fin.sum_univ_two_halves (N := 4096) 2048 2048 rfl]
  refine congrArg₂ (· + ·) (Finset.sum_congr rfl fun k _ => (mul_comm _ _).trans ?_) (Finset.sum_congr rfl fun k _ => (mul_comm _ _).trans ?_)
  · blk_point [iblk, V, idx s, idx t]
  · blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  have ht := t.isLt
  blk_simp
  rw [after0_2, tile_B m c t (by omega) hm]
  obtain ⟨s, hs⟩ : ∃ s : Fin cfg0.N, s.val = t.val - 1 := ⟨⟨t.val - 1, Nat.lt_of_le_of_lt (Nat.sub_le _ _) t.isLt⟩, rfl⟩
  have hp := carry_A m c s (by omega) (by omega) y
  simp only [hs] at hp
  rw [hp]
  exact halves m c s t (by omega) hm y

/-- The kernel's result is the reference's, from any memory in which their arguments agree. -/
theorem algebraic : Cert.algebraic_Kernel5Ideal_Reference5Ideal := by
  pair_intro
  · run_from Cert.Kernel5Ideal.Gen.run_main m g
  · run_from Cert.Reference5Ideal.Value.run m' g'
    exact (final m c).symm

end Cert.Kernel5Ideal.DownDw

end
-- ==== Proof.UpDw.lean ====
/-
  The gradient of the first product of the MLP (`a2 · w1`) with respect to the weight `w1`, laid out in eight slabs.

  WHAT A BLOCK COMPUTES: grid point `t` multiplies the whole transposed activation `a2ᵀ` by 512 columns of the hidden
  gradient `d_f`, contracting over all 4096 positions, and stores the product as slab `t`.
  WHAT THE ARRAY HOLDS: slab `s`, row `k`, column `n` is `∑ p, a2ᵀ[k, p] · d_f[p, 512 s + n]`.
  WHAT THE REFERENCE COMPUTES: the derivative of the product at `w1`, re-laid to slabs by a reshape and a transpose.
  THE EQUATION: both are the same sum with the factors in the other order.
-/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.UpDw

open Cert.Kernel6Ideal Cert.Kernel6Ideal.Gen

/-- The reference's own term: the gradient of `a2 · w1` at `w1` for the hidden gradient `d_f`, as slabs. -/
abbrev REF (A : FVec Ideal S1024x4096 .bf16) (D : FVec Ideal S4096x4096 .bf16) : FVec Ideal S8x1024x512 .f32 :=
  transpose Cert.Reference6Ideal.S8x1024x512 [1, 0, 2] (shapeCast _ (transpose Cert.Reference6Ideal.S1024x4096 [1, 0]
    (Host.dotGeneral Cert.Reference6Ideal.dot_S4096x4096_S4096x1024_S4096x1024_0_0_1_1_n_n none
      (extf .f32 D Cert.Reference6Ideal.Gen.bitsLt_bf16_f32)
      (extf .f32 (transpose Cert.Reference6Ideal.S4096x1024 [1, 0] A Cert.Reference6Ideal.Gen.transposes_S1024x4096_S4096x1024_1_0) Cert.Reference6Ideal.Gen.bitsLt_bf16_f32))
    Cert.Reference6Ideal.Gen.transposes_S4096x1024_S1024x4096_1_0) Cert.Reference6Ideal.Gen.shapeCasts_S1024x4096_S1024x8x512)
    Cert.Reference6Ideal.Gen.transposes_S1024x8x512_S8x1024x512_1_0_2

variable (m : (ℓ : Loc nD τ sig) → Buf (Elt Ideal) ℓ) (c : Dev nD)

/-- Which block each window stages at grid point `t`: the same activation, columns block `t`, slab `t`. -/
theorem idx : ∀ t : Fin cfg0.N, win0_0.index t = ![0, 0] ∧ win0_1.index t = ![0, t.val]
    ∧ win0_2.index t = ![t.val, 0, 0] :=
  (by decide +kernel : ∀ t : Fin grid0.N, _)

/-- One slab: the body's value is the reference's slab. -/
theorem point (t : Fin cfg0.N) (y : S1x1024x512.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  refine Finset.sum_congr rfl fun k _ => (mul_comm _ _).trans ?_
  blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's result is the reference's, from any memory in which their arguments agree. -/
theorem algebraic : Cert.algebraic_Kernel6Ideal_Reference6Ideal := by
  pair_intro
  · run_from Cert.Kernel6Ideal.Gen.run_main m g
  · run_from Cert.Reference6Ideal.Value.run m' g'
    exact (final m c).symm

end Cert.Kernel6Ideal.UpDw

end
-- ==== Proof.NormGrad.lean ====
/-
  The gradient of the root-mean-square norm of one row, as the kernels and as the reference write it, and why the two agree.

  A row `x` of 1024 numbers has `v = (∑ x²)/1024 + eps`, `r = 1/√v`, and the normalised row `x · r`. With the gradient `d` of
  the normalised row,
    the kernels write    r · (d_k − (x_k r) · ((∑ d_j (x_j r)) / 1024)),
    the reference writes d_k r + x_k w + w x_k  with  w = (∑ x_j d_j) · (−½ · (r / v)) / 1024.
  Over the reals both are `d_k r − x_k r³ (∑ x_j d_j)/1024`, because `r² = 1/v`. Among the extended reals this needs the
  entries to be finite: with an infinite entry the two sides take different ways to an undefined difference.
-/
module

public import proofs.«01_k».proof.Defs
public import Idealize.ShloMosaic.Lib.Pipeline.ValueKit
public import Idealize.ShloMosaic.Lib.Pointwise

@[expose] public section

noncomputable section

open Idealize.ShloMosaic

namespace Cert.NormGrad

/-! ## The constants -/

abbrev c1024 : EReal := Ideal.ofBits .f32 0x44800000#32
abbrev eps : EReal := Ideal.ofBits .f32 0x358637BD#32
abbrev half : EReal := Ideal.ofBits .f32 0x3F000000#32
abbrev mhalf : EReal := Ideal.ofBits .f32 0xBF000000#32
abbrev two : EReal := Ideal.ofBits .f32 0x40000000#32
abbrev inv1024 : EReal := Ideal.ofBits .f32 0x3A800000#32
abbrev inf : EReal := Ideal.ofBits .f32 0x7F800000#32

theorem c1024_eq : c1024 = ((1024 : ℝ) : EReal) := by
  simp [c1024, Ideal.ofBits, Ideal.ieee, -EReal.coe_mul]; norm_num
theorem half_eq : half = ((1 / 2 : ℝ) : EReal) := by
  simp [half, Ideal.ofBits, Ideal.ieee, -EReal.coe_mul]; norm_num
theorem mhalf_eq : mhalf = ((-(1 / 2) : ℝ) : EReal) := by
  simp [mhalf, Ideal.ofBits, Ideal.ieee, -EReal.coe_mul, -EReal.coe_neg]; norm_num
theorem two_eq : two = ((2 : ℝ) : EReal) := by
  simp [two, Ideal.ofBits, Ideal.ieee, -EReal.coe_mul]; norm_num
theorem inv1024_eq : inv1024 = ((1 / 1024 : ℝ) : EReal) := by
  simp [inv1024, Ideal.ofBits, Ideal.ieee, -EReal.coe_mul]; norm_num
theorem inf_eq : inf = ⊤ := by
  simp [inf, Ideal.ofBits, Ideal.ieee]
theorem eps_eq : ∃ e : ℝ, 0 < e ∧ eps = (e : EReal) := by
  refine ⟨_, ?_, by simp [eps, Ideal.ofBits, Ideal.ieee, -EReal.coe_mul]; rfl⟩
  norm_num

/-! ## Finite numbers -/

/-- `x` is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]
theorem IsReal.sum {ι : Type} (s : Finset ι) {f : ι → EReal} (h : ∀ k, IsReal (f k)) : IsReal (∑ k ∈ s, f k) := by
  choose g hg using h
  exact ⟨∑ k ∈ s, g k, by rw [← coe_sum]; exact Finset.sum_congr rfl fun k _ => hg k⟩

/-- A number whose magnitude is below infinity is real. -/
theorem isReal_of_abs_lt {x : EReal} (h : Max.max x (-x) < ⊤) : IsReal x := by
  induction x using EReal.rec with
  | bot => simp at h
  | coe r => exact ⟨r, rfl⟩
  | top => simp at h

/-- The precondition's test of one entry, read back. -/
theorem isReal_of_test {x : EReal} (h : Ideal.cmp .olt (Max.max x (-x)) inf = 1#1) : IsReal x := by
  refine isReal_of_abs_lt ?_
  rw [inf_eq] at h
  by_contra hn
  simp [Ideal.cmp, hn] at h

/-! ## One row -/

/-- `mean(x²) + eps` of a row. -/
def var (x : Fin 1024 → EReal) : EReal := Ideal.div (∑ k, x k * x k) c1024 + eps

/-- The row's factor `1/√(mean(x²) + eps)`. -/
def rs (x : Fin 1024 → EReal) : EReal := Ideal.rsqrt (var x)

/-- The gradient with respect to `x_k` as the kernels write it, `d` the gradient of the normalised row. -/
def kernelGrad (x d : Fin 1024 → EReal) (k : Fin 1024) : EReal :=
  rs x * (d k - x k * rs x * Ideal.div (∑ j, d j * (x j * rs x)) c1024)

/-- The reference's number `w`. -/
def via (x d : Fin 1024 → EReal) : EReal :=
  Ideal.div ((∑ j, x j * d j) * (mhalf * Ideal.div (rs x) (var x))) c1024

/-- The gradient with respect to `x_k` as the reference writes it. -/
def refGrad (x d : Fin 1024 → EReal) (k : Fin 1024) : EReal :=
  d k * rs x + x k * via x d + via x d * x k

/-- A real row's factor is real and its square is one over the mean square. -/
theorem rs_real {x : Fin 1024 → EReal} (X : Fin 1024 → ℝ) (hx : ∀ k, x k = X k) :
    ∃ v r : ℝ, 0 < v ∧ r * r * v = 1 ∧ var x = (v : EReal) ∧ rs x = (r : EReal) := by
  obtain ⟨e, he, hE⟩ := eps_eq
  have hv : var x = (((∑ k, X k * X k) * (1 / 1024) + e : ℝ) : EReal) := by
    unfold var
    rw [c1024_eq, Ideal.div_coe (by norm_num), hE]
    simp only [hx, ← EReal.coe_mul, coe_sum, ← EReal.coe_add]
  have hpos : 0 < (∑ k, X k * X k) * (1 / 1024) + e := by
    have : 0 ≤ ∑ k, X k * X k := Finset.sum_nonneg fun k _ => mul_self_nonneg _
    positivity
  refine ⟨_, (Real.sqrt ((∑ k, X k * X k) * (1 / 1024) + e))⁻¹, hpos, ?_, hv, ?_⟩
  · have hs := Real.mul_self_sqrt hpos.le
    have hn := (Real.sqrt_pos.mpr hpos).ne'
    rw [← mul_inv, hs]
    exact inv_mul_cancel₀ hpos.ne'
  · unfold rs
    rw [hv, Ideal.rsqrt_coe, if_neg (not_lt.mpr hpos.le), if_neg hpos.ne']

theorem IsReal.rs {x : Fin 1024 → EReal} (hx : ∀ k, IsReal (x k)) : IsReal (rs x) := by
  choose X hX using hx
  obtain ⟨_, r, _, _, _, h⟩ := rs_real X hX
  exact ⟨r, h⟩

/-- The two ways of writing the gradient agree on a real row with a real gradient. -/
theorem grad_eq {x d : Fin 1024 → EReal} (hx : ∀ k, IsReal (x k)) (hd : ∀ k, IsReal (d k)) (k : Fin 1024) :
    kernelGrad x d k = refGrad x d k := by
  choose X hX using hx
  choose D hD using hd
  obtain ⟨v, r, hv, hr, hV, hR⟩ := rs_real X hX
  have hvia : via x d = (((∑ j, X j * D j) * (-(1 / 2) * (r * (1 / v))) * (1 / 1024) : ℝ) : EReal) := by
    unfold via
    rw [c1024_eq, Ideal.div_coe (by norm_num), hV, hR, Ideal.div_coe hv.ne', mhalf_eq]
    simp only [hX, hD, ← EReal.coe_mul, coe_sum]
  unfold kernelGrad refGrad
  rw [c1024_eq, Ideal.div_coe (by norm_num), hvia, hR]
  simp only [hX, hD, ← EReal.coe_mul, coe_sum, ← EReal.coe_add, ← EReal.coe_sub]
  refine congrArg _ ?_
  have hsum : ∑ j, D j * (X j * r) = r * ∑ j, X j * D j := by
    rw [Finset.mul_sum]; exact Finset.sum_congr rfl fun j _ => by ring
  have hinv : 1 / v = r * r := by rw [eq_comm, eq_div_iff hv.ne']; exact hr
  rw [hsum, hinv]
  ring

/-- The gradient of half the mean of the squared error `e`, in the two ways of writing it. -/
theorem half_mean (e : EReal) : Ideal.div half c1024 * (two * e) = e * inv1024 := by
  rw [c1024_eq, Ideal.div_coe (by norm_num), half_eq, two_eq, inv1024_eq, ← mul_assoc, ← EReal.coe_mul, ← EReal.coe_mul,
    mul_comm]
  norm_num

end Cert.NormGrad

end
-- ==== Proof.NormBwd.lean ====
/-
  The reference's terms of the gradient through a modulated root-mean-square norm, each under its own name, and what one entry
  of each is.

  With `D` the gradient of the activation (one product, different in the two calls that use this module), `X` the rows that are
  normalised, `g` the gain and `s` the scale: the gradient of `norm · g · (1 + s) + shift` with respect to the rows, to which
  the residual's gradient is added, and the gradients of eight copies of shift, scale, gain and gate, the copy `s` being used by
  the rows with remainder `s` by eight within each tile of 512 rows.
-/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.Kernel2Ideal.NormBwd

open Cert.Kernel2Ideal Cert.Kernel2Ideal.Gen

/-- The rows of a tile, sorted by the copy of the vectors that they use. -/
abbrev ROWS (X : FVec Ideal S4096x1024 .f32) : FVec Ideal Cert.Reference2Ideal.S8x64x8x1024 .f32 :=
  shapeCast Cert.Reference2Ideal.S8x64x8x1024 X Cert.Reference2Ideal.Gen.shapeCasts_S4096x1024_S8x64x8x1024

/-- `mean(x²) + eps`, one number per row. -/
abbrev VAR (X : FVec Ideal S4096x1024 .f32) : FVec Ideal Cert.Reference2Ideal.S4096x1 .f32 :=
  addf (Host.divf
    (broadcastInDim Cert.Reference2Ideal.S4096x1 ![0] Cert.Reference2Ideal.Gen.bcast_S4096_S4096x1_0 (Host.reduceAdd (mulf X X) (constant Cert.Reference2Ideal.S_ .f32 0x00000000#32)
      Cert.Reference2Ideal.Gen.reducesTo_S4096x1024_S4096_d1 Cert.Reference2Ideal.Gen.h_S_))
    (broadcastInDim Cert.Reference2Ideal.S4096x1 ![] Cert.Reference2Ideal.Gen.bcast_S_S4096x1 (constant Cert.Reference2Ideal.S_ .f32 0x44800000#32)))
    (broadcastInDim Cert.Reference2Ideal.S4096x1 ![] Cert.Reference2Ideal.Gen.bcast_S_S4096x1 (constant Cert.Reference2Ideal.S_ .f32 0x358637BD#32))

/-- A row of ones, over the rows. -/
abbrev ONES : FVec Ideal S4096x1024 .f32 :=
  broadcastInDim Cert.Reference2Ideal.S4096x1024 ![0, 1] Cert.Reference2Ideal.Gen.bcast_S1x1024_S4096x1024_0_1 (broadcastInDim Cert.Reference2Ideal.S1x1024 ![1] Cert.Reference2Ideal.Gen.bcast_S1024_S1x1024_1
    (broadcastInDim Cert.Reference2Ideal.S1024 ![] Cert.Reference2Ideal.Gen.bcast_S_S1024 (constant Cert.Reference2Ideal.S_ .f32 0x3F800000#32)))

/-- Eight copies of a vector for each tile. -/
abbrev COPIES (g : FVec Ideal S1x1024 .f32) : FVec Ideal Cert.Reference2Ideal.S8x1x8x1024 .f32 :=
  broadcastInDim Cert.Reference2Ideal.S8x1x8x1024 ![0, 2, 3] Cert.Reference2Ideal.Gen.bcast_S8x8x1024_S8x1x8x1024_0_2_3
    (broadcastInDim Cert.Reference2Ideal.S8x8x1024 ![2] Cert.Reference2Ideal.Gen.bcast_S1024_S8x8x1024_2 (shapeCast Cert.Reference2Ideal.S1024 g Cert.Reference2Ideal.Gen.shapeCasts_S1x1024_S1024))

/-- The gain, over the rows of a tile. -/
abbrev GAIN (g : FVec Ideal S1x1024 .f32) : FVec Ideal Cert.Reference2Ideal.S8x64x8x1024 .f32 :=
  broadcastInDim Cert.Reference2Ideal.S8x64x8x1024 ![0, 1, 2, 3] Cert.Reference2Ideal.Gen.bcast_S8x1x8x1024_S8x64x8x1024_0_1_2_3 (COPIES g)

/-- One plus the scale, over the rows of a tile. -/
abbrev SCALE (s : FVec Ideal S1x1024 .f32) : FVec Ideal Cert.Reference2Ideal.S8x64x8x1024 .f32 :=
  broadcastInDim Cert.Reference2Ideal.S8x64x8x1024 ![0, 1, 2, 3] Cert.Reference2Ideal.Gen.bcast_S8x1x8x1024_S8x64x8x1024_0_1_2_3
    (addf (broadcastInDim Cert.Reference2Ideal.S8x1x8x1024 ![] Cert.Reference2Ideal.Gen.bcast_S_S8x1x8x1024 (constant Cert.Reference2Ideal.S_ .f32 0x3F800000#32)) (COPIES s))

/-- The normalised rows. -/
abbrev NORM (X : FVec Ideal S4096x1024 .f32) : FVec Ideal Cert.Reference2Ideal.S8x64x8x1024 .f32 :=
  ROWS (mulf (mulf X (broadcastInDim Cert.Reference2Ideal.S4096x1024 ![0, 1] Cert.Reference2Ideal.Gen.bcast_S4096x1_S4096x1024_0_1 (Host.rsqrt (VAR X)))) ONES)

/-- The gradient with respect to the normalised row times the gain. -/
abbrev DN (D : FVec Ideal S4096x1024 .f32) (s : FVec Ideal S1x1024 .f32) : FVec Ideal Cert.Reference2Ideal.S8x64x8x1024 .f32 :=
  mulf (ROWS D) (SCALE s)

/-- The gradient with respect to the normalised row. -/
abbrev DXH (D : FVec Ideal S4096x1024 .f32) (g s : FVec Ideal S1x1024 .f32) : FVec Ideal S4096x1024 .f32 :=
  mulf (shapeCast Cert.Reference2Ideal.S4096x1024 (mulf (DN D s) (GAIN g)) Cert.Reference2Ideal.Gen.shapeCasts_S8x64x8x1024_S4096x1024) ONES

/-- The part of the gradient that comes through the mean square, before the row's own number. -/
abbrev VIA (D X : FVec Ideal S4096x1024 .f32) (g s : FVec Ideal S1x1024 .f32) : FVec Ideal S4096x1024 .f32 :=
  broadcastInDim Cert.Reference2Ideal.S4096x1024 ![0] Cert.Reference2Ideal.Gen.bcast_S4096_S4096x1024_0 (Host.reduceAdd (Host.divf (mulf
      (shapeCast Cert.Reference2Ideal.S4096x1 (Host.reduceAdd (mulf X (DXH D g s)) (constant Cert.Reference2Ideal.S_ .f32 0x00000000#32) Cert.Reference2Ideal.Gen.reducesTo_S4096x1024_S4096_d1 Cert.Reference2Ideal.Gen.h_S_)
        Cert.Reference2Ideal.Gen.shapeCasts_S4096_S4096x1)
      (mulf (broadcastInDim Cert.Reference2Ideal.S4096x1 ![] Cert.Reference2Ideal.Gen.bcast_S_S4096x1 (constant Cert.Reference2Ideal.S_ .f32 0xBF000000#32)) (Host.divf (Host.rsqrt (VAR X)) (VAR X))))
      (broadcastInDim Cert.Reference2Ideal.S4096x1 ![] Cert.Reference2Ideal.Gen.bcast_S_S4096x1 (constant Cert.Reference2Ideal.S_ .f32 0x44800000#32)))
    (constant Cert.Reference2Ideal.S_ .f32 0x00000000#32) Cert.Reference2Ideal.Gen.reducesTo_S4096x1_S4096_d1 Cert.Reference2Ideal.Gen.h_S_)

/-- The gradient with respect to the rows, with the residual's gradient `E` added. -/
abbrev DX (E D X : FVec Ideal S4096x1024 .f32) (g s : FVec Ideal S1x1024 .f32) : FVec Ideal S4096x1024 .f32 :=
  addf E (addf (addf (mulf (DXH D g s) (broadcastInDim Cert.Reference2Ideal.S4096x1024 ![0, 1] Cert.Reference2Ideal.Gen.bcast_S4096x1_S4096x1024_0_1 (Host.rsqrt (VAR X))))
    (mulf X (VIA D X g s))) (mulf (VIA D X g s) X))

/-- A gradient times a gate, rounded. -/
abbrev GATED (Y : FVec Ideal S4096x1024 .f32) (k : FVec Ideal S1x1024 .f32) : FVec Ideal S4096x1024 .bf16 :=
  truncf .bf16 (mulf Y (broadcastInDim Cert.Reference2Ideal.S4096x1024 ![0, 1] Cert.Reference2Ideal.Gen.bcast_S1x1024_S4096x1024_0_1 k)) Cert.Reference2Ideal.Gen.bitsLt_bf16_f32

/-- The sum over the rows that use one copy. -/
abbrev FOLD (Y : FVec Ideal Cert.Reference2Ideal.S8x64x8x1024 .f32) : FVec Ideal S8x8x1024 .f32 :=
  Host.reduceAdd (shapeCast Cert.Reference2Ideal.S8x1x8x1024 (Host.reduceAdd Y (constant Cert.Reference2Ideal.S_ .f32 0x00000000#32)
    Cert.Reference2Ideal.Gen.reducesTo_S8x64x8x1024_S8x8x1024_d1 Cert.Reference2Ideal.Gen.h_S_) Cert.Reference2Ideal.Gen.shapeCasts_S8x8x1024_S8x1x8x1024)
    (constant Cert.Reference2Ideal.S_ .f32 0x00000000#32) Cert.Reference2Ideal.Gen.reducesTo_S8x1x8x1024_S8x8x1024_d1 Cert.Reference2Ideal.Gen.h_S_

/-- The gradients of the copies of shift, scale, gain and gate; `A` is what the gate multiplied. -/
abbrev DSHIFT (D : FVec Ideal S4096x1024 .f32) : FVec Ideal S8x8x1024 .f32 := FOLD (ROWS D)
abbrev DSCALE (D X : FVec Ideal S4096x1024 .f32) (g : FVec Ideal S1x1024 .f32) : FVec Ideal S8x8x1024 .f32 :=
  FOLD (mulf (mulf (NORM X) (GAIN g)) (ROWS D))
abbrev DGAIN (D X : FVec Ideal S4096x1024 .f32) (s : FVec Ideal S1x1024 .f32) : FVec Ideal S8x8x1024 .f32 :=
  FOLD (mulf (NORM X) (DN D s))
abbrev DGATE (E A : FVec Ideal S4096x1024 .f32) : FVec Ideal S8x8x1024 .f32 := FOLD (mulf (ROWS A) (ROWS E))

/-- Equal arguments give equal arrays. -/
theorem DX_congr {E E' D D' X X' : FVec Ideal S4096x1024 .f32} {g g' s s' : FVec Ideal S1x1024 .f32} (a : E = E') (b : D = D')
    (d : X = X') (e : g = g') (f : s = s') : DX E D X g s = DX E' D' X' g' s' := by cases a; cases b; cases d; cases e; cases f; rfl
theorem GATED_congr {Y Y' : FVec Ideal S4096x1024 .f32} {k k' : FVec Ideal S1x1024 .f32} (a : Y = Y') (b : k = k') :
    GATED Y k = GATED Y' k' := by cases a; cases b; rfl
theorem DSHIFT_congr {D D' : FVec Ideal S4096x1024 .f32} (a : D = D') : DSHIFT D = DSHIFT D' := by cases a; rfl
theorem DSCALE_congr {D D' X X' : FVec Ideal S4096x1024 .f32} {g g' : FVec Ideal S1x1024 .f32} (a : D = D') (b : X = X') (d : g = g') :
    DSCALE D X g = DSCALE D' X' g' := by cases a; cases b; cases d; rfl
theorem DGAIN_congr {D D' X X' : FVec Ideal S4096x1024 .f32} {s s' : FVec Ideal S1x1024 .f32} (a : D = D') (b : X = X') (d : s = s') :
    DGAIN D X s = DGAIN D' X' s' := by cases a; cases b; cases d; rfl
theorem DGATE_congr {E E' A A' : FVec Ideal S4096x1024 .f32} (a : E = E') (b : A = A') : DGATE E A = DGATE E' A' := by
  cases a; cases b; rfl

/-! ## One entry of each -/

/-- Row `x` of the copy `s`, within a tile; and row `a` of tile `i`, within all rows. -/
def rowOf (x : Fin 64) (s : Fin 8) : Fin 512 := ⟨x.val * 8 + s.val, by omega⟩
def rowIn (i : Fin 8) (a : Fin 512) : Fin 4096 := ⟨i.val * 512 + a.val, by omega⟩

/-- The gradient of one normalised row, from the row `d` of the activation's gradient. -/
def dxh (d g s : Fin 1024 → EReal) (k : Fin 1024) : EReal := d k * (1 + s k) * g k

open NormGrad in
theorem DX_at (E D X : FVec Ideal S4096x1024 .f32) (g s : FVec Ideal S1x1024 .f32) (p : Fin 4096) (q : Fin 1024) :
    DX E D X g s (ix2 p q)
      = E (ix2 p q) + refGrad (fun k => X (ix2 p k))
          (dxh (fun k => D (ix2 p k)) (fun k => g (ix2 0 k)) (fun k => s (ix2 0 k))) q := by
  pointwise [DX, VIA, DXH, DN, VAR, ONES, GAIN, SCALE, COPIES, ROWS]
  simp only [Fin.sum_univ_one]
  rfl

theorem GATED_at (Y : FVec Ideal S4096x1024 .f32) (k : FVec Ideal S1x1024 .f32) (p : Fin 4096) (q : Fin 1024) :
    GATED Y k (ix2 p q) = Y (ix2 p q) * k (ix2 0 q) := by
  pointwise

theorem DSHIFT_at (D : FVec Ideal S4096x1024 .f32) (i s : Fin 8) (q : Fin 1024) :
    DSHIFT D (ix3 i s q) = ∑ x : Fin 64, D (ix2 (rowIn i (rowOf x s)) q) := by
  pointwise [DSHIFT, FOLD, ROWS]
  simp only [Fin.sum_univ_one, rowIn, rowOf, ← Nat.add_assoc]

open NormGrad in
theorem DSCALE_at (D X : FVec Ideal S4096x1024 .f32) (g : FVec Ideal S1x1024 .f32) (i s : Fin 8) (q : Fin 1024) :
    DSCALE D X g (ix3 i s q) = ∑ x : Fin 64, X (ix2 (rowIn i (rowOf x s)) q) * rs (fun k => X (ix2 (rowIn i (rowOf x s)) k))
      * g (ix2 0 q) * D (ix2 (rowIn i (rowOf x s)) q) := by
  pointwise [DSCALE, FOLD, ROWS, NORM, VAR, ONES, GAIN, COPIES]
  simp only [Fin.sum_univ_one, rowIn, rowOf, ← Nat.add_assoc]
  rfl

open NormGrad in
theorem DGAIN_at (D X : FVec Ideal S4096x1024 .f32) (g : FVec Ideal S1x1024 .f32) (i s : Fin 8) (q : Fin 1024) :
    DGAIN D X g (ix3 i s q) = ∑ x : Fin 64, X (ix2 (rowIn i (rowOf x s)) q) * rs (fun k => X (ix2 (rowIn i (rowOf x s)) k))
      * (D (ix2 (rowIn i (rowOf x s)) q) * (1 + g (ix2 0 q))) := by
  pointwise [DGAIN, FOLD, ROWS, NORM, VAR, ONES, DN, SCALE, COPIES]
  simp only [Fin.sum_univ_one, rowIn, rowOf, ← Nat.add_assoc]
  rfl

theorem DGATE_at (E A : FVec Ideal S4096x1024 .f32) (i s : Fin 8) (q : Fin 1024) :
    DGATE E A (ix3 i s q) = ∑ x : Fin 64, A (ix2 (rowIn i (rowOf x s)) q) * E (ix2 (rowIn i (rowOf x s)) q) := by
  pointwise [DGATE, FOLD, ROWS]
  simp only [Fin.sum_univ_one, rowIn, rowOf, ← Nat.add_assoc]

end Cert.Kernel2Ideal.NormBwd

end
-- ==== Proof.UpDxRef.lean ====
/-
  The reference's terms of the gradient through the first product of the MLP and the norm before it: the product, and the
  results as the shared terms of it.
-/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.NormBwd

@[expose] public section

set_option maxRecDepth 16384

noncomputable section

open Idealize.ShloMosaic Idealize.ShloMosaic.TcCoe Idealize.SL.Sem
open Idealize.ShloMosaic.Pipeline (Dat)

namespace Cert.Kernel2Ideal.UpDxRef

open Cert.Kernel2Ideal Cert.Kernel2Ideal.Gen

open Cert.Kernel2Ideal.NormBwd

/-- The gradient of the activation: the product of the hidden layer's gradient with the weight, whose eight slabs of hidden
columns are laid side by side. -/
abbrev DOT (d : FVec Ideal S4096x4096 .bf16) (w : FVec Ideal S8x1024x512 .bf16) : FVec Ideal S4096x1024 .f32 :=
  Host.dotGeneral Cert.Reference2Ideal.dot_S4096x4096_S1024x4096_S4096x1024_1_1_0_0_n_n none (extf .f32 d Cert.Reference2Ideal.Gen.bitsLt_bf16_f32)
    (shapeCast Cert.Reference2Ideal.S1024x4096 (transpose Cert.Reference2Ideal.S1024x8x512 [1, 0, 2] (extf .f32 w Cert.Reference2Ideal.Gen.bitsLt_bf16_f32)
      Cert.Reference2Ideal.Gen.transposes_S8x1024x512_S1024x8x512_1_0_2) Cert.Reference2Ideal.Gen.shapeCasts_S1024x8x512_S1024x4096)

theorem DOT_congr {d d' : FVec Ideal S4096x4096 .bf16} {w w' : FVec Ideal S8x1024x512 .bf16} (a : d = d') (b : w = w') :
    DOT d w = DOT d' w' := by cases a; cases b; rfl

/-- The reference run's own terms are the arrays above, of its arguments. -/
theorem ref8 (m : (ℓ : Loc Cert.Reference2Ideal.nD Cert.Reference2Ideal.τ Cert.Reference2Ideal.sig) → Buf (Elt Ideal) ℓ) (c : Dev Cert.Reference2Ideal.nD) :
    Cert.Reference2Ideal.Value.res_main_v74 (F := Ideal) m c
      = DX (m (c.tc.loc Cert.Reference2Ideal.main_arg3)) (DOT (m (c.tc.loc Cert.Reference2Ideal.main_arg0)) (m (c.tc.loc Cert.Reference2Ideal.main_arg1))) (m (c.tc.loc Cert.Reference2Ideal.main_arg2))
          (m (c.tc.loc Cert.Reference2Ideal.main_arg5)) (m (c.tc.loc Cert.Reference2Ideal.main_arg6)) := by
  unfold Cert.Reference2Ideal.Value.res_main_v74
  rfl
theorem ref9 (m : (ℓ : Loc Cert.Reference2Ideal.nD Cert.Reference2Ideal.τ Cert.Reference2Ideal.sig) → Buf (Elt Ideal) ℓ) (c : Dev Cert.Reference2Ideal.nD) :
    Cert.Reference2Ideal.Value.res_main_v87 (F := Ideal) m c
      = GATED (DX (m (c.tc.loc Cert.Reference2Ideal.main_arg3)) (DOT (m (c.tc.loc Cert.Reference2Ideal.main_arg0)) (m (c.tc.loc Cert.Reference2Ideal.main_arg1))) (m (c.tc.loc Cert.Reference2Ideal.main_arg2))
          (m (c.tc.loc Cert.Reference2Ideal.main_arg5)) (m (c.tc.loc Cert.Reference2Ideal.main_arg6))) (m (c.tc.loc Cert.Reference2Ideal.main_arg7)) := by
  unfold Cert.Reference2Ideal.Value.res_main_v87
  rfl

end Cert.Kernel2Ideal.UpDxRef

end
-- ==== Proof.UpDx.lean ====
/-
  The gradient through the first product of the MLP and the modulated norm before it: the gradient of the residual stream, the
  same gated, and the gradients of the copies of shift, scale, gain and gate.

  WHAT A BLOCK COMPUTES: the two points of a tile of 512 rows each multiply the hidden layer's gradient by four slabs of `w1`, of
  512 hidden columns each; the first leaves its part in the accumulator, the second adds its own. The second then has the tile
  of the product `D`, normalises the rows `x`, forms the gradient of a normalised row times a gain and one plus a scale, adds
  the residual's gradient, multiplies by the gate, and sums over the rows of each of eight copies.
  WHAT THE ARRAYS HOLD: the eight tiles cover every array, so each is one function of the arguments.
  WHAT THE REFERENCE COMPUTES: the product over all 4096 hidden columns and the derivative of the norm on all rows.
  THE EQUATIONS: a sum over 4096 columns is eight sums over 512; products may be written in either order; and the two ways to
  write the gradient of a normalised row agree where all numbers are finite (`NormGrad.grad_eq`), which is the precondition. The
  four sums need no precondition.
-/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.NormGrad
public import proofs.«01_k».proof.Proof.UpDxRef
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel2Ideal.UpDx

open Cert.Kernel2Ideal Cert.Kernel2Ideal.Gen

open Cert.Kernel2Ideal.NormBwd Cert.Kernel2Ideal.UpDxRef

variable (m : (ℓ : Loc nD τ sig) → Buf (Elt Ideal) ℓ) (c : Dev nD)

/-- Which block each window stages at grid point `t`: rows tile `t / 2`, half `t % 2` of the hidden columns. -/
theorem idx : ∀ t : Fin cfg0.N, win0_0.index t = ![t.val / 2, t.val % 2] ∧ win0_1.index t = ![t.val % 2, 0, 0]
    ∧ win0_2.index t = ![t.val / 2, 0] ∧ win0_3.index t = ![t.val / 2, 0] ∧ win0_4.index t = ![t.val / 2, 0] ∧ win0_5.index t = ![0, 0]
    ∧ win0_6.index t = ![0, 0] ∧ win0_7.index t = ![0, 0] ∧ win0_8.index t = ![t.val / 2, 0] ∧ win0_9.index t = ![t.val / 2, 0]
    ∧ win0_10.index t = ![t.val / 2, 0, 0] ∧ win0_11.index t = ![t.val / 2, 0, 0] ∧ win0_12.index t = ![t.val / 2, 0, 0]
    ∧ win0_13.index t = ![t.val / 2, 0, 0] :=
  (by decide +kernel : ∀ t : Fin grid0.N, _)

/-- The product at one grid point: four slabs of 512 hidden columns, one after the other. -/
abbrev part (t : Fin cfg0.N) : FVec Ideal S512x1024 .f32 :=
  k0_pay1 (iblk m c 0 t) (View.ld (iblk m c 1 t) (Rect.unit ![0, 0, 0] ![1, 1024, 512] inb_S4x1024x512_S1x1024x512_0_0_0))
    (View.ld (iblk m c 1 t) (Rect.unit ![1, 0, 0] ![1, 1024, 512] inb_S4x1024x512_S1x1024x512_1_0_0))
    (View.ld (iblk m c 1 t) (Rect.unit ![2, 0, 0] ![1, 1024, 512] inb_S4x1024x512_S1x1024x512_2_0_0))
    (View.ld (iblk m c 1 t) (Rect.unit ![3, 0, 0] ![1, 1024, 512] inb_S4x1024x512_S1x1024x512_3_0_0))

/-- The accumulator after a point. -/
abbrev acc (t : Fin cfg0.N) : FVec Ideal S512x1024 .f32 := (outsAt0 m c t.val t.isLt).2.2.2.2.2.2

/-- A point that starts a tile leaves its own product in the accumulator. -/
theorem carry_A (t : Fin cfg0.N) (h0 : t.val % 2 = 0) (h1 : ¬t.val % 2 = 1) (j : S512x1024.Idx) : acc m c t j = part m c t j := by
  show (outsAt0 m c t.val t.isLt).2.2.2.2.2.2 j = _
  rw [outsAt0_A m c t h0 h1 h1]
  frame_out
  pointwise [k0_pay2]
  rfl

/-- A point that ends a tile adds its own product. -/
theorem carry_B (t : Fin cfg0.N) (h0 : ¬t.val % 2 = 0) (h1 : t.val % 2 = 1) (j : S512x1024.Idx) :
    acc m c t j = (outsAt0 m c (t.val - 1) (Nat.lt_of_le_of_lt (Nat.sub_le _ _) t.isLt)).2.2.2.2.2.2 j + part m c t j := by
  show (outsAt0 m c t.val t.isLt).2.2.2.2.2.2 j = _
  rw [outsAt0_B m c t h0 h1 h1]
  frame_out
  pointwise [k0_pay3]
  rw [(Memref.isWhole_whole cc0_scratch0).read_unread]
  rfl

/-- The results at a point that ends a tile, of the accumulator. -/
theorem dx_B (t : Fin cfg0.N) (h0 : ¬t.val % 2 = 0) (h1 : t.val % 2 = 1) (j : S512x1024.Idx) :
    (outsAt0 m c t.val t.isLt).1 j = k0_pay12 (acc m c t) (iblk m c 2 t) (iblk m c 3 t) (iblk m c 5 t) (iblk m c 6 t) j := by
  show (outsAt0 m c t.val t.isLt).1 j = k0_pay12 (outsAt0 m c t.val t.isLt).2.2.2.2.2.2 _ _ _ _ j
  rw [outsAt0_B m c t h0 h1 h1]
  frame_out
theorem gated_B (t : Fin cfg0.N) (h0 : ¬t.val % 2 = 0) (h1 : t.val % 2 = 1) (j : S512x1024.Idx) :
    (outsAt0 m c t.val t.isLt).2.1 j
      = k0_pay4 (iblk m c 7 t) (k0_pay12 (acc m c t) (iblk m c 2 t) (iblk m c 3 t) (iblk m c 5 t) (iblk m c 6 t)) j := by
  show (outsAt0 m c t.val t.isLt).2.1 j = k0_pay4 _ (k0_pay12 (outsAt0 m c t.val t.isLt).2.2.2.2.2.2 _ _ _ _) j
  rw [outsAt0_B m c t h0 h1 h1]
  frame_out
theorem shift_B (t : Fin cfg0.N) (h0 : ¬t.val % 2 = 0) (h1 : t.val % 2 = 1) (j : S1x8x1024.Idx) :
    (outsAt0 m c t.val t.isLt).2.2.1 j = k0_pay5 (F := Ideal) (k0_pay13 (acc m c t)) j := by
  show (outsAt0 m c t.val t.isLt).2.2.1 j = k0_pay5 (F := Ideal) (k0_pay13 (outsAt0 m c t.val t.isLt).2.2.2.2.2.2) j
  rw [outsAt0_B m c t h0 h1 h1]
  frame_out
theorem scale_B (t : Fin cfg0.N) (h0 : ¬t.val % 2 = 0) (h1 : t.val % 2 = 1) (j : S1x8x1024.Idx) :
    (outsAt0 m c t.val t.isLt).2.2.2.1 j = k0_pay6 (k0_pay14 (acc m c t) (iblk m c 2 t) (iblk m c 5 t)) j := by
  show (outsAt0 m c t.val t.isLt).2.2.2.1 j = k0_pay6 (k0_pay14 (outsAt0 m c t.val t.isLt).2.2.2.2.2.2 _ _) j
  rw [outsAt0_B m c t h0 h1 h1]
  frame_out
theorem gain_B (t : Fin cfg0.N) (h0 : ¬t.val % 2 = 0) (h1 : t.val % 2 = 1) (j : S1x8x1024.Idx) :
    (outsAt0 m c t.val t.isLt).2.2.2.2.1 j = k0_pay7 (k0_pay10 (iblk m c 2 t)) (k0_pay11 (acc m c t) (iblk m c 6 t)) j := by
  show (outsAt0 m c t.val t.isLt).2.2.2.2.1 j = k0_pay7 _ (k0_pay11 (outsAt0 m c t.val t.isLt).2.2.2.2.2.2 _) j
  rw [outsAt0_B m c t h0 h1 h1]
  frame_out
theorem gate_B (t : Fin cfg0.N) (h0 : ¬t.val % 2 = 0) (h1 : t.val % 2 = 1) (j : S1x8x1024.Idx) :
    (outsAt0 m c t.val t.isLt).2.2.2.2.2.1 j = k0_pay8 (iblk m c 3 t) (iblk m c 4 t) j := by
  rw [outsAt0_B m c t h0 h1 h1]
  frame_out

/-- A sum over 2048 columns, as four sums over 512. -/
theorem sum_quarters (f : Fin 2048 → EReal) :
    ∑ k, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_two_halves (N := 2048) 1536 512 rfl, Fin.sum_univ_two_halves (N := 1536) 1024 512 rfl,
    Fin.sum_univ_two_halves (N := 1024) 512 512 rfl]

/-- The blocks staged at a point, as arrays. -/
abbrev dBlk (t : Fin cfg0.N) : FVec Ideal S512x2048 .bf16 := iblk m c 0 t
abbrev wBlk (t : Fin cfg0.N) : FVec Ideal S4x1024x512 .bf16 := iblk m c 1 t
abbrev xBlk (t : Fin cfg0.N) : FVec Ideal S512x1024 .f32 := iblk m c 2 t
abbrev eBlk (t : Fin cfg0.N) : FVec Ideal S512x1024 .f32 := iblk m c 3 t
abbrev aBlk (t : Fin cfg0.N) : FVec Ideal S512x1024 .f32 := iblk m c 4 t
abbrev gainBlk (t : Fin cfg0.N) : FVec Ideal S1x1024 .f32 := iblk m c 5 t
abbrev scaleBlk (t : Fin cfg0.N) : FVec Ideal S1x1024 .f32 := iblk m c 6 t
abbrev gateBlk (t : Fin cfg0.N) : FVec Ideal S1x1024 .f32 := iblk m c 7 t

/-- One entry of the product at a point, of the staged rows and slabs. -/
theorem part_entries (t : Fin cfg0.N) (a : Fin 512) (b : Fin 1024) :
    part m c t (ix2 a b)
    = (∑ k : Fin 512, dBlk m c t (ix2 a ⟨k.val, by omega⟩) * wBlk m c t (ix3 0 b k))
      + (∑ k : Fin 512, dBlk m c t (ix2 a ⟨512 + k.val, by omega⟩) * wBlk m c t (ix3 1 b k))
      + (∑ k : Fin 512, dBlk m c t (ix2 a ⟨1024 + k.val, by omega⟩) * wBlk m c t (ix3 2 b k))
      + ∑ k : Fin 512, dBlk m c t (ix2 a ⟨1536 + k.val, by omega⟩) * wBlk m c t (ix3 3 b k) := by
  pointwise [part, k0_pay1]

/-- One entry of the reference's product. -/
theorem DOT_at (d : FVec Ideal S4096x4096 .bf16) (w : FVec Ideal S8x1024x512 .bf16) (p : Fin 4096) (q : Fin 1024) :
    DOT d w (ix2 p q) = ∑ k : Fin 4096, d (ix2 p k) * w (ix3 ⟨k.val / 512, by omega⟩ q ⟨k.val % 512, by omega⟩) := by
  pointwise [DOT]

/-- The tile grid point `t` works on. -/
def tileOf (t : Fin cfg0.N) : Fin 8 := ⟨t.val / 2, by have h : t.val < 16 := t.isLt; omega⟩

/-- Entries of the staged blocks, at the places of the arrays. -/
theorem d_at (t : Fin cfg0.N) (a : Fin 512) (k : Fin 2048) :
    dBlk m c t (ix2 a k) = (m ((c : Thread nD τ).loc main_arg0) : FVec Ideal S4096x4096 .bf16)
      (ix2 (rowIn (tileOf t) a) ⟨t.val % 2 * 2048 + k.val, by omega⟩) := by
  simp only [dBlk, wBlk, iblk]
  entry_read
  blk_point [iblk, V, idx t, rowIn, tileOf]
theorem w_at (t : Fin cfg0.N) (s : Fin 4) (b : Fin 1024) (k : Fin 512) :
    wBlk m c t (ix3 s b k) = (m ((c : Thread nD τ).loc main_arg1) : FVec Ideal S8x1024x512 .bf16)
      (ix3 ⟨t.val % 2 * 4 + s.val, by omega⟩ b k) := by
  simp only [dBlk, wBlk, iblk]
  entry_read
  blk_point [iblk, V, idx t]

/-- A term of the product depends on the numbers of its places only. -/
theorem term_congr (d : FVec Ideal S4096x4096 .bf16) (w : FVec Ideal S8x1024x512 .bf16) {p p' k k' : Fin 4096} {s s' : Fin 8}
    {r r' : Fin 512} (b : Fin 1024) (e : p.val = p'.val) (e1 : k.val = k'.val) (e2 : s.val = s'.val) (e3 : r.val = r'.val) :
    d (ix2 p k) * w (ix3 s b r) = d (ix2 p' k') * w (ix3 s' b r') := by
  obtain rfl := Fin.ext e
  obtain rfl := Fin.ext e1
  obtain rfl := Fin.ext e2
  obtain rfl := Fin.ext e3
  rfl

abbrev dArg : FVec Ideal S4096x4096 .bf16 := m ((c : Thread nD τ).loc main_arg0)
abbrev wArg : FVec Ideal S8x1024x512 .bf16 := m ((c : Thread nD τ).loc main_arg1)

/-- The product at a point is the reference's sum over one half of the hidden columns. -/
theorem part_at (t : Fin cfg0.N) (a : Fin 512) (b : Fin 1024) :
    part m c t (ix2 a b) = ∑ k : Fin 2048, dArg m c (ix2 (rowIn (tileOf t) a) ⟨t.val % 2 * 2048 + k.val, by omega⟩)
      * wArg m c (ix3 ⟨(t.val % 2 * 2048 + k.val) / 512, by omega⟩ b ⟨(t.val % 2 * 2048 + k.val) % 512, by omega⟩) := by
  rw [part_entries, sum_quarters]
  simp only [d_at, w_at]
  refine congrArg₂ (· + ·) (congrArg₂ (· + ·) (congrArg₂ (· + ·)
      (Finset.sum_congr rfl fun k _ => ?_) (Finset.sum_congr rfl fun k _ => ?_))
      (Finset.sum_congr rfl fun k _ => ?_)) (Finset.sum_congr rfl fun k _ => ?_)
  all_goals
    have hk := k.isLt
    refine term_congr _ _ b rfl ?_ ?_ ?_ <;> simp <;> omega

/-- The reference's product, of the call's arguments. -/
abbrev dot : FVec Ideal S4096x1024 .f32 := DOT (dArg m c) (wArg m c)

/-- The accumulator of a point that ends a tile holds the reference's product. -/
theorem acc_at (t : Fin cfg0.N) (ht : t.val % 2 = 1) (a : Fin 512) (b : Fin 1024) :
    acc m c t (ix2 a b) = dot m c (ix2 (rowIn (tileOf t) a) b) := by
  have hs : t.val - 1 < cfg0.N := Nat.lt_of_le_of_lt (Nat.sub_le _ _) t.isLt
  have e := carry_A m c ⟨t.val - 1, hs⟩ (by show (t.val - 1) % 2 = 0; omega) (by show ¬(t.val - 1) % 2 = 1; omega) (ix2 a b)
  rw [carry_B m c t (by omega) ht]
  refine (congrArg (· + part m c t (ix2 a b)) e).trans ?_
  rw [dot, DOT_at, Fin.sum_univ_two_halves (N := 4096) 2048 2048 rfl, part_at, part_at]
  refine congrArg₂ (· + ·) (Finset.sum_congr rfl fun k _ => ?_) (Finset.sum_congr rfl fun k _ => ?_)
  · have hk := k.isLt
    refine term_congr _ _ b ?_ ?_ ?_ ?_ <;> simp [rowIn, tileOf] <;> omega
  · have hk := k.isLt
    refine term_congr _ _ b ?_ ?_ ?_ ?_ <;> simp [rowIn, tileOf] <;> omega

/-- The other arguments of the call. -/
abbrev xArg : FVec Ideal S4096x1024 .f32 := m ((c : Thread nD τ).loc main_arg2)
abbrev eArg : FVec Ideal S4096x1024 .f32 := m ((c : Thread nD τ).loc main_arg3)
abbrev aArg : FVec Ideal S4096x1024 .f32 := m ((c : Thread nD τ).loc main_arg4)
abbrev gainArg : FVec Ideal S1x1024 .f32 := m ((c : Thread nD τ).loc main_arg5)
abbrev scaleArg : FVec Ideal S1x1024 .f32 := m ((c : Thread nD τ).loc main_arg6)
abbrev gateArg : FVec Ideal S1x1024 .f32 := m ((c : Thread nD τ).loc main_arg7)

theorem x_at (t : Fin cfg0.N) (a : Fin 512) (k : Fin 1024) : xBlk m c t (ix2 a k) = xArg m c (ix2 (rowIn (tileOf t) a) k) := by
  simp only [xBlk, iblk]
  entry_read
  blk_point [iblk, V, idx t, rowIn, tileOf]
theorem e_at (t : Fin cfg0.N) (a : Fin 512) (k : Fin 1024) : eBlk m c t (ix2 a k) = eArg m c (ix2 (rowIn (tileOf t) a) k) := by
  simp only [eBlk, iblk]
  entry_read
  blk_point [iblk, V, idx t, rowIn, tileOf]
theorem a_at (t : Fin cfg0.N) (a : Fin 512) (k : Fin 1024) : aBlk m c t (ix2 a k) = aArg m c (ix2 (rowIn (tileOf t) a) k) := by
  simp only [aBlk, iblk]
  entry_read
  blk_point [iblk, V, idx t, rowIn, tileOf]
theorem gain_at (t : Fin cfg0.N) (k : Fin 1024) : gainBlk m c t (ix2 0 k) = gainArg m c (ix2 0 k) := by
  simp only [gainBlk, iblk]
  entry_read
  blk_point [iblk, V, idx t]
theorem scale_at (t : Fin cfg0.N) (k : Fin 1024) : scaleBlk m c t (ix2 0 k) = scaleArg m c (ix2 0 k) := by
  simp only [scaleBlk, iblk]
  entry_read
  blk_point [iblk, V, idx t]
theorem gate_at (t : Fin cfg0.N) (k : Fin 1024) : gateBlk m c t (ix2 0 k) = gateArg m c (ix2 0 k) := by
  simp only [gateBlk, iblk]
  entry_read
  blk_point [iblk, V, idx t]

/-- Where a result window puts an entry of its tile. -/
theorem emb8 (X : FVec Ideal S4096x1024 .f32) (t : Fin cfg0.N) (a : Fin 512) (k : Fin 1024) :
    X (((cfg0.win 8).blk t).view.emb (ix2 a k)) = X (ix2 (rowIn (tileOf t) a) k) := by
  blk_point [idx t, rowIn, tileOf]
theorem emb9 (X : FVec Ideal S4096x1024 .bf16) (t : Fin cfg0.N) (a : Fin 512) (k : Fin 1024) :
    X (((cfg0.win 9).blk t).view.emb (ix2 a k)) = X (ix2 (rowIn (tileOf t) a) k) := by
  blk_point [idx t, rowIn, tileOf]
theorem emb10 (X : FVec Ideal S8x8x1024 .f32) (t : Fin cfg0.N) (s : Fin 8) (k : Fin 1024) :
    X (((cfg0.win 10).blk t).view.emb (ix3 0 s k)) = X (ix3 (tileOf t) s k) := by
  blk_point [idx t, rowIn, tileOf]
theorem emb11 (X : FVec Ideal S8x8x1024 .f32) (t : Fin cfg0.N) (s : Fin 8) (k : Fin 1024) :
    X (((cfg0.win 11).blk t).view.emb (ix3 0 s k)) = X (ix3 (tileOf t) s k) := by
  blk_point [idx t, rowIn, tileOf]
theorem emb12 (X : FVec Ideal S8x8x1024 .f32) (t : Fin cfg0.N) (s : Fin 8) (k : Fin 1024) :
    X (((cfg0.win 12).blk t).view.emb (ix3 0 s k)) = X (ix3 (tileOf t) s k) := by
  blk_point [idx t, rowIn, tileOf]
theorem emb13 (X : FVec Ideal S8x8x1024 .f32) (t : Fin cfg0.N) (s : Fin 8) (k : Fin 1024) :
    X (((cfg0.win 13).blk t).view.emb (ix3 0 s k)) = X (ix3 (tileOf t) s k) := by
  blk_point [idx t, rowIn, tileOf]

open NormGrad in
/-- One entry of each result on a tile, from the tile `D` of the product and the staged blocks. -/
theorem pay12_at (D X E : FVec Ideal S512x1024 .f32) (g s : FVec Ideal S1x1024 .f32) (a : Fin 512) (b : Fin 1024) :
    k0_pay12 (F := Ideal) D X E g s (ix2 a b)
      = E (ix2 a b) + kernelGrad (fun k => X (ix2 a k))
          (dxh (fun k => D (ix2 a k)) (fun k => g (ix2 0 k)) (fun k => s (ix2 0 k))) b := by
  pointwise [k0_pay9, k0_pay10, k0_pay11, k0_pay12]
  rfl
theorem pay4_at (k : FVec Ideal S1x1024 .f32) (Y : FVec Ideal S512x1024 .f32) (a : Fin 512) (b : Fin 1024) :
    k0_pay4 (F := Ideal) k Y (ix2 a b) = Y (ix2 a b) * k (ix2 0 b) := by
  pointwise [k0_pay4]
theorem pay5_at (D : FVec Ideal S512x1024 .f32) (i : Fin 1) (s : Fin 8) (q : Fin 1024) :
    k0_pay5 (F := Ideal) (k0_pay13 D) (ix3 i s q) = ∑ x : Fin 64, D (ix2 (rowOf x s) q) := by
  pointwise [k0_pay5, k0_pay13]
  rfl
open NormGrad in
theorem pay6_at (D X : FVec Ideal S512x1024 .f32) (g : FVec Ideal S1x1024 .f32) (i : Fin 1) (s : Fin 8) (q : Fin 1024) :
    k0_pay6 (F := Ideal) (k0_pay14 D X g) (ix3 i s q)
      = ∑ x : Fin 64, D (ix2 (rowOf x s) q) * (X (ix2 (rowOf x s) q) * rs (fun k => X (ix2 (rowOf x s) k)) * g (ix2 0 q)) := by
  pointwise [k0_pay6, k0_pay9, k0_pay10, k0_pay14]
  rfl
open NormGrad in
theorem pay7_at (D X : FVec Ideal S512x1024 .f32) (g : FVec Ideal S1x1024 .f32) (i : Fin 1) (s : Fin 8) (q : Fin 1024) :
    k0_pay7 (F := Ideal) (k0_pay10 X) (k0_pay11 D g) (ix3 i s q)
      = ∑ x : Fin 64, D (ix2 (rowOf x s) q) * (1 + g (ix2 0 q)) * (X (ix2 (rowOf x s) q) * rs (fun k => X (ix2 (rowOf x s) k))) := by
  pointwise [k0_pay7, k0_pay9, k0_pay10, k0_pay11]
  rfl
theorem pay8_at (E A : FVec Ideal S512x1024 .f32) (i : Fin 1) (s : Fin 8) (q : Fin 1024) :
    k0_pay8 (F := Ideal) E A (ix3 i s q) = ∑ x : Fin 64, E (ix2 (rowOf x s) q) * A (ix2 (rowOf x s) q) := by
  pointwise [k0_pay8]
  rfl

/-- The gate's sums after the run. -/
theorem final13 : (dats m 0 c).arrAt 13 cfg0.N = DGATE (eArg m c) (aArg m c) := by
  refine (dats m 0 c).arrAt_eq_of_covers 13 _ (by decide +kernel) fun t hf y => ?_
  have ht := (flush0_13 t).mp hf
  blk_simp
  rw [after0_13, gate_B m c t (by omega) ht]
  obtain ⟨i, s, q, rfl⟩ : ∃ (i : Fin 1) (s : Fin 8) (q : Fin 1024), y = ix3 i s q := ⟨y 0, y 1, y 2, eq_ix3 y⟩
  obtain rfl : i = 0 := Subsingleton.elim _ _
  refine (pay8_at (eBlk m c t) (aBlk m c t) 0 s q).trans ?_
  rw [emb13 (DGATE (eArg m c) (aArg m c)), DGATE_at]
  simp only [e_at, a_at]
  exact Finset.sum_congr rfl fun x _ => mul_comm _ _

/-- The shift's sums after the run. -/
theorem final10 : (dats m 0 c).arrAt 10 cfg0.N = DSHIFT (dot m c) := by
  refine (dats m 0 c).arrAt_eq_of_covers 10 _ (by decide +kernel) fun t hf y => ?_
  have ht := (flush0_10 t).mp hf
  blk_simp
  rw [after0_10, shift_B m c t (by omega) ht]
  obtain ⟨i, s, q, rfl⟩ : ∃ (i : Fin 1) (s : Fin 8) (q : Fin 1024), y = ix3 i s q := ⟨y 0, y 1, y 2, eq_ix3 y⟩
  obtain rfl : i = 0 := Subsingleton.elim _ _
  refine (pay5_at (acc m c t) 0 s q).trans ?_
  rw [emb10 (DSHIFT (dot m c)), DSHIFT_at]
  simp only [acc_at m c t ht]

/-- The scale's sums after the run. -/
theorem final11 : (dats m 0 c).arrAt 11 cfg0.N = DSCALE (dot m c) (xArg m c) (gainArg m c) := by
  refine (dats m 0 c).arrAt_eq_of_covers 11 _ (by decide +kernel) fun t hf y => ?_
  have ht := (flush0_11 t).mp hf
  blk_simp
  rw [after0_11, scale_B m c t (by omega) ht]
  obtain ⟨i, s, q, rfl⟩ : ∃ (i : Fin 1) (s : Fin 8) (q : Fin 1024), y = ix3 i s q := ⟨y 0, y 1, y 2, eq_ix3 y⟩
  obtain rfl : i = 0 := Subsingleton.elim _ _
  refine (pay6_at (acc m c t) (xBlk m c t) (gainBlk m c t) 0 s q).trans ?_
  rw [emb11 (DSCALE (dot m c) (xArg m c) (gainArg m c)), DSCALE_at]
  simp only [acc_at m c t ht, x_at, gain_at]
  exact Finset.sum_congr rfl fun x _ => mul_comm _ _

/-- The gain's sums after the run. -/
theorem final12 : (dats m 0 c).arrAt 12 cfg0.N = DGAIN (dot m c) (xArg m c) (scaleArg m c) := by
  refine (dats m 0 c).arrAt_eq_of_covers 12 _ (by decide +kernel) fun t hf y => ?_
  have ht := (flush0_12 t).mp hf
  blk_simp
  rw [after0_12, gain_B m c t (by omega) ht]
  obtain ⟨i, s, q, rfl⟩ : ∃ (i : Fin 1) (s : Fin 8) (q : Fin 1024), y = ix3 i s q := ⟨y 0, y 1, y 2, eq_ix3 y⟩
  obtain rfl : i = 0 := Subsingleton.elim _ _
  refine (pay7_at (acc m c t) (xBlk m c t) (scaleBlk m c t) 0 s q).trans ?_
  rw [emb12 (DGAIN (dot m c) (xArg m c) (scaleArg m c)), DGAIN_at]
  simp only [acc_at m c t ht, x_at, scale_at]
  exact Finset.sum_congr rfl fun x _ => mul_comm _ _

/-- The numbers the gradient of the rows is formed of are finite. -/
def Finite : Prop :=
  (∀ j, NormGrad.IsReal (dArg m c j)) ∧ (∀ j, NormGrad.IsReal (wArg m c j)) ∧ (∀ j, NormGrad.IsReal (xArg m c j))
  ∧ (∀ j, NormGrad.IsReal (gainArg m c j)) ∧ (∀ j, NormGrad.IsReal (scaleArg m c j))

/-- Then the gradient of the normalised row is real. -/
theorem real_dxh (h : Finite m c) (p : Fin 4096) (k : Fin 1024) :
    NormGrad.IsReal (dxh (fun k => dot m c (ix2 p k)) (fun k => gainArg m c (ix2 0 k)) (fun k => scaleArg m c (ix2 0 k)) k) := by
  obtain ⟨h0, h1, -, h3, h4⟩ := h
  have d : NormGrad.IsReal (dot m c (ix2 p k)) := by
    rw [dot, DOT_at]
    exact NormGrad.IsReal.sum _ fun k => (h0 _).mul (h1 _)
  exact (d.mul (NormGrad.IsReal.add ⟨1, rfl⟩ (h4 _))).mul (h3 _)

/-- The reference's gradient of the rows, of the call's arguments. -/
abbrev dx : FVec Ideal S4096x1024 .f32 := DX (eArg m c) (dot m c) (xArg m c) (gainArg m c) (scaleArg m c)

/-- An entry of the gradient: the body's is the reference's. -/
theorem grad_at (h : Finite m c) (t : Fin cfg0.N) (ht : t.val % 2 = 1) (a : Fin 512) (b : Fin 1024) :
    k0_pay12 (acc m c t) (xBlk m c t) (eBlk m c t) (gainBlk m c t) (scaleBlk m c t) (ix2 a b) = dx m c (ix2 (rowIn (tileOf t) a) b) := by
  rw [pay12_at, dx, DX_at]
  simp only [acc_at m c t ht, x_at, e_at, gain_at, scale_at]
  exact congrArg (_ + ·) (NormGrad.grad_eq (fun k => h.2.2.1 _) (fun k => real_dxh m c h _ k) b)

/-- The gradient of the rows after the run. -/
theorem final8 (h : Finite m c) : (dats m 0 c).arrAt 8 cfg0.N = dx m c := by
  refine (dats m 0 c).arrAt_eq_of_covers 8 _ (by decide +kernel) fun t hf y => ?_
  have ht := (flush0_8 t).mp hf
  blk_simp
  rw [after0_8, dx_B m c t (by omega) ht]
  obtain ⟨a, b, rfl⟩ : ∃ (a : Fin 512) (b : Fin 1024), y = ix2 a b := ⟨y 0, y 1, eq_ix2 y⟩
  exact (grad_at m c h t ht a b).trans (emb8 (dx m c) t a b).symm

/-- The gated gradient after the run. -/
theorem final9 (h : Finite m c) : (dats m 0 c).arrAt 9 cfg0.N = GATED (dx m c) (gateArg m c) := by
  refine (dats m 0 c).arrAt_eq_of_covers 9 _ (by decide +kernel) fun t hf y => ?_
  have ht := (flush0_9 t).mp hf
  blk_simp
  rw [after0_9, gated_B m c t (by omega) ht]
  obtain ⟨a, b, rfl⟩ : ∃ (a : Fin 512) (b : Fin 1024), y = ix2 a b := ⟨y 0, y 1, eq_ix2 y⟩
  refine (pay4_at (gateBlk m c t) _ a b).trans ?_
  rw [emb9 (GATED (dx m c) (gateArg m c)), GATED_at]
  exact congrArg₂ (· * ·) (grad_at m c h t ht a b) (gate_at m c t b)

/-- The side facts of the precondition's own text. -/
instance preFacts : Cert.Pre_finite_up_dx.Facts where
  bitsLt_bf16_f32 := by decide
  bcast_S_S4096x4096 := by decide
  reducesTo_S4096x4096_S_d0_1 := by decide
  h_S_ := by decide
  bcast_S_S8x1024x512 := by decide
  reducesTo_S8x1024x512_S_d0_1_2 := by decide
  bcast_S_S4096x1024 := by decide
  reducesTo_S4096x1024_S_d0_1 := by decide
  bcast_S_S1x1024 := by decide
  reducesTo_S1x1024_S_d0_1 := by decide

/-- The precondition says that these numbers are finite. -/
theorem finite_of [Cert.Pre_finite_up_dx.Facts] (h : Cert.Pre_Kernel2Ideal_finite_up_dx m) : Finite m c := by
  have h0 := congrFun (h c) (fun i => i.elim0)
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun j => NormGrad.isReal_of_test (Host.reduce_andi_all _ _ _ _ _ h0 j),
    fun j => NormGrad.isReal_of_test (Host.reduce_andi_all _ _ _ _ _ h1 j),
    fun j => NormGrad.isReal_of_test (Host.reduce_andi_all _ _ _ _ _ h2 j),
    fun j => NormGrad.isReal_of_test (Host.reduce_andi_all _ _ _ _ _ h3 j),
    fun j => NormGrad.isReal_of_test (Host.reduce_andi_all _ _ _ _ _ h4 j)⟩

set_option maxHeartbeats 1600000 in
/-- The kernel's six results are the reference's, from any memory in which their arguments agree and are finite. -/
theorem algebraic [Cert.Pre_finite_up_dx.Facts] : Cert.algebraic_Kernel2Ideal_Reference2Ideal_pre_finite_up_dx := by
  pair_intro
  · run_from Cert.Kernel2Ideal.Gen.run_main m g
  · refine θ_run_mono (Cert.Reference2Ideal.Value.run m' g') fun r hr c => ?_
    obtain ⟨h0, h1, h2, h3, h4, h5, h6, h7⟩ := hagree c
    have hf := finite_of m c hpre
    have d := DOT_congr h0 h1
    have x := DX_congr h3 d h2 h5 h6
    exact ⟨(hr c).1.trans ((ref8 m' c).trans (x.trans (final8 m c hf).symm)),
      (hr c).2.1.trans ((ref9 m' c).trans ((GATED_congr x h7).trans (final9 m c hf).symm)),
      (hr c).2.2.1.trans ((DSHIFT_congr d).trans (final10 m c).symm),
      (hr c).2.2.2.1.trans ((DSCALE_congr d h2 h5).trans (final11 m c).symm),
      (hr c).2.2.2.2.1.trans ((DGAIN_congr d h2 h6).trans (final12 m c).symm),
      (hr c).2.2.2.2.2.1.trans ((DGATE_congr h3 h4).trans (final13 m c).symm), (hr c).2.2.2.2.2.2⟩

end Cert.Kernel2Ideal.UpDx

end
-- ==== Proof.OutDx.lean ====
/-
  The gradient of the output projection (`ycat · w_out`) with respect to the mixed activation `ycat`.

  WHAT A BLOCK COMPUTES: grid point `t` multiplies 1024 rows of `dm1` by the transposed weight.
  WHAT THE ARRAY HOLDS: row `p`, column `k` is `∑ n, dm1[p, n] · w_out[k, n]`.
  WHAT THE REFERENCE COMPUTES: the derivative of the product at `ycat`: the same sum.
-/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.OutDx

open Cert.Kernel7Ideal Cert.Kernel7Ideal.Gen

/-- The reference's own term: the gradient of `ycat · w_out` at `ycat`. -/
abbrev REF (D : FVec Ideal S4096x1024 .bf16) (W : FVec Ideal S1024x1024 .f32) : FVec Ideal S4096x1024 .f32 :=
  Host.dotGeneral Cert.Reference7Ideal.dot_S4096x1024_S1024x1024_S4096x1024_1_1_0_0_n_n none
    (extf .f32 D Cert.Reference7Ideal.Gen.bitsLt_bf16_f32) W

variable (m : (ℓ : Loc nD τ sig) → Buf (Elt Ideal) ℓ) (c : Dev nD)

/-- Which block each window stages at grid point `t`: rows tile `t`, the whole weight. -/
theorem idx : ∀ t : Fin cfg0.N, win0_0.index t = ![t.val, 0] ∧ win0_1.index t = ![0, 0] ∧ win0_2.index t = ![t.val, 0] :=
  (by decide +kernel : ∀ t : Fin grid0.N, _)

/-- One tile: the body's value is the reference's tile. -/
theorem point (t : Fin cfg0.N) (y : S1024x1024.Idx) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  simp only [iblk]
  entry_read
  blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's result is the reference's, from any memory in which their arguments agree. -/
theorem algebraic : Cert.algebraic_Kernel7Ideal_Reference7Ideal := by
  pair_intro
  · run_from Cert.Kernel7Ideal.Gen.run_main m g
  · run_from Cert.Reference7Ideal.Value.run m' g'
    exact (final m c).symm

end Cert.Kernel7Ideal.OutDx

end
-- ==== Proof.OutDw.lean ====
/-
  The gradient of the output projection (`ycat · w_out`) with respect to the weight `w_out`.

  WHAT A BLOCK COMPUTES: the grid sweeps the 4096 positions in four quarters. A point multiplies the transposed quarter of
  `ycat` by the quarter's rows of `dm1`; the first quarter's product starts the accumulator, the others are added to it,
  and the last point stores the sum.
  WHAT THE ARRAY HOLDS: row `k`, column `n` is `∑ p, ycat[p, k] · dm1[p, n]` over all 4096 positions.
  WHAT THE REFERENCE COMPUTES: the derivative of the product at `w_out`: the same sum, not cut, factors in the other order.
  THE EQUATION: a sum over 4096 positions is the sum of its four quarters.
-/
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.OutDw

open Cert.Kernel8Ideal Cert.Kernel8Ideal.Gen

/-- The reference's own term: the gradient of `ycat · w_out` at `w_out` for the output gradient `dm1`. -/
abbrev REF (A : FVec Ideal S4096x1024 .bf16) (D : FVec Ideal S4096x1024 .bf16) : FVec Ideal S1024x1024 .f32 :=
  transpose Cert.Reference8Ideal.S1024x1024 [1, 0]
    (Host.dotGeneral Cert.Reference8Ideal.dot_S4096x1024_S4096x1024_S1024x1024_0_0_1_1_n_n none
      (extf .f32 D Cert.Reference8Ideal.Gen.bitsLt_bf16_f32) (extf .f32 A Cert.Reference8Ideal.Gen.bitsLt_bf16_f32))
    Cert.Reference8Ideal.Gen.transposes_S1024x1024_S1024x1024_1_0

variable (m : (ℓ : Loc nD τ sig) → Buf (Elt Ideal) ℓ) (c : Dev nD)

/-- Which block each window stages at grid point `t`: quarter `t` of the positions. -/
theorem idx : ∀ t : Fin cfg0.N, win0_0.index t = ![t.val, 0] ∧ win0_1.index t = ![t.val, 0] ∧ win0_2.index t = ![0, 0] :=
  (by decide +kernel : ∀ t : Fin grid0.N, _)

/-- The first point leaves its own product in the accumulator. -/
theorem carry_A (t : Fin cfg0.N) (h : t.val = 0) (j : S1024x1024.Idx) :
    (outsAt0 m c t.val t.isLt).2 j = k0_pay1 (iblk m c 0 t) (iblk m c 1 t) j := by
  rw [outsAt0_A m c t (by omega) (by omega) (by omega)]
  frame_out
  pointwise [k0_pay2]

/-- A middle point adds its own product to the accumulator. -/
theorem carry_B (t : Fin cfg0.N) (h : 1 ≤ t.val) (h' : t.val < 3) (j : S1024x1024.Idx) :
    (outsAt0 m c t.val t.isLt).2 j
      = (outsAt0 m c (t.val - 1) (Nat.lt_of_le_of_lt (Nat.sub_le _ _) t.isLt)).2 j + k0_pay1 (iblk m c 0 t) (iblk m c 1 t) j := by
  rw [outsAt0_B m c t (by omega) h (by omega)]
  frame_out
  pointwise [k0_pay3]
  rw [(Memref.isWhole_whole cc0_scratch0).read_unread]

/-- The last point leaves the accumulator plus its own product as the result. -/
theorem tile_C (t : Fin cfg0.N) (h : t.val = 3) (j : S1024x1024.Idx) :
    (outsAt0 m c t.val t.isLt).1 j
      = (outsAt0 m c (t.val - 1) (Nat.lt_of_le_of_lt (Nat.sub_le _ _) t.isLt)).2 j + k0_pay1 (iblk m c 0 t) (iblk m c 1 t) j := by
  rw [outsAt0_C m c t (by omega) (by omega) (by omega)]
  frame_out
  pointwise [k0_pay3]
  rw [(Memref.isWhole_whole cc0_scratch0).read_unread]

/-- The four quarters together are the reference's sum: `p`, `q`, `s` are the points before `t`. -/
theorem quarters (p q s t : Fin cfg0.N) (hp : p.val = 0) (hq : q.val = 1) (hs : s.val = 2) (ht : t.val = 3) (y : S1024x1024.Idx) :
    k0_pay1 (iblk m c 0 p) (iblk m c 1 p) y + k0_pay1 (iblk m c 0 q) (iblk m c 1 q) y + k0_pay1 (iblk m c 0 s) (iblk m c 1 s) y
        + k0_pay1 (iblk m c 0 t) (iblk m c 1 t) y
      = REF (m ((c : Thread nD τ).loc main_arg0)) (m ((c : Thread nD τ).loc main_arg1)) (((cfg0.win 2).blk t).view.emb y) := by
  pointwise [k0_pay1, REF]
  rw [Fin.sum_univ_two_halves (N := 4096) 3072 1024 rfl, Fin.sum_univ_two_halves (N := 3072) 2048 1024 rfl,
    Fin.sum_univ_two_halves (N := 2048) 1024 1024 rfl]
  refine congrArg₂ (· + ·) (congrArg₂ (· + ·) (congrArg₂ (· + ·) ?_ ?_) ?_) ?_ <;>
    refine Finset.sum_congr rfl fun k _ => (mul_comm _ _).trans ?_
  · blk_point [iblk, V, idx p, idx t]
  · blk_point [iblk, V, idx q, idx t]
  · blk_point [iblk, V, idx s, idx t]
  · blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have ht : t.val < 4 := t.isLt
  have hm : t.val = 3 := by have := (flush0_2 t).mp hf; omega
  have before : ∀ u : Fin cfg0.N, ∃ s : Fin cfg0.N, s.val = u.val - 1 := fun u =>
    ⟨⟨u.val - 1, Nat.lt_of_le_of_lt (Nat.sub_le _ _) u.isLt⟩, rfl⟩
  obtain ⟨s, hs⟩ := before t
  obtain ⟨q, hq⟩ := before s
  obtain ⟨p, hp⟩ := before q
  have es := carry_B m c s (by omega) (by omega) y
  have eq := carry_B m c q (by omega) (by omega) y
  have ep := carry_A m c p (by omega) y
  simp only [hp] at ep
  simp only [ep] at eq
  simp only [hq] at eq
  simp only [eq] at es
  simp only [hs] at es
  blk_simp
  rw [after0_2, tile_C m c t hm, es]
  exact quarters m c p q s t (by omega) (by omega) (by omega) hm y

/-- The kernel's result is the reference's, from any memory in which their arguments agree. -/
theorem algebraic : Cert.algebraic_Kernel8Ideal_Reference8Ideal := by
  pair_intro
  · run_from Cert.Kernel8Ideal.Gen.run_main m g
  · run_from Cert.Reference8Ideal.Value.run m' g'
    exact (final m c).symm

end Cert.Kernel8Ideal.OutDw

end
-- ==== Proof.Up.lean ====
/-
  The first product of the MLP (`a2 · w1`), stored twice: as it is and transposed.

  WHAT A BLOCK COMPUTES: grid point `t` multiplies 2048 rows of `a2` by slab `t % 8` of the weight (512 columns), and
  stores the product in the tile of `f` and its transpose in the tile of `fᵀ`.
  WHAT THE ARRAYS HOLD: `f[p, 512 s + n] = ∑ k, a2[p, k] · w1[s, k, n]`, and the same numbers transposed.
  WHAT THE REFERENCE COMPUTES: the slabs joined to one weight, one product, and its transpose.
-/
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Up

open Cert.Kernel9Ideal Cert.Kernel9Ideal.Gen

/-- The reference's own term for the product. -/
abbrev REF (A : FVec Ideal S4096x1024 .bf16) (W : FVec Ideal S8x1024x512 .bf16) : FVec Ideal S4096x4096 .bf16 :=
  truncf .bf16 (Host.dotGeneral Cert.Reference9Ideal.dot_S4096x1024_S1024x4096_S4096x4096_1_0_0_1_n_n none
    (extf .f32 A Cert.Reference9Ideal.Gen.bitsLt_bf16_f32)
    (shapeCast _ (transpose Cert.Reference9Ideal.S1024x8x512 [1, 0, 2] (extf .f32 W Cert.Reference9Ideal.Gen.bitsLt_bf16_f32)
      Cert.Reference9Ideal.Gen.transposes_S8x1024x512_S1024x8x512_1_0_2) Cert.Reference9Ideal.Gen.shapeCasts_S1024x8x512_S1024x4096))
    Cert.Reference9Ideal.Gen.bitsLt_bf16_f32

/-- The reference's own term for the transposed product. -/
abbrev REFT (A : FVec Ideal S4096x1024 .bf16) (W : FVec Ideal S8x1024x512 .bf16) : FVec Ideal S4096x4096 .bf16 :=
  transpose Cert.Reference9Ideal.S4096x4096 [1, 0] (REF A W) Cert.Reference9Ideal.Gen.transposes_S4096x4096_S4096x4096_1_0

variable (m : (ℓ : Loc nD τ sig) → Buf (Elt Ideal) ℓ) (c : Dev nD)

/-- Which block each window stages at grid point `t`: rows tile `t / 8`, slab `t % 8`. -/
theorem idx : ∀ t : Fin cfg0.N, win0_0.index t = ![t.val / 8, 0] ∧ win0_1.index t = ![t.val % 8, 0, 0]
    ∧ win0_2.index t = ![t.val / 8, t.val % 8] ∧ win0_3.index t = ![t.val % 8, t.val / 8] :=
  (by decide +kernel : ∀ t : Fin grid0.N, _)

/-- One tile of the product. -/
theorem point (t : Fin cfg0.N) (y : S2048x512.Idx) :
    k0_pay2 (iblk m c 0 t) (iblk m c 1 t) y
      = REF (m ((c : Thread nD τ).loc main_arg0)) (m ((c : Thread nD τ).loc main_arg1)) (((cfg0.win 2).blk t).view.emb y) := by
  pointwise [k0_pay1, k0_pay2, REF]
  blk_point [iblk, V, idx t]

/-- One tile of the transposed product. -/
theorem pointT (t : Fin cfg0.N) (y : S512x2048.Idx) :
    k0_pay3 (iblk m c 0 t) (iblk m c 1 t) y
      = REFT (m ((c : Thread nD τ).loc main_arg0)) (m ((c : Thread nD τ).loc main_arg1)) (((cfg0.win 3).blk t).view.emb y) := by
  pointwise [k0_pay1, k0_pay3, REFT]
  blk_point [iblk, V, idx t]

/-- The whole product after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The whole transposed product after the run. -/
theorem finalT : (dats m 0 c).arrAt 3 cfg0.N
    = REFT (m ((c : Thread nD τ).loc main_arg0)) (m ((c : Thread nD τ).loc main_arg1)) := by
  refine (dats m 0 c).arrAt_eq_of_covers 3 _ (by decide +kernel) fun t _ y => ?_
  blk_simp
  rw [after0_3]
  frame_out
  exact pointT m c t y

/-- The kernel's results are the reference's, from any memory in which their arguments agree. -/
theorem algebraic : Cert.algebraic_Kernel9Ideal_Reference9Ideal := by
  pair_intro
  · run_from Cert.Kernel9Ideal.Gen.run_main m g
  · run_from Cert.Reference9Ideal.Value.run m' g'
    · exact (final m c).symm
    · exact (finalT m c).symm

end Cert.Kernel9Ideal.Up

end
-- ==== Proof.In.lean ====
/-
  The combined input projection (`a · w_in`) of the latent and the context rows.

  WHAT A BLOCK COMPUTES: grid point `t` multiplies 1088 rows of the normed input by the whole weight.
  WHAT THE ARRAY HOLDS: row `p`, column `n` is `∑ k, a[p, k] · w_in[k, n]`, which is the reference's product.
-/
module

public import proofs.«01_k».proof.Defs
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.In

open Cert.Kernel10Ideal Cert.Kernel10Ideal.Gen

/-- The reference's own term: one product. -/
abbrev REF (A : FVec Ideal S4352x1024 .bf16) (W : FVec Ideal S1024x1536 .f32) : FVec Ideal S4352x1536 .f32 :=
  Host.dotGeneral Cert.Reference10Ideal.dot_S4352x1024_S1024x1536_S4352x1536_1_0_0_1_n_n none
    (extf .f32 A Cert.Reference10Ideal.Gen.bitsLt_bf16_f32) W

variable (m : (ℓ : Loc nD τ sig) → Buf (Elt Ideal) ℓ) (c : Dev nD)

/-- Which block each window stages at grid point `t`: rows tile `t`, the whole weight. -/
theorem idx : ∀ t : Fin cfg0.N, win0_0.index t = ![t.val, 0] ∧ win0_1.index t = ![0, 0] ∧ win0_2.index t = ![t.val, 0] :=
  (by decide +kernel : ∀ t : Fin grid0.N, _)

/-- One tile: the body's value is the reference's tile. -/
theorem point (t : Fin cfg0.N) (y : S1088x1536.Idx) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  simp only [iblk]
  entry_read
  blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's result is the reference's, from any memory in which their arguments agree. -/
theorem algebraic : Cert.algebraic_Kernel10Ideal_Reference10Ideal := by
  pair_intro
  · run_from Cert.Kernel10Ideal.Gen.run_main m g
  · run_from Cert.Reference10Ideal.Value.run m' g'
    exact (final m c).symm

end Cert.Kernel10Ideal.In

end
-- ==== Proof.InDw.lean ====
/-
  The gradient of the input projection (`a · w_in`) with respect to the weight `w_in`.

  WHAT A BLOCK COMPUTES: the grid sweeps the 4352 rows in two halves. A point multiplies its half of `aᵀ` by the half's
  rows of `dz`; the first half's product starts the accumulator, the second half's is added, and the sum is stored.
  WHAT THE ARRAY HOLDS: row `k`, column `n` is `∑ p, aᵀ[k, p] · dz[p, n]` over all 4352 rows.
  WHAT THE REFERENCE COMPUTES: the derivative of the product at `w_in`: the same sum, not cut, factors in the other order.
  THE EQUATION: a sum over 4352 rows is the sum over the first 2176 plus the sum over the last 2176.
-/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.InDw

open Cert.Kernel11Ideal Cert.Kernel11Ideal.Gen

/-- The reference's own term: the gradient of `a · w_in` at `w_in` for the projection's gradient `dz`. -/
abbrev REF (A : FVec Ideal S1024x4352 .bf16) (D : FVec Ideal S4352x1536 .bf16) : FVec Ideal S1024x1536 .bf16 :=
  truncf .bf16 (transpose Cert.Reference11Ideal.S1024x1536 [1, 0]
    (Host.dotGeneral Cert.Reference11Ideal.dot_S4352x1536_S4352x1024_S1536x1024_0_0_1_1_n_n none
      (extf .f32 D Cert.Reference11Ideal.Gen.bitsLt_bf16_f32)
      (extf .f32 (transpose Cert.Reference11Ideal.S4352x1024 [1, 0] A Cert.Reference11Ideal.Gen.transposes_S1024x4352_S4352x1024_1_0)
        Cert.Reference11Ideal.Gen.bitsLt_bf16_f32))
    Cert.Reference11Ideal.Gen.transposes_S1536x1024_S1024x1536_1_0) Cert.Reference11Ideal.Gen.bitsLt_bf16_f32

variable (m : (ℓ : Loc nD τ sig) → Buf (Elt Ideal) ℓ) (c : Dev nD)

/-- Which block each window stages at grid point `t`: half `t` of the rows. -/
theorem idx : ∀ t : Fin cfg0.N, win0_0.index t = ![0, t.val] ∧ win0_1.index t = ![t.val, 0] ∧ win0_2.index t = ![0, 0] :=
  (by decide +kernel : ∀ t : Fin grid0.N, _)

/-- The first point leaves its own product in the accumulator. -/
theorem carry_A (t : Fin cfg0.N) (h0 : t.val % 2 = 0) (h1 : ¬t.val % 2 = 1) (j : S1024x1536.Idx) :
    (outsAt0 m c t.val t.isLt).2 j = k0_pay1 (iblk m c 0 t) (iblk m c 1 t) j := by
  rw [outsAt0_A m c t h0 h1 h1]
  frame_out
  pointwise [k0_pay2]

/-- The last point leaves the accumulator plus its own product as the result. -/
theorem tile_B (t : Fin cfg0.N) (h0 : ¬t.val % 2 = 0) (h1 : t.val % 2 = 1) (j : S1024x1536.Idx) :
    (outsAt0 m c t.val t.isLt).1 j
      = (outsAt0 m c (t.val - 1) (Nat.lt_of_le_of_lt (Nat.sub_le _ _) t.isLt)).2 j + k0_pay1 (iblk m c 0 t) (iblk m c 1 t) j := by
  rw [outsAt0_B m c t h0 h1 h1]
  frame_out
  pointwise [k0_pay3, k0_pay4]
  rw [(Memref.isWhole_whole cc0_scratch0).read_unread]

/-- The two halves together are the reference's sum: `s` is the point before `t`. -/
theorem halves (s t : Fin cfg0.N) (hs : s.val + 1 = t.val) (ht : t.val % 2 = 1) (y : S1024x1536.Idx) :
    k0_pay1 (iblk m c 0 s) (iblk m c 1 s) y + k0_pay1 (iblk m c 0 t) (iblk m c 1 t) y
      = REF (m ((c : Thread nD τ).loc main_arg0)) (m ((c : Thread nD τ).loc main_arg1)) (((cfg0.win 2).blk t).view.emb y) := by
  have hN : t.val < 2 := t.isLt
  pointwise [k0_pay1, REF]
  rw [Fin.sum_univ_two_halves (N := 4352) 2176 2176 rfl]
  refine congrArg₂ (· + ·) (Finset.sum_congr rfl fun k _ => (mul_comm _ _).trans ?_) (Finset.sum_congr rfl fun k _ => (mul_comm _ _).trans ?_)
  · blk_point [iblk, V, idx s, idx t]
  · blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  have ht := t.isLt
  blk_simp
  rw [after0_2, tile_B m c t (by omega) hm]
  obtain ⟨s, hs⟩ : ∃ s : Fin cfg0.N, s.val = t.val - 1 := ⟨⟨t.val - 1, Nat.lt_of_le_of_lt (Nat.sub_le _ _) t.isLt⟩, rfl⟩
  have hp := carry_A m c s (by omega) (by omega) y
  simp only [hs] at hp
  rw [hp]
  exact halves m c s t (by omega) hm y

/-- The kernel's result is the reference's, from any memory in which their arguments agree. -/
theorem algebraic : Cert.algebraic_Kernel11Ideal_Reference11Ideal := by
  pair_intro
  · run_from Cert.Kernel11Ideal.Gen.run_main m g
  · run_from Cert.Reference11Ideal.Value.run m' g'
    exact (final m c).symm

end Cert.Kernel11Ideal.InDw

end
-- ==== Proof.InDxCtx.lean ====
/-
  The gradient of the input projection (`a · w_in`) with respect to the context rows of `a`.

  WHAT A BLOCK COMPUTES: the one grid point multiplies the last 256 rows of `dz` by the transposed weight.
  WHAT THE ARRAY HOLDS: row `p`, column `k` is `∑ n, dz[4096 + p, n] · w_in[k, n]`.
  WHAT THE REFERENCE COMPUTES: the derivative of the product at `a`, for the context rows of `dz`.
-/
module

public import proofs.«01_k».proof.Defs
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.InDxCtx

open Cert.Kernel12Ideal Cert.Kernel12Ideal.Gen

/-- The reference's own term: the gradient of `a · w_in` at `a` for the context rows of `dz`. -/
abbrev REF (D : FVec Ideal S4352x1536 .bf16) (W : FVec Ideal S1024x1536 .f32) : FVec Ideal S256x1024 .f32 :=
  Host.dotGeneral Cert.Reference12Ideal.dot_S256x1536_S1024x1536_S256x1024_1_1_0_0_n_n none
    (extf .f32 (extractStridedSlice Cert.Reference12Ideal.S256x1536 ![4096, 0] D Cert.Reference12Ideal.Gen.slices_S4352x1536_S256x1536_4096_0)
      Cert.Reference12Ideal.Gen.bitsLt_bf16_f32) W

variable (m : (ℓ : Loc nD τ sig) → Buf (Elt Ideal) ℓ) (c : Dev nD)

/-- Which block each window stages: the rows behind the latent ones, the whole weight. -/
theorem idx : ∀ t : Fin cfg0.N, win0_0.index t = ![16, 0] ∧ win0_1.index t = ![0, 0] ∧ win0_2.index t = ![0, 0] :=
  (by decide +kernel : ∀ t : Fin grid0.N, _)

/-- The one tile: the body's value is the reference's. -/
theorem point (t : Fin cfg0.N) (y : S256x1024.Idx) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  simp only [iblk]
  entry_read
  blk_point [iblk, V, idx t]

/-- The whole array after the run. -/
theorem final : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The kernel's result is the reference's, from any memory in which their arguments agree. -/
theorem algebraic : Cert.algebraic_Kernel12Ideal_Reference12Ideal := by
  pair_intro
  · run_from Cert.Kernel12Ideal.Gen.run_main m g
  · run_from Cert.Reference12Ideal.Value.run m' g'
    exact (final m c).symm

end Cert.Kernel12Ideal.InDxCtx

end
-- ==== Proof.InDxRef.lean ====
/-
  The reference's terms of the gradient through the input projection and the norm before it: the product, and the results as
  the shared terms of it.
-/
module

public import proofs.«01_k».proof.Defs
public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim
public import proofs.«01_k».proof.Proof.NormBwd

@[expose] public section

set_option maxRecDepth 16384

noncomputable section

open Idealize.ShloMosaic Idealize.ShloMosaic.TcCoe Idealize.SL.Sem
open Idealize.ShloMosaic.Pipeline (Dat)

namespace Cert.Kernel13Ideal.InDxRef

open Cert.Kernel13Ideal Cert.Kernel13Ideal.Gen

open Cert.Kernel2Ideal.NormBwd

/-- The gradient of the activation: the product of the latent rows of `dz` with the weight. -/
abbrev DOT (d : FVec Ideal S4352x1536 .bf16) (w : FVec Ideal S1024x1536 .f32) : FVec Ideal S4096x1024 .f32 :=
  Host.dotGeneral Cert.Reference13Ideal.dot_S4096x1536_S1024x1536_S4096x1024_1_1_0_0_n_n none
    (extf .f32 (extractStridedSlice Cert.Reference13Ideal.S4096x1536 ![0, 0] d Cert.Reference13Ideal.Gen.slices_S4352x1536_S4096x1536_0_0) Cert.Reference13Ideal.Gen.bitsLt_bf16_f32) w

theorem DOT_congr {d d' : FVec Ideal S4352x1536 .bf16} {w w' : FVec Ideal S1024x1536 .f32} (a : d = d') (b : w = w') :
    DOT d w = DOT d' w' := by cases a; cases b; rfl

/-- The reference run's own term is the array above, of its arguments. -/
theorem ref7 (m : (ℓ : Loc Cert.Reference13Ideal.nD Cert.Reference13Ideal.τ Cert.Reference13Ideal.sig) → Buf (Elt Ideal) ℓ) (c : Dev Cert.Reference13Ideal.nD) :
    Cert.Reference13Ideal.Value.res_main_v82 (F := Ideal) m c
      = DX (m (c.tc.loc Cert.Reference13Ideal.main_arg3)) (DOT (m (c.tc.loc Cert.Reference13Ideal.main_arg0)) (m (c.tc.loc Cert.Reference13Ideal.main_arg1))) (m (c.tc.loc Cert.Reference13Ideal.main_arg2))
          (m (c.tc.loc Cert.Reference13Ideal.main_arg5)) (m (c.tc.loc Cert.Reference13Ideal.main_arg6)) := by
  unfold Cert.Reference13Ideal.Value.res_main_v82
  rfl

end Cert.Kernel13Ideal.InDxRef

end
-- ==== Proof.InDx.lean ====
/-
  The gradient through the input projection and the modulated norm before it: the gradient of the step's input, and the
  gradients of the copies of shift, scale, gain and gate.

  WHAT A BLOCK COMPUTES: a point multiplies its tile of 512 latent rows of the incoming gradient by the whole weight, and so has
  its tile of the product `D`. It normalises the rows `x`, forms the gradient of a normalised row times a gain and one plus a
  scale, adds the residual's gradient, and sums over the rows of each of eight copies.
  WHAT THE ARRAYS HOLD: the eight tiles cover every array, so each is one function of the arguments.
  WHAT THE REFERENCE COMPUTES: the same of the whole arrays, with the norm differentiated as it is written.
  THE EQUATION: row by row, `NormGrad.grad_eq` for the gradient of the rows; the four sums agree term by term.
-/
module

public import proofs.«01_k».proof.Defs
public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim
public import proofs.«01_k».proof.Proof.NormGrad
public import proofs.«01_k».proof.Proof.InDxRef
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel13Ideal.InDx

open Cert.Kernel13Ideal Cert.Kernel13Ideal.Gen

open Cert.Kernel2Ideal.NormBwd Cert.Kernel13Ideal.InDxRef

variable (m : (ℓ : Loc nD τ sig) → Buf (Elt Ideal) ℓ) (c : Dev nD)

/-- Which block each window stages at grid point `t`: the tile `t` of the rows, the whole weight and vectors. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0]
    ∧ win0_6.index t = ![0, 0] ∧ win0_7.index t = ![t.val, 0] ∧ win0_8.index t = ![t.val, 0, 0]
    ∧ win0_9.index t = ![t.val, 0, 0] ∧ win0_10.index t = ![t.val, 0, 0] ∧ win0_11.index t = ![t.val, 0, 0] :=
  (by decide +kernel : ∀ t : Fin grid0.N, _)

/-- The blocks staged at a point, as arrays. -/
abbrev dBlk (t : Fin cfg0.N) : FVec Ideal S512x1536 .bf16 := X0_0 m c t
abbrev wBlk (t : Fin cfg0.N) : FVec Ideal S1024x1536 .bf16 := iblk m c 1 t
abbrev xBlk (t : Fin cfg0.N) : FVec Ideal S512x1024 .f32 := iblk m c 2 t
abbrev eBlk (t : Fin cfg0.N) : FVec Ideal S512x1024 .f32 := iblk m c 3 t
abbrev aBlk (t : Fin cfg0.N) : FVec Ideal S512x1024 .f32 := iblk m c 4 t
abbrev gainBlk (t : Fin cfg0.N) : FVec Ideal S1x1024 .f32 := iblk m c 5 t
abbrev scaleBlk (t : Fin cfg0.N) : FVec Ideal S1x1024 .f32 := iblk m c 6 t

/-- The arguments of the call. -/
abbrev dArg : FVec Ideal S4352x1536 .bf16 := m ((c : Thread nD τ).loc main_arg0)
abbrev wArg : FVec Ideal S1024x1536 .f32 := m ((c : Thread nD τ).loc main_arg1)
abbrev xArg : FVec Ideal S4096x1024 .f32 := m ((c : Thread nD τ).loc main_arg2)
abbrev eArg : FVec Ideal S4096x1024 .f32 := m ((c : Thread nD τ).loc main_arg3)
abbrev aArg : FVec Ideal S4096x1024 .f32 := m ((c : Thread nD τ).loc main_arg4)
abbrev gainArg : FVec Ideal S1x1024 .f32 := m ((c : Thread nD τ).loc main_arg5)
abbrev scaleArg : FVec Ideal S1x1024 .f32 := m ((c : Thread nD τ).loc main_arg6)

/-- The tile grid point `t` works on. -/
def tileOf (t : Fin cfg0.N) : Fin 8 := ⟨t.val, t.isLt⟩

theorem d_at (t : Fin cfg0.N) (a : Fin 512) (k : Fin 1536) :
    dBlk m c t (ix2 a k) = dArg m c (ix2 (⟨(rowIn (tileOf t) a).val, by omega⟩ : Fin 4352) k) := by
  simp only [dBlk]
  unfold X0_0 Pipeline.Window.fill
  rw [dif_pos (moved0_0 t _)]
  simp only [iblk]
  entry_read
  blk_point [iblk, V, idx t, rowIn, tileOf]
theorem w_at (t : Fin cfg0.N) (q : Fin 1024) (k : Fin 1536) : wBlk m c t (ix2 q k) = wArg m c (ix2 q k) := by
  simp only [wBlk, iblk]
  entry_read
  blk_point [iblk, V, idx t]
theorem x_at (t : Fin cfg0.N) (a : Fin 512) (k : Fin 1024) : xBlk m c t (ix2 a k) = xArg m c (ix2 (rowIn (tileOf t) a) k) := by
  simp only [xBlk, iblk]
  entry_read
  blk_point [iblk, V, idx t, rowIn, tileOf]
theorem e_at (t : Fin cfg0.N) (a : Fin 512) (k : Fin 1024) : eBlk m c t (ix2 a k) = eArg m c (ix2 (rowIn (tileOf t) a) k) := by
  simp only [eBlk, iblk]
  entry_read
  blk_point [iblk, V, idx t, rowIn, tileOf]
theorem a_at (t : Fin cfg0.N) (a : Fin 512) (k : Fin 1024) : aBlk m c t (ix2 a k) = aArg m c (ix2 (rowIn (tileOf t) a) k) := by
  simp only [aBlk, iblk]
  entry_read
  blk_point [iblk, V, idx t, rowIn, tileOf]
theorem gain_at (t : Fin cfg0.N) (k : Fin 1024) : gainBlk m c t (ix2 0 k) = gainArg m c (ix2 0 k) := by
  simp only [gainBlk, iblk]
  entry_read
  blk_point [iblk, V, idx t]
theorem scale_at (t : Fin cfg0.N) (k : Fin 1024) : scaleBlk m c t (ix2 0 k) = scaleArg m c (ix2 0 k) := by
  simp only [scaleBlk, iblk]
  entry_read
  blk_point [iblk, V, idx t]

/-- Where a result window puts an entry of its tile. -/
theorem emb7 (X : FVec Ideal S4096x1024 .f32) (t : Fin cfg0.N) (a : Fin 512) (k : Fin 1024) :
    X (((cfg0.win 7).blk t).view.emb (ix2 a k)) = X (ix2 (rowIn (tileOf t) a) k) := by
  blk_point [idx t, rowIn, tileOf]
theorem emb8 (X : FVec Ideal S8x8x1024 .f32) (t : Fin cfg0.N) (s : Fin 8) (k : Fin 1024) :
    X (((cfg0.win 8).blk t).view.emb (ix3 0 s k)) = X (ix3 (tileOf t) s k) := by
  blk_point [idx t, rowIn, tileOf]
theorem emb9 (X : FVec Ideal S8x8x1024 .f32) (t : Fin cfg0.N) (s : Fin 8) (k : Fin 1024) :
    X (((cfg0.win 9).blk t).view.emb (ix3 0 s k)) = X (ix3 (tileOf t) s k) := by
  blk_point [idx t, rowIn, tileOf]
theorem emb10 (X : FVec Ideal S8x8x1024 .f32) (t : Fin cfg0.N) (s : Fin 8) (k : Fin 1024) :
    X (((cfg0.win 10).blk t).view.emb (ix3 0 s k)) = X (ix3 (tileOf t) s k) := by
  blk_point [idx t, rowIn, tileOf]
theorem emb11 (X : FVec Ideal S8x8x1024 .f32) (t : Fin cfg0.N) (s : Fin 8) (k : Fin 1024) :
    X (((cfg0.win 11).blk t).view.emb (ix3 0 s k)) = X (ix3 (tileOf t) s k) := by
  blk_point [idx t, rowIn, tileOf]

/-- The product on a tile. -/
abbrev tile (t : Fin cfg0.N) : FVec Ideal S512x1024 .f32 := k0_pay5 (dBlk m c t) (wBlk m c t)

/-- The results at a point, of the tile of the product and the staged blocks. -/
theorem dx_out (t : Fin cfg0.N) (j : S512x1024.Idx) :
    (outsAt0 m c t).1 j = k0_pay9 (F := Ideal) (dBlk m c t) (wBlk m c t) (xBlk m c t) (eBlk m c t) (gainBlk m c t) (scaleBlk m c t) j := by
  unfold outsAt0
  frame_out
theorem shift_out (t : Fin cfg0.N) (j : S1x8x1024.Idx) : (outsAt0 m c t).2.1 j = k0_pay1 (F := Ideal) (tile m c t) j := by
  unfold outsAt0
  frame_out
theorem scale_out (t : Fin cfg0.N) (j : S1x8x1024.Idx) :
    (outsAt0 m c t).2.2.1 j = k0_pay2 (tile m c t) (gainBlk m c t) (k0_pay7 (xBlk m c t)) j := by
  unfold outsAt0
  frame_out
theorem gain_out (t : Fin cfg0.N) (j : S1x8x1024.Idx) :
    (outsAt0 m c t).2.2.2.1 j
      = k0_pay3 (F := Ideal) (k0_pay7 (xBlk m c t)) (k0_pay8 (dBlk m c t) (wBlk m c t) (scaleBlk m c t)) j := by
  unfold outsAt0
  frame_out
theorem gate_out (t : Fin cfg0.N) (j : S1x8x1024.Idx) : (outsAt0 m c t).2.2.2.2 j = k0_pay4 (F := Ideal) (eBlk m c t) (aBlk m c t) j := by
  unfold outsAt0
  frame_out

open NormGrad in
/-- One entry of each result on a tile. -/
theorem pay9_at (d : FVec Ideal S512x1536 .bf16) (w : FVec Ideal S1024x1536 .bf16) (X E : FVec Ideal S512x1024 .f32)
    (g s : FVec Ideal S1x1024 .f32) (a : Fin 512) (b : Fin 1024) :
    k0_pay9 (F := Ideal) d w X E g s (ix2 a b)
      = E (ix2 a b) + kernelGrad (fun k => X (ix2 a k))
          (dxh (fun k => k0_pay5 (F := Ideal) d w (ix2 a k)) (fun k => g (ix2 0 k)) (fun k => s (ix2 0 k))) b := by
  pointwise [k0_pay6, k0_pay7, k0_pay8, k0_pay9]
  rfl
theorem pay1_at (D : FVec Ideal S512x1024 .f32) (i : Fin 1) (s : Fin 8) (q : Fin 1024) :
    k0_pay1 (F := Ideal) D (ix3 i s q) = ∑ x : Fin 64, D (ix2 (rowOf x s) q) := by
  pointwise [k0_pay1]
  rfl
open NormGrad in
theorem pay2_at (D X : FVec Ideal S512x1024 .f32) (g : FVec Ideal S1x1024 .f32) (i : Fin 1) (s : Fin 8) (q : Fin 1024) :
    k0_pay2 (F := Ideal) D g (k0_pay7 X) (ix3 i s q)
      = ∑ x : Fin 64, D (ix2 (rowOf x s) q) * (X (ix2 (rowOf x s) q) * rs (fun k => X (ix2 (rowOf x s) k)) * g (ix2 0 q)) := by
  pointwise [k0_pay2, k0_pay6, k0_pay7]
  rfl
open NormGrad in
theorem pay3_at (d : FVec Ideal S512x1536 .bf16) (w : FVec Ideal S1024x1536 .bf16) (X : FVec Ideal S512x1024 .f32)
    (g : FVec Ideal S1x1024 .f32) (i : Fin 1) (s : Fin 8) (q : Fin 1024) :
    k0_pay3 (F := Ideal) (k0_pay7 X) (k0_pay8 d w g) (ix3 i s q)
      = ∑ x : Fin 64, k0_pay5 (F := Ideal) d w (ix2 (rowOf x s) q) * (1 + g (ix2 0 q))
          * (X (ix2 (rowOf x s) q) * rs (fun k => X (ix2 (rowOf x s) k))) := by
  pointwise [k0_pay3, k0_pay6, k0_pay7, k0_pay8]
  rfl
theorem pay4_at (E A : FVec Ideal S512x1024 .f32) (i : Fin 1) (s : Fin 8) (q : Fin 1024) :
    k0_pay4 (F := Ideal) E A (ix3 i s q) = ∑ x : Fin 64, E (ix2 (rowOf x s) q) * A (ix2 (rowOf x s) q) := by
  pointwise [k0_pay4]
  rfl

/-- One entry of the product on a tile, and of the reference's. -/
theorem pay5_at (d : FVec Ideal S512x1536 .bf16) (w : FVec Ideal S1024x1536 .bf16) (a : Fin 512) (b : Fin 1024) :
    k0_pay5 (F := Ideal) d w (ix2 a b) = ∑ k : Fin 1536, d (ix2 a k) * w (ix2 b k) := by
  pointwise [k0_pay5]
theorem DOT_at (d : FVec Ideal S4352x1536 .bf16) (w : FVec Ideal S1024x1536 .f32) (p : Fin 4096) (q : Fin 1024) :
    DOT d w (ix2 p q) = ∑ k : Fin 1536, d (ix2 (⟨p.val, by omega⟩ : Fin 4352) k) * w (ix2 q k) := by
  pointwise [DOT]

/-- The reference's product, of the call's arguments. -/
abbrev dot : FVec Ideal S4096x1024 .f32 := DOT (dArg m c) (wArg m c)

/-- The tile holds the reference's product. -/
theorem tile_at (t : Fin cfg0.N) (a : Fin 512) (b : Fin 1024) :
    k0_pay5 (F := Ideal) (dBlk m c t) (wBlk m c t) (ix2 a b) = dot m c (ix2 (rowIn (tileOf t) a) b) := by
  rw [pay5_at, dot, DOT_at]
  simp only [d_at, w_at]

/-- The gate's sums after the run. -/
theorem final11 : (dats m 0 c).arrAt 11 cfg0.N = DGATE (eArg m c) (aArg m c) := by
  refine (dats m 0 c).arrAt_eq_of_covers 11 _ (by decide +kernel) fun t hf y => ?_
  blk_simp
  rw [after0_11]
  obtain ⟨i, s, q, rfl⟩ : ∃ (i : Fin 1) (s : Fin 8) (q : Fin 1024), y = ix3 i s q := ⟨y 0, y 1, y 2, eq_ix3 y⟩
  obtain rfl : i = 0 := Subsingleton.elim _ _
  refine ((gate_out m c t (ix3 0 s q)).trans (pay4_at (eBlk m c t) (aBlk m c t) 0 s q)).trans ?_
  rw [emb11 (DGATE (eArg m c) (aArg m c)), DGATE_at]
  simp only [e_at, a_at]
  exact Finset.sum_congr rfl fun x _ => mul_comm _ _

/-- The shift's sums after the run. -/
theorem final8 : (dats m 0 c).arrAt 8 cfg0.N = DSHIFT (dot m c) := by
  refine (dats m 0 c).arrAt_eq_of_covers 8 _ (by decide +kernel) fun t hf y => ?_
  blk_simp
  rw [after0_8]
  obtain ⟨i, s, q, rfl⟩ : ∃ (i : Fin 1) (s : Fin 8) (q : Fin 1024), y = ix3 i s q := ⟨y 0, y 1, y 2, eq_ix3 y⟩
  obtain rfl : i = 0 := Subsingleton.elim _ _
  refine ((shift_out m c t (ix3 0 s q)).trans (pay1_at (tile m c t) 0 s q)).trans ?_
  rw [emb8 (DSHIFT (dot m c)), DSHIFT_at]
  simp only [tile, tile_at]

/-- The scale's sums after the run. -/
theorem final9 : (dats m 0 c).arrAt 9 cfg0.N = DSCALE (dot m c) (xArg m c) (gainArg m c) := by
  refine (dats m 0 c).arrAt_eq_of_covers 9 _ (by decide +kernel) fun t hf y => ?_
  blk_simp
  rw [after0_9]
  obtain ⟨i, s, q, rfl⟩ : ∃ (i : Fin 1) (s : Fin 8) (q : Fin 1024), y = ix3 i s q := ⟨y 0, y 1, y 2, eq_ix3 y⟩
  obtain rfl : i = 0 := Subsingleton.elim _ _
  refine ((scale_out m c t (ix3 0 s q)).trans (pay2_at (tile m c t) (xBlk m c t) (gainBlk m c t) 0 s q)).trans ?_
  rw [emb9 (DSCALE (dot m c) (xArg m c) (gainArg m c)), DSCALE_at]
  simp only [tile, tile_at, x_at, gain_at]
  exact Finset.sum_congr rfl fun x _ => mul_comm _ _

/-- The gain's sums after the run. -/
theorem final10 : (dats m 0 c).arrAt 10 cfg0.N = DGAIN (dot m c) (xArg m c) (scaleArg m c) := by
  refine (dats m 0 c).arrAt_eq_of_covers 10 _ (by decide +kernel) fun t hf y => ?_
  blk_simp
  rw [after0_10]
  obtain ⟨i, s, q, rfl⟩ : ∃ (i : Fin 1) (s : Fin 8) (q : Fin 1024), y = ix3 i s q := ⟨y 0, y 1, y 2, eq_ix3 y⟩
  obtain rfl : i = 0 := Subsingleton.elim _ _
  refine ((gain_out m c t (ix3 0 s q)).trans (pay3_at (dBlk m c t) (wBlk m c t) (xBlk m c t) (scaleBlk m c t) 0 s q)).trans ?_
  rw [emb10 (DGAIN (dot m c) (xArg m c) (scaleArg m c)), DGAIN_at]
  simp only [tile_at, x_at, scale_at]
  exact Finset.sum_congr rfl fun x _ => mul_comm _ _

/-- The numbers the gradient of the rows is formed of are finite: of the incoming gradient, its latent rows. -/
def Finite : Prop :=
  (∀ (p : Fin 4096) (k : Fin 1536), NormGrad.IsReal (dArg m c (ix2 (⟨p.val, by omega⟩ : Fin 4352) k)))
  ∧ (∀ j, NormGrad.IsReal (wArg m c j)) ∧ (∀ j, NormGrad.IsReal (xArg m c j))
  ∧ (∀ j, NormGrad.IsReal (gainArg m c j)) ∧ (∀ j, NormGrad.IsReal (scaleArg m c j))

/-- Then the gradient of the normalised row is real. -/
theorem real_dxh (h : Finite m c) (p : Fin 4096) (k : Fin 1024) :
    NormGrad.IsReal (dxh (fun k => dot m c (ix2 p k)) (fun k => gainArg m c (ix2 0 k)) (fun k => scaleArg m c (ix2 0 k)) k) := by
  obtain ⟨h0, h1, -, h3, h4⟩ := h
  have d : NormGrad.IsReal (dot m c (ix2 p k)) := by
    rw [dot, DOT_at]
    exact NormGrad.IsReal.sum _ fun k => (h0 p k).mul (h1 _)
  exact (d.mul (NormGrad.IsReal.add ⟨1, rfl⟩ (h4 _))).mul (h3 _)

/-- The reference's gradient of the rows, of the call's arguments. -/
abbrev dx : FVec Ideal S4096x1024 .f32 := DX (eArg m c) (dot m c) (xArg m c) (gainArg m c) (scaleArg m c)

/-- An entry of the gradient: the body's is the reference's. -/
theorem grad_at (h : Finite m c) (t : Fin cfg0.N) (a : Fin 512) (b : Fin 1024) :
    k0_pay9 (F := Ideal) (dBlk m c t) (wBlk m c t) (xBlk m c t) (eBlk m c t) (gainBlk m c t) (scaleBlk m c t) (ix2 a b)
      = dx m c (ix2 (rowIn (tileOf t) a) b) := by
  rw [pay9_at, dx, DX_at]
  simp only [tile_at, x_at, e_at, gain_at, scale_at]
  exact congrArg (_ + ·) (NormGrad.grad_eq (fun k => h.2.2.1 _) (fun k => real_dxh m c h _ k) b)

/-- The gradient of the rows after the run. -/
theorem final7 (h : Finite m c) : (dats m 0 c).arrAt 7 cfg0.N = dx m c := by
  refine (dats m 0 c).arrAt_eq_of_covers 7 _ (by decide +kernel) fun t hf y => ?_
  blk_simp
  rw [after0_7]
  obtain ⟨a, b, rfl⟩ : ∃ (a : Fin 512) (b : Fin 1024), y = ix2 a b := ⟨y 0, y 1, eq_ix2 y⟩
  exact ((dx_out m c t (ix2 a b)).trans (grad_at m c h t a b)).trans (emb7 (dx m c) t a b).symm

/-- The side facts of the precondition's own text. -/
instance preFacts : Cert.Pre_finite_in_dx.Facts where
  slices_S4352x1536_S4096x1536_0_0 := by decide
  bitsLt_bf16_f32 := by decide
  bcast_S_S4096x1536 := by decide
  reducesTo_S4096x1536_S_d0_1 := by decide
  h_S_ := by decide
  bcast_S_S1024x1536 := by decide
  reducesTo_S1024x1536_S_d0_1 := by decide
  bcast_S_S4096x1024 := by decide
  reducesTo_S4096x1024_S_d0_1 := by decide
  bcast_S_S1x1024 := by decide
  reducesTo_S1x1024_S_d0_1 := by decide

/-- The latent rows are the first 4096. -/
theorem slice_at (d : FVec Ideal S4352x1536 .bf16) (h : S4352x1536.Slices ![0, 0] Cert.Reference13Ideal.S4096x1536) (p : Fin 4096) (k : Fin 1536) :
    extractStridedSlice Cert.Reference13Ideal.S4096x1536 ![0, 0] d h (ix2 p k) = d (ix2 (⟨p.val, by omega⟩ : Fin 4352) k) := by
  pointwise

/-- The precondition says that these numbers are finite. -/
theorem finite_of [Cert.Pre_finite_in_dx.Facts] (h : Cert.Pre_Kernel13Ideal_finite_in_dx m) : Finite m c := by
  have h0 := congrFun (h c) (fun i => i.elim0)
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun p k => slice_at (dArg m c) Cert.Pre_finite_in_dx.Facts.slices_S4352x1536_S4096x1536_0_0 p k
      ▸ NormGrad.isReal_of_test (Host.reduce_andi_all _ _ _ _ _ h0 (ix2 p k)),
    fun j => NormGrad.isReal_of_test (Host.reduce_andi_all _ _ _ _ _ h1 j),
    fun j => NormGrad.isReal_of_test (Host.reduce_andi_all _ _ _ _ _ h2 j),
    fun j => NormGrad.isReal_of_test (Host.reduce_andi_all _ _ _ _ _ h3 j),
    fun j => NormGrad.isReal_of_test (Host.reduce_andi_all _ _ _ _ _ h4 j)⟩

set_option maxHeartbeats 1600000 in
/-- The kernel's five results are the reference's, from any memory in which their arguments agree and are finite. -/
theorem algebraic [Cert.Pre_finite_in_dx.Facts] : Cert.algebraic_Kernel13Ideal_Reference13Ideal_pre_finite_in_dx := by
  pair_intro
  · run_from Cert.Kernel13Ideal.Gen.run_main m g
  · refine θ_run_mono (Cert.Reference13Ideal.Value.run m' g') fun r hr c => ?_
    obtain ⟨h0, h1, h2, h3, h4, h5, h6⟩ := hagree c
    have hf := finite_of m c hpre
    have d := DOT_congr h0 h1
    have x := DX_congr h3 d h2 h5 h6
    exact ⟨(hr c).1.trans ((ref7 m' c).trans (x.trans (final7 m c hf).symm)),
      (hr c).2.1.trans ((DSHIFT_congr d).trans (final8 m c).symm),
      (hr c).2.2.1.trans ((DSCALE_congr d h2 h5).trans (final9 m c).symm),
      (hr c).2.2.2.1.trans ((DGAIN_congr d h2 h6).trans (final10 m c).symm),
      (hr c).2.2.2.2.1.trans ((DGATE_congr h3 h4).trans (final11 m c).symm), (hr c).2.2.2.2.2⟩

end Cert.Kernel13Ideal.InDx

end
-- ==== Proof.Out.lean ====
/-
  The output projection (`ycat · w_out`), the residual it is gated into, and the normalised, modulated activation of the
  MLP, stored twice: as it is and transposed.

  WHAT A BLOCK COMPUTES: grid point `t` takes 512 whole rows: their product `mix` with the weight, `h1 = h0 + gate · mix`,
  and `a2 = h1 · rsqrt(mean(h1²) + eps) · gain · (1 + scale) + shift`.
  WHAT THE ARRAYS HOLD: those rows, one tile of 512 rows per point; the transposed array holds them as columns.
  WHAT THE REFERENCE COMPUTES: the same expressions over the whole arrays. A row lies in one tile, so the sum of its
  squares is the same sum.
-/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Out

open Cert.Kernel14Ideal Cert.Kernel14Ideal.Gen

/-- The reference's own term for the product. -/
abbrev MIX (Y : FVec Ideal S4096x1024 .bf16) (W : FVec Ideal S1024x1024 .f32) : FVec Ideal S4096x1024 .f32 :=
  Host.dotGeneral Cert.Reference14Ideal.dot_S4096x1024_S1024x1024_S4096x1024_1_0_0_1_n_n none (extf .f32 Y Cert.Reference14Ideal.Gen.bitsLt_bf16_f32) W

/-- The reference's own term for the residual. -/
abbrev RES (Y : FVec Ideal S4096x1024 .bf16) (W : FVec Ideal S1024x1024 .f32) (H : FVec Ideal S4096x1024 .f32)
    (g1 : FVec Ideal S1x1024 .f32) : FVec Ideal S4096x1024 .f32 :=
  addf H (mulf (broadcastInDim Cert.Reference14Ideal.S4096x1024 ![0, 1] Cert.Reference14Ideal.Gen.bcast_S1x1024_S4096x1024_0_1 g1) (MIX Y W))

/-- The reference's own term for `rsqrt(mean(x²) + eps)`, one number per row. -/
abbrev RSTD (X : FVec Ideal S4096x1024 .f32) : FVec Ideal Cert.Reference14Ideal.S4096x1 .f32 :=
  Host.rsqrt (addf (Host.divf
    (broadcastInDim Cert.Reference14Ideal.S4096x1 ![0] Cert.Reference14Ideal.Gen.bcast_S4096_S4096x1_0 (Host.reduceAdd (mulf X X) (constant Cert.Reference14Ideal.S_ .f32 0x00000000#32)
      Cert.Reference14Ideal.Gen.reducesTo_S4096x1024_S4096_d1 Cert.Reference14Ideal.Gen.h_S_))
    (broadcastInDim Cert.Reference14Ideal.S4096x1 ![] Cert.Reference14Ideal.Gen.bcast_S_S4096x1 (constant Cert.Reference14Ideal.S_ .f32 0x44800000#32)))
    (broadcastInDim Cert.Reference14Ideal.S4096x1 ![] Cert.Reference14Ideal.Gen.bcast_S_S4096x1 (constant Cert.Reference14Ideal.S_ .f32 0x358637BD#32)))

/-- The reference's own term for the normalised, modulated activation. -/
abbrev ACT (X : FVec Ideal S4096x1024 .f32) (gain scale shift : FVec Ideal S1x1024 .f32) : FVec Ideal S4096x1024 .bf16 :=
  truncf .bf16 (addf (mulf (mulf
    (mulf X (broadcastInDim Cert.Reference14Ideal.S4096x1024 ![0, 1] Cert.Reference14Ideal.Gen.bcast_S4096x1_S4096x1024_0_1 (RSTD X)))
    (broadcastInDim Cert.Reference14Ideal.S4096x1024 ![0, 1] Cert.Reference14Ideal.Gen.bcast_S1x1024_S4096x1024_0_1 gain))
    (broadcastInDim Cert.Reference14Ideal.S4096x1024 ![0, 1] Cert.Reference14Ideal.Gen.bcast_S1x1024_S4096x1024_0_1
      (addf (broadcastInDim Cert.Reference14Ideal.S1x1024 ![] Cert.Reference14Ideal.Gen.bcast_S_S1x1024 (constant Cert.Reference14Ideal.S_ .f32 0x3F800000#32)) scale)))
    (broadcastInDim Cert.Reference14Ideal.S4096x1024 ![0, 1] Cert.Reference14Ideal.Gen.bcast_S1x1024_S4096x1024_0_1 shift)) Cert.Reference14Ideal.Gen.bitsLt_bf16_f32

/-- The reference's own term for the transposed activation. -/
abbrev ACTT (X : FVec Ideal S4096x1024 .f32) (gain scale shift : FVec Ideal S1x1024 .f32) : FVec Ideal S1024x4096 .bf16 :=
  transpose Cert.Reference14Ideal.S1024x4096 [1, 0] (ACT X gain scale shift) Cert.Reference14Ideal.Gen.transposes_S4096x1024_S1024x4096_1_0

variable (m : (ℓ : Loc nD τ sig) → Buf (Elt Ideal) ℓ) (c : Dev nD)

/-- The residual of the whole argument arrays. -/
abbrev X : FVec Ideal S4096x1024 .f32 := RES (m ((c : Thread nD τ).loc main_arg0)) (m ((c : Thread nD τ).loc main_arg1))
  (m ((c : Thread nD τ).loc main_arg2)) (m ((c : Thread nD τ).loc main_arg3))

/-- Which block each window stages at grid point `t`: rows tile `t` of the activations, the whole of everything else. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, t.val] :=
  (by decide +kernel : ∀ t : Fin grid0.N, _)

/-- One tile of the product. -/
theorem point_mix (t : Fin cfg0.N) (y : S512x1024.Idx) :
    k0_pay3 (iblk m c 0 t) (iblk m c 1 t) y
      = MIX (m ((c : Thread nD τ).loc main_arg0)) (m ((c : Thread nD τ).loc main_arg1)) (((cfg0.win 7).blk t).view.emb y) := by
  pointwise [k0_pay3, MIX]
  simp only [iblk]
  entry_read
  blk_point [iblk, V, idx t]

/-- One tile of the residual. -/
theorem point_res (t : Fin cfg0.N) (y : S512x1024.Idx) :
    k0_pay4 (iblk m c 0 t) (iblk m c 1 t) (iblk m c 2 t) (iblk m c 3 t) y = X m c (((cfg0.win 8).blk t).view.emb y) := by
  pointwise [k0_pay3, k0_pay4, RES, MIX]
  simp only [iblk]
  entry_read
  blk_point [iblk, V, idx t]

/-- One tile of the activation. -/
theorem point_act (t : Fin cfg0.N) (y : S512x1024.Idx) :
    k0_pay1 (k0_pay5 (iblk m c 0 t) (iblk m c 1 t) (iblk m c 2 t) (iblk m c 3 t) (iblk m c 4 t) (iblk m c 5 t) (iblk m c 6 t)) y
      = ACT (X m c) (m ((c : Thread nD τ).loc main_arg4)) (m ((c : Thread nD τ).loc main_arg5))
        (m ((c : Thread nD τ).loc main_arg6)) (((cfg0.win 9).blk t).view.emb y) := by
  pointwise [k0_pay1, k0_pay3, k0_pay4, k0_pay5, ACT, RSTD, X, RES, MIX]
  simp only [iblk]
  entry_read
  blk_point [iblk, V, idx t]

/-- One tile of the transposed activation. -/
theorem point_actT (t : Fin cfg0.N) (y : S1024x512.Idx) :
    k0_pay2 (k0_pay6 (iblk m c 0 t) (iblk m c 1 t) (iblk m c 2 t) (iblk m c 3 t) (iblk m c 4 t) (iblk m c 5 t) (iblk m c 6 t)) y
      = ACTT (X m c) (m ((c : Thread nD τ).loc main_arg4)) (m ((c : Thread nD τ).loc main_arg5))
        (m ((c : Thread nD τ).loc main_arg6)) (((cfg0.win 10).blk t).view.emb y) := by
  pointwise [k0_pay2, k0_pay3, k0_pay4, k0_pay5, k0_pay6, ACTT, ACT, RSTD, X, RES, MIX]
  simp only [iblk]
  entry_read
  blk_point [iblk, V, idx t]

/-- The whole product after the run. -/
theorem final_mix : (dats m 0 c).arrAt 7 cfg0.N
    = MIX (m ((c : Thread nD τ).loc main_arg0)) (m ((c : Thread nD τ).loc main_arg1)) := by
  refine (dats m 0 c).arrAt_eq_of_covers 7 _ (by decide +kernel) fun t _ y => ?_
  blk_simp
  rw [after0_7]
  frame_out
  exact point_mix m c t y

/-- The whole residual after the run. -/
theorem final_res : (dats m 0 c).arrAt 8 cfg0.N = X m c := by
  refine (dats m 0 c).arrAt_eq_of_covers 8 _ (by decide +kernel) fun t _ y => ?_
  blk_simp
  rw [after0_8]
  frame_out
  exact point_res m c t y

/-- The whole activation after the run. -/
theorem final_act : (dats m 0 c).arrAt 9 cfg0.N
    = ACT (X m c) (m ((c : Thread nD τ).loc main_arg4)) (m ((c : Thread nD τ).loc main_arg5))
        (m ((c : Thread nD τ).loc main_arg6)) := by
  refine (dats m 0 c).arrAt_eq_of_covers 9 _ (by decide +kernel) fun t _ y => ?_
  blk_simp
  rw [after0_9]
  frame_out
  exact point_act m c t y

/-- The whole transposed activation after the run. -/
theorem final_actT : (dats m 0 c).arrAt 10 cfg0.N
    = ACTT (X m c) (m ((c : Thread nD τ).loc main_arg4)) (m ((c : Thread nD τ).loc main_arg5))
        (m ((c : Thread nD τ).loc main_arg6)) := by
  refine (dats m 0 c).arrAt_eq_of_covers 10 _ (by decide +kernel) fun t _ y => ?_
  blk_simp
  rw [after0_10]
  frame_out
  exact point_actT m c t y

/-- The kernel's results are the reference's, from any memory in which their arguments agree. -/
theorem algebraic : Cert.algebraic_Kernel14Ideal_Reference14Ideal := by
  pair_intro
  · run_from Cert.Kernel14Ideal.Gen.run_main m g
  · run_from Cert.Reference14Ideal.Value.run m' g'
    · exact (final_mix m c).symm
    · exact (final_res m c).symm
    · exact (final_act m c).symm
    · exact (final_actT m c).symm

end Cert.Kernel14Ideal.Out

end
-- ==== Proof.DownRef.lean ====
/-
  The reference's terms of the second product of the MLP with the loss head, each under its own name.
-/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.DownRef

open Cert.Kernel15Ideal Cert.Kernel15Ideal.Gen

/-- The reference's own term for the product. -/
abbrev OUT (H : FVec Ideal S4096x4096 .bf16) (W : FVec Ideal S4096x1024 .f32) : FVec Ideal S4096x1024 .f32 :=
  Host.dotGeneral Cert.Reference15Ideal.dot_S4096x4096_S4096x1024_S4096x1024_1_0_0_1_n_n none
    (mulf (maximumf (extf .f32 H Cert.Reference15Ideal.Gen.bitsLt_bf16_f32) (broadcastInDim Cert.Reference15Ideal.S4096x4096 ![] Cert.Reference15Ideal.Gen.bcast_S_S4096x4096 (constant Cert.Reference15Ideal.S_ .f32 0x00000000#32)))
      (maximumf (extf .f32 H Cert.Reference15Ideal.Gen.bitsLt_bf16_f32) (broadcastInDim Cert.Reference15Ideal.S4096x4096 ![] Cert.Reference15Ideal.Gen.bcast_S_S4096x4096 (constant Cert.Reference15Ideal.S_ .f32 0x00000000#32)))) W

/-- The reference's own term for the residual after the MLP, of the product `O`. -/
abbrev RES (O h : FVec Ideal S4096x1024 .f32) (g2 : FVec Ideal S1x1024 .f32) : FVec Ideal S4096x1024 .f32 :=
  addf h (mulf (broadcastInDim Cert.Reference15Ideal.S4096x1024 ![0, 1] Cert.Reference15Ideal.Gen.bcast_S1x1024_S4096x1024_0_1 g2) O)

/-- The reference's own term for `mean(x²) + eps`, one number per row. -/
abbrev VAR (X : FVec Ideal S4096x1024 .f32) : FVec Ideal Cert.Reference15Ideal.S4096x1 .f32 :=
  addf (Host.divf
    (broadcastInDim Cert.Reference15Ideal.S4096x1 ![0] Cert.Reference15Ideal.Gen.bcast_S4096_S4096x1_0 (Host.reduceAdd (mulf X X) (constant Cert.Reference15Ideal.S_ .f32 0x00000000#32)
      Cert.Reference15Ideal.Gen.reducesTo_S4096x1024_S4096_d1 Cert.Reference15Ideal.Gen.h_S_))
    (broadcastInDim Cert.Reference15Ideal.S4096x1 ![] Cert.Reference15Ideal.Gen.bcast_S_S4096x1 (constant Cert.Reference15Ideal.S_ .f32 0x44800000#32)))
    (broadcastInDim Cert.Reference15Ideal.S4096x1 ![] Cert.Reference15Ideal.Gen.bcast_S_S4096x1 (constant Cert.Reference15Ideal.S_ .f32 0x358637BD#32))

/-- A row of ones, as the reference broadcasts it over the rows. -/
abbrev ONES : FVec Ideal S4096x1024 .f32 :=
  broadcastInDim Cert.Reference15Ideal.S4096x1024 ![0, 1] Cert.Reference15Ideal.Gen.bcast_S1x1024_S4096x1024_0_1 (broadcastInDim Cert.Reference15Ideal.S1x1024 ![1] Cert.Reference15Ideal.Gen.bcast_S1024_S1x1024_1
    (broadcastInDim Cert.Reference15Ideal.S1024 ![] Cert.Reference15Ideal.Gen.bcast_S_S1024 (constant Cert.Reference15Ideal.S_ .f32 0x3F800000#32)))

/-- The gain, as the reference broadcasts it over the rows of a tile. -/
abbrev GAIN (g : FVec Ideal S1024 .f32) : FVec Ideal Cert.Reference15Ideal.S8x64x8x1024 .f32 :=
  broadcastInDim Cert.Reference15Ideal.S8x64x8x1024 ![0, 1, 2, 3] Cert.Reference15Ideal.Gen.bcast_S8x1x8x1024_S8x64x8x1024_0_1_2_3
    (broadcastInDim Cert.Reference15Ideal.S8x1x8x1024 ![0, 2, 3] Cert.Reference15Ideal.Gen.bcast_S8x8x1024_S8x1x8x1024_0_2_3
      (broadcastInDim Cert.Reference15Ideal.S8x8x1024 ![2] Cert.Reference15Ideal.Gen.bcast_S1024_S8x8x1024_2 g))

/-- The reference's own term for the normalised rows. -/
abbrev NORM (X : FVec Ideal S4096x1024 .f32) : FVec Ideal Cert.Reference15Ideal.S8x64x8x1024 .f32 :=
  shapeCast Cert.Reference15Ideal.S8x64x8x1024 (mulf (mulf X (broadcastInDim Cert.Reference15Ideal.S4096x1024 ![0, 1] Cert.Reference15Ideal.Gen.bcast_S4096x1_S4096x1024_0_1 (Host.rsqrt (VAR X)))) ONES)
    Cert.Reference15Ideal.Gen.shapeCasts_S4096x1024_S8x64x8x1024

/-- The reference's own term for the error of the loss head. -/
abbrev ERR (X tgt : FVec Ideal S4096x1024 .f32) (g : FVec Ideal S1024 .f32) : FVec Ideal S4096x1024 .f32 :=
  subf (shapeCast Cert.Reference15Ideal.S4096x1024 (mulf (NORM X) (GAIN g)) Cert.Reference15Ideal.Gen.shapeCasts_S8x64x8x1024_S4096x1024) tgt

/-- The reference's own term for the gradient of the loss with respect to the activation the error is taken of. -/
abbrev DY (X tgt : FVec Ideal S4096x1024 .f32) (g : FVec Ideal S1024 .f32) : FVec Ideal Cert.Reference15Ideal.S8x64x8x1024 .f32 :=
  shapeCast Cert.Reference15Ideal.S8x64x8x1024 (mulf
    (broadcastInDim Cert.Reference15Ideal.S4096x1024 ![0] Cert.Reference15Ideal.Gen.bcast_S4096_S4096x1024_0 (Host.divf
      (broadcastInDim Cert.Reference15Ideal.S4096 ![] Cert.Reference15Ideal.Gen.bcast_S_S4096 (mulf (constant Cert.Reference15Ideal.S_ .f32 0x3F000000#32) (constant Cert.Reference15Ideal.S_ .f32 0x3F800000#32)))
      (broadcastInDim Cert.Reference15Ideal.S4096 ![] Cert.Reference15Ideal.Gen.bcast_S_S4096 (constant Cert.Reference15Ideal.S_ .f32 0x44800000#32))))
    (mulf (broadcastInDim Cert.Reference15Ideal.S4096x1024 ![] Cert.Reference15Ideal.Gen.bcast_S_S4096x1024 (constant Cert.Reference15Ideal.S_ .f32 0x40000000#32)) (ERR X tgt g)))
    Cert.Reference15Ideal.Gen.shapeCasts_S4096x1024_S8x64x8x1024

/-- The reference's own term for the gradient with respect to the normalised row. -/
abbrev DXH (X tgt : FVec Ideal S4096x1024 .f32) (g : FVec Ideal S1024 .f32) : FVec Ideal S4096x1024 .f32 :=
  mulf (shapeCast Cert.Reference15Ideal.S4096x1024 (mulf (DY X tgt g) (GAIN g)) Cert.Reference15Ideal.Gen.shapeCasts_S8x64x8x1024_S4096x1024) ONES

/-- The reference's own term for the part of the gradient that comes through the mean square, before the row's own number. -/
abbrev VIA (X tgt : FVec Ideal S4096x1024 .f32) (g : FVec Ideal S1024 .f32) : FVec Ideal S4096x1024 .f32 :=
  broadcastInDim Cert.Reference15Ideal.S4096x1024 ![0] Cert.Reference15Ideal.Gen.bcast_S4096_S4096x1024_0 (Host.reduceAdd (Host.divf (mulf
      (shapeCast Cert.Reference15Ideal.S4096x1 (Host.reduceAdd (mulf X (DXH X tgt g)) (constant Cert.Reference15Ideal.S_ .f32 0x00000000#32) Cert.Reference15Ideal.Gen.reducesTo_S4096x1024_S4096_d1 Cert.Reference15Ideal.Gen.h_S_)
        Cert.Reference15Ideal.Gen.shapeCasts_S4096_S4096x1)
      (mulf (broadcastInDim Cert.Reference15Ideal.S4096x1 ![] Cert.Reference15Ideal.Gen.bcast_S_S4096x1 (constant Cert.Reference15Ideal.S_ .f32 0xBF000000#32)) (Host.divf (Host.rsqrt (VAR X)) (VAR X))))
      (broadcastInDim Cert.Reference15Ideal.S4096x1 ![] Cert.Reference15Ideal.Gen.bcast_S_S4096x1 (constant Cert.Reference15Ideal.S_ .f32 0x44800000#32)))
    (constant Cert.Reference15Ideal.S_ .f32 0x00000000#32) Cert.Reference15Ideal.Gen.reducesTo_S4096x1_S4096_d1 Cert.Reference15Ideal.Gen.h_S_)

/-- The reference's own term for the gradient of the loss with respect to the residual. -/
abbrev DH (X tgt : FVec Ideal S4096x1024 .f32) (g : FVec Ideal S1024 .f32) : FVec Ideal S4096x1024 .f32 :=
  addf (addf (mulf (DXH X tgt g) (broadcastInDim Cert.Reference15Ideal.S4096x1024 ![0, 1] Cert.Reference15Ideal.Gen.bcast_S4096x1_S4096x1024_0_1 (Host.rsqrt (VAR X))))
    (mulf X (VIA X tgt g))) (mulf (VIA X tgt g) X)

/-- The reference's own term for that gradient, gated. -/
abbrev DM (X tgt : FVec Ideal S4096x1024 .f32) (g : FVec Ideal S1024 .f32) (g2 : FVec Ideal S1x1024 .f32) : FVec Ideal S4096x1024 .bf16 :=
  truncf .bf16 (mulf (broadcastInDim Cert.Reference15Ideal.S4096x1024 ![0, 1] Cert.Reference15Ideal.Gen.bcast_S1x1024_S4096x1024_0_1 g2) (DH X tgt g)) Cert.Reference15Ideal.Gen.bitsLt_bf16_f32

/-- The reference's own term for the sums of the squared errors. -/
abbrev SQ (X tgt : FVec Ideal S4096x1024 .f32) (g : FVec Ideal S1024 .f32) : FVec Ideal S8x8x1024 .f32 :=
  Host.reduceAdd (shapeCast Cert.Reference15Ideal.S8x64x8x1024 (mulf (ERR X tgt g) (ERR X tgt g)) Cert.Reference15Ideal.Gen.shapeCasts_S4096x1024_S8x64x8x1024)
    (constant Cert.Reference15Ideal.S_ .f32 0x00000000#32) Cert.Reference15Ideal.Gen.reducesTo_S8x64x8x1024_S8x8x1024_d1 Cert.Reference15Ideal.Gen.h_S_

/-- The reference's own term for the gradient with respect to the copies of the gain. -/
abbrev DG (X tgt : FVec Ideal S4096x1024 .f32) (g : FVec Ideal S1024 .f32) : FVec Ideal S8x8x1024 .f32 :=
  Host.reduceAdd (shapeCast Cert.Reference15Ideal.S8x1x8x1024 (Host.reduceAdd (mulf (NORM X) (DY X tgt g))
      (constant Cert.Reference15Ideal.S_ .f32 0x00000000#32) Cert.Reference15Ideal.Gen.reducesTo_S8x64x8x1024_S8x8x1024_d1 Cert.Reference15Ideal.Gen.h_S_) Cert.Reference15Ideal.Gen.shapeCasts_S8x8x1024_S8x1x8x1024)
    (constant Cert.Reference15Ideal.S_ .f32 0x00000000#32) Cert.Reference15Ideal.Gen.reducesTo_S8x1x8x1024_S8x8x1024_d1 Cert.Reference15Ideal.Gen.h_S_

/-- The reference run's own terms are the arrays above, of its arguments. -/
theorem ref7 (m : (ℓ : Loc Cert.Reference15Ideal.nD Cert.Reference15Ideal.τ Cert.Reference15Ideal.sig) → Buf (Elt Ideal) ℓ) (c : Dev Cert.Reference15Ideal.nD) :
    Cert.Reference15Ideal.Value.res_main_v68 (F := Ideal) m c
      = DH (RES (OUT (m (c.tc.loc Cert.Reference15Ideal.main_arg0)) (m (c.tc.loc Cert.Reference15Ideal.main_arg1))) (m (c.tc.loc Cert.Reference15Ideal.main_arg2)) (m (c.tc.loc Cert.Reference15Ideal.main_arg3)))
          (m (c.tc.loc Cert.Reference15Ideal.main_arg4)) (m (c.tc.loc Cert.Reference15Ideal.main_arg5)) := by
  unfold Cert.Reference15Ideal.Value.res_main_v68
  rfl
theorem ref8 (m : (ℓ : Loc Cert.Reference15Ideal.nD Cert.Reference15Ideal.τ Cert.Reference15Ideal.sig) → Buf (Elt Ideal) ℓ) (c : Dev Cert.Reference15Ideal.nD) :
    Cert.Reference15Ideal.Value.res_main_v71 (F := Ideal) m c
      = DM (RES (OUT (m (c.tc.loc Cert.Reference15Ideal.main_arg0)) (m (c.tc.loc Cert.Reference15Ideal.main_arg1))) (m (c.tc.loc Cert.Reference15Ideal.main_arg2)) (m (c.tc.loc Cert.Reference15Ideal.main_arg3)))
          (m (c.tc.loc Cert.Reference15Ideal.main_arg4)) (m (c.tc.loc Cert.Reference15Ideal.main_arg5)) (m (c.tc.loc Cert.Reference15Ideal.main_arg3)) := by
  unfold Cert.Reference15Ideal.Value.res_main_v71
  rfl
theorem ref9 (m : (ℓ : Loc Cert.Reference15Ideal.nD Cert.Reference15Ideal.τ Cert.Reference15Ideal.sig) → Buf (Elt Ideal) ℓ) (c : Dev Cert.Reference15Ideal.nD) :
    Cert.Reference15Ideal.Value.res_main_v73 (F := Ideal) m c
      = SQ (RES (OUT (m (c.tc.loc Cert.Reference15Ideal.main_arg0)) (m (c.tc.loc Cert.Reference15Ideal.main_arg1))) (m (c.tc.loc Cert.Reference15Ideal.main_arg2)) (m (c.tc.loc Cert.Reference15Ideal.main_arg3)))
          (m (c.tc.loc Cert.Reference15Ideal.main_arg4)) (m (c.tc.loc Cert.Reference15Ideal.main_arg5)) := by
  unfold Cert.Reference15Ideal.Value.res_main_v73
  rfl
theorem ref10 (m : (ℓ : Loc Cert.Reference15Ideal.nD Cert.Reference15Ideal.τ Cert.Reference15Ideal.sig) → Buf (Elt Ideal) ℓ) (c : Dev Cert.Reference15Ideal.nD) :
    Cert.Reference15Ideal.Value.res_main_v51 (F := Ideal) m c
      = DG (RES (OUT (m (c.tc.loc Cert.Reference15Ideal.main_arg0)) (m (c.tc.loc Cert.Reference15Ideal.main_arg1))) (m (c.tc.loc Cert.Reference15Ideal.main_arg2)) (m (c.tc.loc Cert.Reference15Ideal.main_arg3)))
          (m (c.tc.loc Cert.Reference15Ideal.main_arg4)) (m (c.tc.loc Cert.Reference15Ideal.main_arg5)) := by
  unfold Cert.Reference15Ideal.Value.res_main_v51
  rfl

/-- Equal arguments give equal arrays. -/
theorem OUT_congr {H H' : FVec Ideal S4096x4096 .bf16} {W W' : FVec Ideal S4096x1024 .f32} (a : H = H') (b : W = W') :
    OUT H W = OUT H' W' := by rw [a, b]
theorem RES_congr {O O' h h' : FVec Ideal S4096x1024 .f32} {g g' : FVec Ideal S1x1024 .f32} (a : O = O') (b : h = h') (d : g = g') :
    RES O h g = RES O' h' g' := by rw [a, b, d]
theorem DH_congr {X X' T T' : FVec Ideal S4096x1024 .f32} {g g' : FVec Ideal S1024 .f32} (a : X = X') (b : T = T') (d : g = g') :
    DH X T g = DH X' T' g' := by cases a; cases b; cases d; rfl
theorem DM_congr {X X' T T' : FVec Ideal S4096x1024 .f32} {g g' : FVec Ideal S1024 .f32} {k k' : FVec Ideal S1x1024 .f32}
    (a : X = X') (b : T = T') (d : g = g') (e : k = k') : DM X T g k = DM X' T' g' k' := by cases a; cases b; cases d; cases e; rfl
theorem SQ_congr {X X' T T' : FVec Ideal S4096x1024 .f32} {g g' : FVec Ideal S1024 .f32} (a : X = X') (b : T = T') (d : g = g') :
    SQ X T g = SQ X' T' g' := by cases a; cases b; cases d; rfl
theorem DG_congr {X X' T T' : FVec Ideal S4096x1024 .f32} {g g' : FVec Ideal S1024 .f32} (a : X = X') (b : T = T') (d : g = g') :
    DG X T g = DG X' T' g' := by cases a; cases b; cases d; rfl

end Cert.Kernel15Ideal.DownRef

end
-- ==== Proof.Down.lean ====
/-
  The second product of the MLP with the loss head: the product, the gradient of the loss with respect to the residual stream,
  the same gated, the sums of squared errors and the gradient's copies for the last gain.

  WHAT A BLOCK COMPUTES: the two points of a tile of 512 rows each multiply `relu(f)²` by one half of `w2` over 2048 hidden
  columns; the first leaves its part in the accumulator, the second adds its own. The second then has the tile of the product
  `o`, forms the rows `x = h + gate · o`, normalises them, takes the error `e = norm · gain − target`, and from it the
  gradient of the row, the gradient times the gate, and over the rows of each of eight copies the sums of `e²` and of
  `(e / 1024) · norm`.
  WHAT THE ARRAYS HOLD: the eight tiles cover every array, so each is one function of the arguments.
  WHAT THE REFERENCE COMPUTES: the product over all 4096 hidden columns, the loss head on all rows, and its derivative.
  THE EQUATIONS: the sum over 4096 columns is the sum of its two halves; `(½ / 1024) · (2 e) = e · (1 / 1024)`; and the two
  ways to write the gradient of a normalised row agree where all numbers are finite (`NormGrad.grad_eq`), which is the
  precondition. The product, the sums of squares and the gain's copies need no precondition.
-/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise
public import Idealize.ShloMosaic.Lib.Claim
public import proofs.«01_k».proof.Proof.NormGrad
public import proofs.«01_k».proof.Proof.DownRef
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel15Ideal.Down

open Cert.Kernel15Ideal Cert.Kernel15Ideal.Gen

open Cert.Kernel15Ideal.DownRef

variable (m : (ℓ : Loc nD τ sig) → Buf (Elt Ideal) ℓ) (c : Dev nD)

/-- Which block each window stages at grid point `t`: rows tile `t / 2`, half `t % 2` of the hidden layer. -/
theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![t.val / 2, 0] ∧ win0_5.index t = ![0, 0]
    ∧ win0_6.index t = ![t.val / 2, 0] ∧ win0_7.index t = ![t.val / 2, 0] ∧ win0_8.index t = ![t.val / 2, 0]
    ∧ win0_9.index t = ![t.val / 2, 0, 0] ∧ win0_10.index t = ![t.val / 2, 0, 0] :=
  (by decide +kernel : ∀ t : Fin grid0.N, _)

/-- A point that starts a tile leaves its own product in the accumulator. -/
theorem carry_A (t : Fin cfg0.N) (h0 : t.val % 2 = 0) (h1 : ¬t.val % 2 = 1) (j : S512x1024.Idx) :
    (outsAt0 m c t.val t.isLt).2.2.2.2.2 j = k0_pay1 (iblk m c 0 t) (iblk m c 1 t) j := by
  rw [outsAt0_A m c t h0 h1 h1]
  frame_out
  pointwise [k0_pay2]

/-- A point that ends a tile leaves the accumulator plus its own product as the tile. -/
theorem tile_B (t : Fin cfg0.N) (h0 : ¬t.val % 2 = 0) (h1 : t.val % 2 = 1) (j : S512x1024.Idx) :
    (outsAt0 m c t.val t.isLt).1 j
      = (outsAt0 m c (t.val - 1) (Nat.lt_of_le_of_lt (Nat.sub_le _ _) t.isLt)).2.2.2.2.2 j + k0_pay1 (iblk m c 0 t) (iblk m c 1 t) j := by
  rw [outsAt0_B m c t h0 h1 h1]
  frame_out
  pointwise [k0_pay3]
  rw [(Memref.isWhole_whole cc0_scratch0).read_unread]

theorem grad_B (t : Fin cfg0.N) (h0 : ¬t.val % 2 = 0) (h1 : t.val % 2 = 1) (j : S512x1024.Idx) :
    (outsAt0 m c t.val t.isLt).2.1 j
      = k0_pay13 (outsAt0 m c t.val t.isLt).1 (iblk m c 2 t) (iblk m c 3 t) (iblk m c 4 t) (iblk m c 5 t) j := by
  rw [outsAt0_B m c t h0 h1 h1]
  frame_out

theorem sum_B (t : Fin cfg0.N) (h0 : ¬t.val % 2 = 0) (h1 : t.val % 2 = 1) (j : S1x8x1024.Idx) :
    (outsAt0 m c t.val t.isLt).2.2.2.1 j
      = k0_pay5 (k0_pay15 (outsAt0 m c t.val t.isLt).1 (iblk m c 2 t) (iblk m c 3 t) (iblk m c 4 t) (iblk m c 5 t)) j := by
  rw [outsAt0_B m c t h0 h1 h1]
  frame_out

/-- The two halves of a tile together are the reference's tile: `s` is the point before `t`. -/
theorem halves (s t : Fin cfg0.N) (hs : s.val + 1 = t.val) (ht : t.val % 2 = 1) (y : S512x1024.Idx) :
    k0_pay1 (iblk m c 0 s) (iblk m c 1 s) y + k0_pay1 (iblk m c 0 t) (iblk m c 1 t) y
      = OUT (m ((c : Thread nD τ).loc main_arg0)) (m ((c : Thread nD τ).loc main_arg1))
          (((cfg0.win 6).blk t).view.emb y) := by
  pointwise [k0_pay1, OUT]
  rw [Fin.sum_univ_two_halves (N := 4096) 2048 2048 rfl]
  simp only [iblk]
  entry_read
  refine congrArg₂ (· + ·) (Finset.sum_congr rfl fun k _ => ?_) (Finset.sum_congr rfl fun k _ => ?_)
  · blk_point [iblk, V, idx s, idx t]
  · blk_point [iblk, V, idx t]

/-- The gradient's copies on a tile: the body's partial products, as the last point leaves them. -/
theorem gain_B (t : Fin cfg0.N) (h0 : ¬t.val % 2 = 0) (h1 : t.val % 2 = 1) (j : S1x8x1024.Idx) :
    (outsAt0 m c t.val t.isLt).2.2.2.2.1 j
      = k0_pay6 (k0_pay16 (outsAt0 m c t.val t.isLt).1 (iblk m c 2 t) (iblk m c 3 t) (iblk m c 4 t) (iblk m c 5 t)) j := by
  rw [outsAt0_B m c t h0 h1 h1]
  frame_out

theorem gated_B (t : Fin cfg0.N) (h0 : ¬t.val % 2 = 0) (h1 : t.val % 2 = 1) (j : S512x1024.Idx) :
    (outsAt0 m c t.val t.isLt).2.2.1 j
      = k0_pay4 (k0_pay14 (outsAt0 m c t.val t.isLt).1 (iblk m c 2 t) (iblk m c 3 t) (iblk m c 4 t) (iblk m c 5 t)) j := by
  rw [outsAt0_B m c t h0 h1 h1]
  frame_out

open NormGrad in
/-- The error of one row: the normalised row times the gain, less the target. -/
def err (x g t : Fin 1024 → EReal) (k : Fin 1024) : EReal := x k * rs x * g k - t k

/-- The row of the residual a tile's row holds, from the tile's product, residual and gate. -/
abbrev xrow (o h : FVec Ideal S512x1024 .f32) (g2 : FVec Ideal S1x1024 .f32) (a : Fin 512) (k : Fin 1024) : EReal :=
  h (ix2 a k) + g2 (ix2 0 k) * o (ix2 a k)

theorem xrow_of {o h : FVec Ideal S512x1024 .f32} {g2 : FVec Ideal S1x1024 .f32} {a : Fin 512} {k : Fin 1024} {x y z : EReal}
    (e1 : h (ix2 a k) = x) (e2 : g2 (ix2 0 k) = y) (e3 : o (ix2 a k) = z) : xrow o h g2 a k = x + y * z := by
  rw [← e1, ← e2, ← e3]

open NormGrad in
/-- The body's gradient on a tile, row by row. -/
theorem pay13_at (o h T : FVec Ideal S512x1024 .f32) (g2 g : FVec Ideal S1x1024 .f32) (a : Fin 512) (b : Fin 1024) :
    k0_pay13 (F := Ideal) o h g2 T g (ix2 a b)
      = kernelGrad (xrow o h g2 a)
          (fun k => err (xrow o h g2 a) (fun k => g (ix2 0 k)) (fun k => T (ix2 a k)) k * inv1024 * g (ix2 0 k)) b := by
  pointwise [k0_pay7, k0_pay8, k0_pay9, k0_pay10, k0_pay11, k0_pay12, k0_pay13]
  rfl

open NormGrad in
/-- The reference's gradient, row by row. -/
theorem DH_at (X T : FVec Ideal S4096x1024 .f32) (g : FVec Ideal S1024 .f32) (p : Fin 4096) (q : Fin 1024) :
    DH X T g (ix2 p q)
      = refGrad (fun k => X (ix2 p k))
          (fun k => Ideal.div half c1024 * (two * err (fun k => X (ix2 p k)) (fun k => g (ix1 k)) (fun k => T (ix2 p k)) k) * g (ix1 k)) q := by
  pointwise [DH, VIA, DXH, DY, VAR, ONES, GAIN, NORM, ERR]
  simp only [Fin.sum_univ_one]
  rfl

/-- The gate applied to the gradient, by the body and by the reference. -/
theorem pay14_at (o h T : FVec Ideal S512x1024 .f32) (g2 g : FVec Ideal S1x1024 .f32) (a : Fin 512) (b : Fin 1024) :
    k0_pay4 (k0_pay14 (F := Ideal) o h g2 T g) (ix2 a b) = k0_pay13 (F := Ideal) o h g2 T g (ix2 a b) * g2 (ix2 0 b) := by
  pointwise [k0_pay4, k0_pay14]
theorem gated_at (D : FVec Ideal S4096x1024 .f32) (g2 : FVec Ideal S1x1024 .f32) (p : Fin 4096) (q : Fin 1024) :
    truncf .bf16 (mulf (broadcastInDim Cert.Reference15Ideal.S4096x1024 ![0, 1] Cert.Reference15Ideal.Gen.bcast_S1x1024_S4096x1024_0_1 g2) D) Cert.Reference15Ideal.Gen.bitsLt_bf16_f32 (ix2 p q)
      = g2 (ix2 0 q) * D (ix2 p q) := by
  pointwise

/-- Row `x` of the eight-row copy `s`, within a tile; and within all rows, of tile `i`. -/
def rowOf (x : Fin 64) (s : Fin 8) : Fin 512 := ⟨x.val * 8 + s.val, by omega⟩
def rowIn (i : Fin 8) (a : Fin 512) : Fin 4096 := ⟨i.val * 512 + a.val, by omega⟩

open NormGrad in
/-- The body's sum of squared errors over sixty-four rows of a tile. -/
theorem pay15_at (o h T : FVec Ideal S512x1024 .f32) (g2 g : FVec Ideal S1x1024 .f32) (i : Fin 1) (s : Fin 8) (q : Fin 1024) :
    k0_pay5 (k0_pay15 (F := Ideal) o h g2 T g) (ix3 i s q)
      = ∑ x : Fin 64, err (xrow o h g2 (rowOf x s)) (fun k => g (ix2 0 k)) (fun k => T (ix2 (rowOf x s) k)) q
          * err (xrow o h g2 (rowOf x s)) (fun k => g (ix2 0 k)) (fun k => T (ix2 (rowOf x s) k)) q := by
  pointwise [k0_pay5, k0_pay7, k0_pay8, k0_pay9, k0_pay10, k0_pay11, k0_pay15]
  rfl

open NormGrad in
/-- The body's partial products for the gain, over the same rows. -/
theorem pay16_at (o h T : FVec Ideal S512x1024 .f32) (g2 g : FVec Ideal S1x1024 .f32) (i : Fin 1) (s : Fin 8) (q : Fin 1024) :
    k0_pay6 (k0_pay16 (F := Ideal) o h g2 T g) (ix3 i s q)
      = ∑ x : Fin 64, err (xrow o h g2 (rowOf x s)) (fun k => g (ix2 0 k)) (fun k => T (ix2 (rowOf x s) k)) q * inv1024
          * (xrow o h g2 (rowOf x s) q * rs (xrow o h g2 (rowOf x s))) := by
  pointwise [k0_pay5, k0_pay6, k0_pay7, k0_pay8, k0_pay9, k0_pay10, k0_pay11, k0_pay12, k0_pay16]
  rfl

open NormGrad in
/-- The reference's sums of squared errors, and its partial products for the gain. -/
theorem SQ_at (X T : FVec Ideal S4096x1024 .f32) (g : FVec Ideal S1024 .f32) (i s : Fin 8) (q : Fin 1024) :
    SQ X T g (ix3 i s q)
      = ∑ x : Fin 64, err (fun k => X (ix2 (rowIn i (rowOf x s)) k)) (fun k => g (ix1 k)) (fun k => T (ix2 (rowIn i (rowOf x s)) k)) q
          * err (fun k => X (ix2 (rowIn i (rowOf x s)) k)) (fun k => g (ix1 k)) (fun k => T (ix2 (rowIn i (rowOf x s)) k)) q := by
  pointwise [SQ, VAR, ONES, GAIN, NORM, ERR]
  simp only [rowIn, rowOf, ← Nat.add_assoc]
  rfl
open NormGrad in
theorem DG_at (X T : FVec Ideal S4096x1024 .f32) (g : FVec Ideal S1024 .f32) (i s : Fin 8) (q : Fin 1024) :
    DG X T g (ix3 i s q)
      = ∑ x : Fin 64, Ideal.div half c1024 * (two * err (fun k => X (ix2 (rowIn i (rowOf x s)) k)) (fun k => g (ix1 k))
              (fun k => T (ix2 (rowIn i (rowOf x s)) k)) q)
          * (X (ix2 (rowIn i (rowOf x s)) q) * rs (fun k => X (ix2 (rowIn i (rowOf x s)) k))) := by
  pointwise [DG, DY, SQ, VAR, ONES, GAIN, NORM, ERR]
  simp only [Fin.sum_univ_one, rowIn, rowOf, ← Nat.add_assoc]
  exact Finset.sum_congr rfl fun x _ => mul_comm _ _

/-- The tile grid point `t` works on. -/
def tileOf (t : Fin cfg0.N) : Fin 8 := ⟨t.val / 2, by have h : t.val < 16 := t.isLt; omega⟩

/-- Entries of the staged blocks, at the places of the arrays. -/
theorem res_at (t : Fin cfg0.N) (a : Fin 512) (k : Fin 1024) :
    iblk m c 2 t (ix2 a k) = (m ((c : Thread nD τ).loc main_arg2) : FVec Ideal S4096x1024 .f32) (ix2 (rowIn (tileOf t) a) k) := by
  simp only [iblk]
  entry_read
  blk_point [iblk, V, idx t, rowIn, tileOf]
theorem target_at (t : Fin cfg0.N) (a : Fin 512) (k : Fin 1024) :
    iblk m c 4 t (ix2 a k) = (m ((c : Thread nD τ).loc main_arg4) : FVec Ideal S4096x1024 .f32) (ix2 (rowIn (tileOf t) a) k) := by
  simp only [iblk]
  entry_read
  blk_point [iblk, V, idx t, rowIn, tileOf]
theorem gate_at (t : Fin cfg0.N) (k : Fin 1024) :
    iblk m c 3 t (ix2 0 k) = (m ((c : Thread nD τ).loc main_arg3) : FVec Ideal S1x1024 .f32) (ix2 0 k) := by
  simp only [iblk]
  entry_read
  blk_point [iblk, V, idx t]
theorem gain_at (t : Fin cfg0.N) (k : Fin 1024) :
    iblk m c 5 t (ix2 0 k) = (m ((c : Thread nD τ).loc main_arg5) : FVec Ideal S1024 .f32) (ix1 k) := by
  simp only [iblk]
  entry_read
  have e : ∀ Y : FVec Ideal S1x1024 .f32,
      View.read (Elt Ideal) ((View.whole main_v1).slice ((win0 5).rect t)) Y (ix2 0 k) = Y (ix2 0 k) := fun Y => by
    blk_point [idx t]
  refine (e _).trans ?_
  pointwise

/-- Where a result window puts an entry of its tile. -/
theorem emb6 (X : FVec Ideal S4096x1024 .f32) (t : Fin cfg0.N) (a : Fin 512) (k : Fin 1024) :
    X (((cfg0.win 6).blk t).view.emb (ix2 a k)) = X (ix2 (rowIn (tileOf t) a) k) := by
  blk_point [idx t, rowIn, tileOf]
theorem emb7 (X : FVec Ideal S4096x1024 .f32) (t : Fin cfg0.N) (a : Fin 512) (k : Fin 1024) :
    X (((cfg0.win 7).blk t).view.emb (ix2 a k)) = X (ix2 (rowIn (tileOf t) a) k) := by
  blk_point [idx t, rowIn, tileOf]
theorem emb8 (X : FVec Ideal S4096x1024 .bf16) (t : Fin cfg0.N) (a : Fin 512) (k : Fin 1024) :
    X (((cfg0.win 8).blk t).view.emb (ix2 a k)) = X (ix2 (rowIn (tileOf t) a) k) := by
  blk_point [idx t, rowIn, tileOf]
theorem emb9 (X : FVec Ideal S8x8x1024 .f32) (t : Fin cfg0.N) (s : Fin 8) (k : Fin 1024) :
    X (((cfg0.win 9).blk t).view.emb (ix3 0 s k)) = X (ix3 (tileOf t) s k) := by
  blk_point [idx t, rowIn, tileOf]
theorem emb10 (X : FVec Ideal S8x8x1024 .f32) (t : Fin cfg0.N) (s : Fin 8) (k : Fin 1024) :
    X (((cfg0.win 10).blk t).view.emb (ix3 0 s k)) = X (ix3 (tileOf t) s k) := by
  blk_point [idx t, rowIn, tileOf]

/-- The reference's arrays, of the call's arguments. -/
abbrev out : FVec Ideal S4096x1024 .f32 := OUT (m ((c : Thread nD τ).loc main_arg0)) (m ((c : Thread nD τ).loc main_arg1))
abbrev res : FVec Ideal S4096x1024 .f32 := RES (out m c) (m ((c : Thread nD τ).loc main_arg2)) (m ((c : Thread nD τ).loc main_arg3))
abbrev tgt : FVec Ideal S4096x1024 .f32 := m ((c : Thread nD τ).loc main_arg4)
abbrev gain : FVec Ideal S1024 .f32 := m ((c : Thread nD τ).loc main_arg5)
abbrev gate : FVec Ideal S1x1024 .f32 := m ((c : Thread nD τ).loc main_arg3)

/-- The tile of the product, at a point that ends one. -/
theorem out_at (t : Fin cfg0.N) (ht : t.val % 2 = 1) (y : S512x1024.Idx) :
    (outsAt0 m c t.val t.isLt).1 y = out m c (((cfg0.win 6).blk t).view.emb y) := by
  rw [tile_B m c t (by omega) ht]
  have hs : t.val - 1 < cfg0.N := Nat.lt_of_le_of_lt (Nat.sub_le _ _) t.isLt
  have e := carry_A m c ⟨t.val - 1, hs⟩ (by show (t.val - 1) % 2 = 0; omega) (by show ¬(t.val - 1) % 2 = 1; omega) y
  refine (congrArg (· + k0_pay1 (iblk m c 0 t) (iblk m c 1 t) y) e).trans ?_
  exact halves m c ⟨t.val - 1, hs⟩ t (by show t.val - 1 + 1 = t.val; omega) ht y

/-- A row of the residual, as the tile holds it, is the reference's row. -/
theorem row_at (t : Fin cfg0.N) (ht : t.val % 2 = 1) (a : Fin 512) :
    xrow (outsAt0 m c t.val t.isLt).1 (iblk m c 2 t) (iblk m c 3 t) a = fun k => res m c (ix2 (rowIn (tileOf t) a) k) := by
  funext k
  refine (xrow_of (res_at m c t a k) (gate_at m c t k) ((out_at m c t ht _).trans (emb6 (out m c) t a k))).trans ?_
  pointwise [res, RES]

theorem entry_at (t : Fin cfg0.N) (ht : t.val % 2 = 1) (a : Fin 512) (k : Fin 1024) :
    xrow (outsAt0 m c t.val t.isLt).1 (iblk m c 2 t) (iblk m c 3 t) a k = res m c (ix2 (rowIn (tileOf t) a) k) :=
  congrFun (row_at m c t ht a) k

/-- The rows of the gain and of the target, as the tile holds them. -/
theorem gainRow (t : Fin cfg0.N) : (fun k : Fin 1024 => iblk m c 5 t (ix2 0 k)) = fun k => gain m c (ix1 k) :=
  funext fun k => gain_at m c t k
theorem targetRow (t : Fin cfg0.N) (a : Fin 512) :
    (fun k : Fin 1024 => iblk m c 4 t (ix2 a k)) = fun k => tgt m c (ix2 (rowIn (tileOf t) a) k) :=
  funext fun k => target_at m c t a k

/-- The product after the run. -/
theorem final6 : (dats m 0 c).arrAt 6 cfg0.N = out m c := by
  refine (dats m 0 c).arrAt_eq_of_covers 6 _ (by decide +kernel) fun t hf y => ?_
  blk_simp
  rw [after0_6]
  exact out_at m c t ((flush0_6 t).mp hf) y

/-- The sums of squared errors after the run. -/
theorem final9 : (dats m 0 c).arrAt 9 cfg0.N = SQ (res m c) (tgt m c) (gain m c) := by
  refine (dats m 0 c).arrAt_eq_of_covers 9 _ (by decide +kernel) fun t hf y => ?_
  have ht := (flush0_9 t).mp hf
  blk_simp
  rw [after0_9, sum_B m c t (by omega) ht]
  obtain ⟨i, s, q, rfl⟩ : ∃ (i : Fin 1) (s : Fin 8) (q : Fin 1024), y = ix3 i s q := ⟨y 0, y 1, y 2, eq_ix3 y⟩
  obtain rfl : i = 0 := Subsingleton.elim _ _
  rw [pay15_at, emb9 (SQ (res m c) (tgt m c) (gain m c)), SQ_at]
  simp only [row_at m c t ht, gain_at, target_at]

/-- The partial products for the gain after the run. -/
theorem final10 : (dats m 0 c).arrAt 10 cfg0.N = DG (res m c) (tgt m c) (gain m c) := by
  refine (dats m 0 c).arrAt_eq_of_covers 10 _ (by decide +kernel) fun t hf y => ?_
  have ht := (flush0_10 t).mp hf
  blk_simp
  rw [after0_10, gain_B m c t (by omega) ht]
  obtain ⟨i, s, q, rfl⟩ : ∃ (i : Fin 1) (s : Fin 8) (q : Fin 1024), y = ix3 i s q := ⟨y 0, y 1, y 2, eq_ix3 y⟩
  obtain rfl : i = 0 := Subsingleton.elim _ _
  rw [pay16_at, emb10 (DG (res m c) (tgt m c) (gain m c)), DG_at]
  simp only [row_at m c t ht, entry_at m c t ht, gain_at, target_at, NormGrad.half_mean]

/-- All the numbers of the call's arguments are finite. -/
def Finite : Prop :=
  (∀ j, NormGrad.IsReal ((m ((c : Thread nD τ).loc main_arg0) : FVec Ideal S4096x4096 .bf16) j))
  ∧ (∀ j, NormGrad.IsReal ((m ((c : Thread nD τ).loc main_arg1) : FVec Ideal S4096x1024 .f32) j))
  ∧ (∀ j, NormGrad.IsReal ((m ((c : Thread nD τ).loc main_arg2) : FVec Ideal S4096x1024 .f32) j))
  ∧ (∀ j, NormGrad.IsReal (gate m c j)) ∧ (∀ j, NormGrad.IsReal (tgt m c j)) ∧ (∀ j, NormGrad.IsReal (gain m c j))

/-- Then the rows of the residual are real, and the error too. -/
theorem real_res (h : Finite m c) (p : Fin 4096) (k : Fin 1024) : NormGrad.IsReal (res m c (ix2 p k)) := by
  obtain ⟨h0, h1, h2, h3, -, -⟩ := h
  pointwise [res, RES, out, OUT]
  refine (h2 _).add ((h3 _).mul (NormGrad.IsReal.sum _ fun k => ?_))
  have z : NormGrad.IsReal 0 := ⟨0, rfl⟩
  exact (((h0 _).max z).mul ((h0 _).max z)).mul (h1 _)
theorem real_err (h : Finite m c) (p : Fin 4096) (k : Fin 1024) :
    NormGrad.IsReal (err (fun k => res m c (ix2 p k)) (fun k => gain m c (ix1 k)) (fun k => tgt m c (ix2 p k)) k) :=
  (((real_res m c h p k).mul (NormGrad.IsReal.rs (fun k => real_res m c h p k))).mul (h.2.2.2.2.2 _)).sub (h.2.2.2.2.1 _)

/-- A row of the gradient: the body's is the reference's. -/
theorem grad_at (h : Finite m c) (t : Fin cfg0.N) (ht : t.val % 2 = 1) (a : Fin 512) (b : Fin 1024) :
    k0_pay13 (outsAt0 m c t.val t.isLt).1 (iblk m c 2 t) (iblk m c 3 t) (iblk m c 4 t) (iblk m c 5 t) (ix2 a b)
      = DH (res m c) (tgt m c) (gain m c) (ix2 (rowIn (tileOf t) a) b) := by
  rw [pay13_at, DH_at, row_at m c t ht, gainRow, targetRow]
  simp only [gain_at, NormGrad.half_mean]
  refine NormGrad.grad_eq (fun k => real_res m c h _ k) (fun k => ?_) b
  exact ((real_err m c h _ k).mul ⟨_, NormGrad.inv1024_eq⟩).mul (h.2.2.2.2.2 _)

/-- The gradient of the residual after the run. -/
theorem final7 (h : Finite m c) : (dats m 0 c).arrAt 7 cfg0.N = DH (res m c) (tgt m c) (gain m c) := by
  refine (dats m 0 c).arrAt_eq_of_covers 7 _ (by decide +kernel) fun t hf y => ?_
  have ht := (flush0_7 t).mp hf
  blk_simp
  rw [after0_7, grad_B m c t (by omega) ht]
  obtain ⟨a, b, rfl⟩ : ∃ (a : Fin 512) (b : Fin 1024), y = ix2 a b := ⟨y 0, y 1, eq_ix2 y⟩
  rw [grad_at m c h t ht, emb7 (DH (res m c) (tgt m c) (gain m c))]

/-- The gated gradient after the run. -/
theorem final8 (h : Finite m c) : (dats m 0 c).arrAt 8 cfg0.N = DM (res m c) (tgt m c) (gain m c) (gate m c) := by
  refine (dats m 0 c).arrAt_eq_of_covers 8 _ (by decide +kernel) fun t hf y => ?_
  have ht := (flush0_8 t).mp hf
  blk_simp
  rw [after0_8, gated_B m c t (by omega) ht]
  obtain ⟨a, b, rfl⟩ : ∃ (a : Fin 512) (b : Fin 1024), y = ix2 a b := ⟨y 0, y 1, eq_ix2 y⟩
  rw [pay14_at, grad_at m c h t ht, gate_at, emb8 (DM (res m c) (tgt m c) (gain m c) (gate m c))]
  exact (mul_comm _ _).trans (gated_at (DH (res m c) (tgt m c) (gain m c)) (gate m c) _ b).symm

/-- The side facts of the precondition's own text. -/
instance preFacts : Cert.Pre_finite_down.Facts where
  bitsLt_bf16_f32 := by decide
  bcast_S_S4096x4096 := by decide
  reducesTo_S4096x4096_S_d0_1 := by decide
  h_S_ := by decide
  bcast_S_S4096x1024 := by decide
  reducesTo_S4096x1024_S_d0_1 := by decide
  bcast_S_S1x1024 := by decide
  reducesTo_S1x1024_S_d0_1 := by decide
  bcast_S_S1024 := by decide
  reducesTo_S1024_S_d0 := by decide

/-- The precondition says that all numbers are finite. -/
theorem finite_of [Cert.Pre_finite_down.Facts] (h : Cert.Pre_Kernel15Ideal_finite_down m) : Finite m c := by
  have h0 := congrFun (h c) (fun i => i.elim0)
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun j => NormGrad.isReal_of_test (Host.reduce_andi_all _ _ _ _ _ h0 j),
    fun j => NormGrad.isReal_of_test (Host.reduce_andi_all _ _ _ _ _ h1 j),
    fun j => NormGrad.isReal_of_test (Host.reduce_andi_all _ _ _ _ _ h2 j),
    fun j => NormGrad.isReal_of_test (Host.reduce_andi_all _ _ _ _ _ h3 j),
    fun j => NormGrad.isReal_of_test (Host.reduce_andi_all _ _ _ _ _ h4 j),
    fun j => NormGrad.isReal_of_test (Host.reduce_andi_all _ _ _ _ _ h5 j)⟩

/-- The kernel's five results are the reference's, from any memory in which their arguments agree and are finite. -/
theorem algebraic [Cert.Pre_finite_down.Facts] : Cert.algebraic_Kernel15Ideal_Reference15Ideal_pre_finite_down := by
  pair_intro
  · run_from Cert.Kernel15Ideal.Gen.run_main m g
  · refine θ_run_mono (Cert.Reference15Ideal.Value.run m' g') fun r hr c => ?_
    obtain ⟨h0, h1, h2, h3, h4, h5⟩ := hagree c
    have hf := finite_of m c hpre
    have o := OUT_congr h0 h1
    have e := RES_congr o h2 h3
    exact ⟨((hr c).1.trans o).trans (final6 m c).symm,
      (hr c).2.1.trans ((ref7 m' c).trans ((DH_congr e h4 h5).trans (final7 m c hf).symm)),
      (hr c).2.2.1.trans ((ref8 m' c).trans ((DM_congr e h4 h5 h3).trans (final8 m c hf).symm)),
      (hr c).2.2.2.1.trans ((ref9 m' c).trans ((SQ_congr e h4 h5).trans (final9 m c).symm)),
      (hr c).2.2.2.2.1.trans ((ref10 m' c).trans ((DG_congr e h4 h5).trans (final10 m c).symm)), (hr c).2.2.2.2.2⟩

end Cert.Kernel15Ideal.Down

end
-- ==== Proof.Adam.lean ====
/-
  One optimiser step, stated once for every array it is applied to: the scalar equations, and the whole-array expression
  of the reference (`_adamw_step`), which at every index is the scalar equation of that index's entries.

  With gradient `g`, running mean `m`, running square `v` and weight `w`:
    m' = b1 · m + (1 − b1) · g,   v' = b2 · v + (1 − b2) · g²,
    delta = −lr · ( (m' / (1 − b1^step)) / (√(v' / (1 − b2^step)) + eps) + wd · w ).
-/
module

public import proofs.«01_k».proof.Defs
public import Idealize.ShloMosaic.Lib.Pipeline.ValueKit
public import Idealize.ShloMosaic.Lib.Pointwise

@[expose] public section

noncomputable section

open Idealize.ShloMosaic

namespace Cert.Adam

/-- A real number given by its word. -/
abbrev lit (b : BitVec 32) : Ideal .f32 := Scalar.ofBits .f32 b

/-- The new running mean of one entry. -/
def mean (g m : Ideal .f32) : Ideal .f32 :=
  FloatOps.addf (FloatOps.mulf (lit 0x3F666666#32) m) (FloatOps.mulf (lit 0x3DCCCCCD#32) g)

/-- The new running square of one entry. -/
def square (g v : Ideal .f32) : Ideal .f32 :=
  FloatOps.addf (FloatOps.mulf (lit 0x3F7FBE77#32) v) (FloatOps.mulf (lit 0x3A83126F#32) (FloatOps.mulf g g))

/-- The change of one weight, from its new running mean and square. -/
def deltaOf (w m v : Ideal .f32) : Ideal .f32 :=
  FloatOps.mulf (lit 0xBA83126F#32) (FloatOps.addf
    (FloatOps.divf (FloatOps.divf m (lit 0x3F26BD02#32))
      (FloatOps.addf (FloatOps.sqrt (FloatOps.divf v (lit 0x3C231ACC#32))) (lit 0x322BCC77#32)))
    (FloatOps.mulf (lit 0x3C23D70A#32) w))

/-- The change of one weight. -/
def delta (w g m v : Ideal .f32) : Ideal .f32 := deltaOf w (mean g m) (square g v)

/-- The shape of a scalar. -/
abbrev S0 : Shape := ⟨0, ![]⟩

variable {s : Shape} (hb : S0.BroadcastsInDim s (![] : Fin 0 → Fin s.rank))

/-- A constant over the whole array. -/
abbrev fill (b : BitVec 32) : FVec Ideal s .f32 := broadcastInDim s ![] hb (constant S0 .f32 b)

/-- The reference's new running mean of a whole array. -/
abbrev Mean (G M : FVec Ideal s .f32) : FVec Ideal s .f32 :=
  addf (mulf (fill hb 0x3F666666#32) M) (mulf (fill hb 0x3DCCCCCD#32) G)

/-- The reference's new running square of a whole array. -/
abbrev Square (G V : FVec Ideal s .f32) : FVec Ideal s .f32 :=
  addf (mulf (fill hb 0x3F7FBE77#32) V) (mulf (fill hb 0x3A83126F#32) (mulf G G))

/-- The reference's change of a whole weight. -/
abbrev Delta (W G M V : FVec Ideal s .f32) : FVec Ideal s .f32 :=
  mulf (fill hb 0xBA83126F#32) (addf
    (Host.divf (Host.divf (Mean hb G M) (fill hb 0x3F26BD02#32))
      (addf (Host.sqrt (Host.divf (Square hb G V) (fill hb 0x3C231ACC#32))) (fill hb 0x322BCC77#32)))
    (mulf (fill hb 0x3C23D70A#32) W))

theorem Mean_at (G M : FVec Ideal s .f32) (j : s.Idx) : Mean hb G M j = mean (G j) (M j) := rfl
theorem Square_at (G V : FVec Ideal s .f32) (j : s.Idx) : Square hb G V j = square (G j) (V j) := rfl
theorem Delta_at (W G M V : FVec Ideal s .f32) (j : s.Idx) :
    Delta hb W G M V j = delta (W j) (G j) (M j) (V j) := rfl

/-- Equal arguments give equal results. -/
theorem Mean_congr {G G' M M' : FVec Ideal s .f32} (h : G = G') (k : M = M') : Mean hb G M = Mean hb G' M' := by
  rw [h, k]
theorem Square_congr {G G' V V' : FVec Ideal s .f32} (h : G = G') (k : V = V') : Square hb G V = Square hb G' V' := by
  rw [h, k]
theorem Delta_congr {W W' G G' M M' V V' : FVec Ideal s .f32} (h : W = W') (i : G = G') (j : M = M') (k : V = V') :
    Delta hb W G M V = Delta hb W' G' M' V' := by
  rw [h, i, j, k]

end Cert.Adam

end
-- ==== Proof.AdamAda.lean ====
/-
  The optimiser step of `ada_w`, whose gradient comes as one part.

  WHAT A BLOCK COMPUTES: grid point `t` takes rows `128 t ..` of the weight, the gradient, the running mean and the
  running square, and applies the step entry by entry.
  WHAT THE ARRAYS HOLD: the gradient, the change of the weight, the new running mean and square of every entry.
  WHAT THE REFERENCE COMPUTES: the sum over the one part, and the same step on the whole arrays.
-/
module

public import proofs.«01_k».proof.Defs
public import proofs.«01_k».proof.Proof.Gen.Kernel20Ideal.Frame
public import proofs.«01_k».proof.Proof.Gen.Reference20Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel20Ideal.AdamAda

open Cert.Kernel20Ideal Cert.Kernel20Ideal.Gen

/-- The reference's own term: the sum of the gradient parts. -/
abbrev G (P : FVec Ideal S1x1024x768 .f32) : FVec Ideal S1024x768 .f32 :=
  Host.reduceAdd P (constant Cert.Reference20Ideal.S_ .f32 0x00000000#32) Cert.Reference20Ideal.Gen.reducesTo_S1x1024x768_S1024x768_d0 Cert.Reference20Ideal.Gen.h_S_

/-- A scalar extends to the whole array. -/
abbrev hb := Cert.Reference20Ideal.Gen.bcast_S_S1024x768

variable (m : (ℓ : Loc nD τ sig) → Buf (Elt Ideal) ℓ) (c : Dev nD)

/-- The arguments: weight, gradient parts, running mean, running square. -/
abbrev W : FVec Ideal S1024x768 .f32 := m ((c : Thread nD τ).loc main_arg0)
abbrev P : FVec Ideal S1x1024x768 .f32 := m ((c : Thread nD τ).loc main_arg1)
abbrev M : FVec Ideal S1024x768 .f32 := m ((c : Thread nD τ).loc main_arg2)
abbrev Q : FVec Ideal S1024x768 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S128x768.Idx) :
    k0_pay1 (iblk m c 1 t) y = G (P m c) (((cfg0.win 4).blk t).view.emb y) := by
  pointwise [k0_pay1, G]
  simp only [iblk]
  entry_read
  rw [Fin.sum_univ_one]
  blk_point [iblk, V, P, idx t]

/-- The four results' tiles lie at the same places, and the staged tiles of weight, mean and square lie there too. -/
theorem place5 (t : Fin cfg0.N) (y : S128x768.Idx) :
    ((cfg0.win 5).blk t).view.emb y = ((cfg0.win 4).blk t).view.emb y := rfl
theorem place6 (t : Fin cfg0.N) (y : S128x768.Idx) :
    ((cfg0.win 6).blk t).view.emb y = ((cfg0.win 4).blk t).view.emb y := rfl
theorem place7 (t : Fin cfg0.N) (y : S128x768.Idx) :
    ((cfg0.win 7).blk t).view.emb y = ((cfg0.win 4).blk t).view.emb y := rfl
theorem weight (t : Fin cfg0.N) (y : S128x768.Idx) : iblk m c 0 t y = W m c (((cfg0.win 4).blk t).view.emb y) := by
  simp only [iblk]
  entry_read
  blk_point [iblk, V, idx t]
theorem mean (t : Fin cfg0.N) (y : S128x768.Idx) : iblk m c 2 t y = M m c (((cfg0.win 4).blk t).view.emb y) := by
  simp only [iblk]
  entry_read
  blk_point [iblk, V, idx t]
theorem square (t : Fin cfg0.N) (y : S128x768.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  rfl

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  rfl

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel20Ideal_Reference20Ideal := by
  pair_intro
  · run_from Cert.Kernel20Ideal.Gen.run_main m g
  · refine θ_run_mono (Cert.Reference20Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel20Ideal.AdamAda

end
-- ==== Proof.AdamW1.lean ====
/-
  The optimiser step of `mlp_w1`, whose gradient comes as eight parts, one from each device.

  WHAT A BLOCK COMPUTES: grid point `t` takes rows `256 t ..`, adds the eight parts' tiles of the gradient in order, and applies the step to every
  entry of the tile.
  WHAT THE ARRAYS HOLD: the gradient, the change of the weight, the new running mean and square of every entry.
  WHAT THE REFERENCE COMPUTES: the sum over the eight parts, and the same step on the whole arrays.
-/
module

public import proofs.«01_k».proof.Defs
public import proofs.«01_k».proof.Proof.Gen.Kernel21Ideal.Frame
public import proofs.«01_k».proof.Proof.Gen.Reference21Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel21Ideal.AdamW1

open Cert.Kernel21Ideal Cert.Kernel21Ideal.Gen

/-- The reference's own term: the sum of the gradient parts. -/
abbrev G (P : FVec Ideal S8x1024x512 .f32) : FVec Ideal S1024x512 .f32 :=
  Host.reduceAdd P (constant Cert.Reference21Ideal.S_ .f32 0x00000000#32) Cert.Reference21Ideal.Gen.reducesTo_S8x1024x512_S1024x512_d0 Cert.Reference21Ideal.Gen.h_S_

/-- A scalar extends to the whole array. -/
abbrev hb := Cert.Reference21Ideal.Gen.bcast_S_S1024x512

variable (m : (ℓ : Loc nD τ sig) → Buf (Elt Ideal) ℓ) (c : Dev nD)

/-- The arguments: weight, gradient parts, running mean, running square. -/
abbrev W : FVec Ideal S1024x512 .f32 := m ((c : Thread nD τ).loc main_arg0)
abbrev P : FVec Ideal S8x1024x512 .f32 := m ((c : Thread nD τ).loc main_arg1)
abbrev M : FVec Ideal S1024x512 .f32 := m ((c : Thread nD τ).loc main_arg2)
abbrev Q : FVec Ideal S1024x512 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S256x512.Idx) :
    k0_pay5 (iblk m c 0 t) (iblk m c 1 t) (iblk m c 2 t) (iblk m c 3 t) y = G (P m c) (((cfg0.win 4).blk t).view.emb y) := by
  unfold k0_pay5
  pointwise [k0_pay3, G]
  simp only [iblk]
  entry_read
  rw [Fin.sum_univ_eight]
  blk_point [iblk, V, P, idx t]

/-- The new running mean of a tile is the mean of the tile's gradient. -/
theorem mean_tile (t : Fin cfg0.N) (y : S256x512.Idx) :
    k0_pay6 (iblk m c 0 t) (iblk m c 1 t) (iblk m c 2 t) (iblk m c 3 t) y
      = Adam.mean (k0_pay5 (iblk m c 0 t) (iblk m c 1 t) (iblk m c 2 t) (iblk m c 3 t) y) (iblk m c 2 t y) := by
  unfold k0_pay6
  frame_out
  rfl

/-- The four results' tiles lie at the same places, and the staged tiles of weight, mean and square lie there too. -/
theorem place5 (t : Fin cfg0.N) (y : S256x512.Idx) :
    ((cfg0.win 5).blk t).view.emb y = ((cfg0.win 4).blk t).view.emb y := rfl
theorem place6 (t : Fin cfg0.N) (y : S256x512.Idx) :
    ((cfg0.win 6).blk t).view.emb y = ((cfg0.win 4).blk t).view.emb y := rfl
theorem place7 (t : Fin cfg0.N) (y : S256x512.Idx) :
    ((cfg0.win 7).blk t).view.emb y = ((cfg0.win 4).blk t).view.emb y := rfl
theorem weight (t : Fin cfg0.N) (y : S256x512.Idx) : iblk m c 0 t y = W m c (((cfg0.win 4).blk t).view.emb y) := by
  simp only [iblk]
  entry_read
  blk_point [iblk, V, idx t]
theorem mean (t : Fin cfg0.N) (y : S256x512.Idx) : iblk m c 2 t y = M m c (((cfg0.win 4).blk t).view.emb y) := by
  simp only [iblk]
  entry_read
  blk_point [iblk, V, idx t]
theorem square (t : Fin cfg0.N) (y : S256x512.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  exact congrArg (fun u => Adam.deltaOf (iblk m c 0 t y) u (Adam.square _ (iblk m c 3 t y))) (mean_tile m c t y)

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  exact mean_tile m c t y

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel21Ideal_Reference21Ideal := by
  pair_intro
  · run_from Cert.Kernel21Ideal.Gen.run_main m g
  · refine θ_run_mono (Cert.Reference21Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel21Ideal.AdamW1

end
-- ==== Proof.AdamW2.lean ====
/-
  The optimiser step of `mlp_w2`, whose gradient comes as eight parts, one from each device.

  WHAT A BLOCK COMPUTES: grid point `t` takes rows `128 t ..`, adds the eight parts' tiles of the gradient in order, and applies the step to every
  entry of the tile.
  WHAT THE ARRAYS HOLD: the gradient, the change of the weight, the new running mean and square of every entry.
  WHAT THE REFERENCE COMPUTES: the sum over the eight parts, and the same step on the whole arrays.
-/
module

public import proofs.«01_k».proof.Defs
public import proofs.«01_k».proof.Proof.Gen.Kernel22Ideal.Frame
public import proofs.«01_k».proof.Proof.Gen.Reference22Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel22Ideal.AdamW2

open Cert.Kernel22Ideal Cert.Kernel22Ideal.Gen

/-- The reference's own term: the sum of the gradient parts. -/
abbrev G (P : FVec Ideal S8x512x1024 .f32) : FVec Ideal S512x1024 .f32 :=
  Host.reduceAdd P (constant Cert.Reference22Ideal.S_ .f32 0x00000000#32) Cert.Reference22Ideal.Gen.reducesTo_S8x512x1024_S512x1024_d0 Cert.Reference22Ideal.Gen.h_S_

/-- A scalar extends to the whole array. -/
abbrev hb := Cert.Reference22Ideal.Gen.bcast_S_S512x1024

variable (m : (ℓ : Loc nD τ sig) → Buf (Elt Ideal) ℓ) (c : Dev nD)

/-- The arguments: weight, gradient parts, running mean, running square. -/
abbrev W : FVec Ideal S512x1024 .f32 := m ((c : Thread nD τ).loc main_arg0)
abbrev P : FVec Ideal S8x512x1024 .f32 := m ((c : Thread nD τ).loc main_arg1)
abbrev M : FVec Ideal S512x1024 .f32 := m ((c : Thread nD τ).loc main_arg2)
abbrev Q : FVec Ideal S512x1024 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S128x1024.Idx) :
    k0_pay5 (iblk m c 0 t) (iblk m c 1 t) (iblk m c 2 t) (iblk m c 3 t) y = G (P m c) (((cfg0.win 4).blk t).view.emb y) := by
  unfold k0_pay5
  pointwise [k0_pay3, G]
  simp only [iblk]
  entry_read
  rw [Fin.sum_univ_eight]
  blk_point [iblk, V, P, idx t]

/-- The new running mean of a tile is the mean of the tile's gradient. -/
theorem mean_tile (t : Fin cfg0.N) (y : S128x1024.Idx) :
    k0_pay6 (iblk m c 0 t) (iblk m c 1 t) (iblk m c 2 t) (iblk m c 3 t) y
      = Adam.mean (k0_pay5 (iblk m c 0 t) (iblk m c 1 t) (iblk m c 2 t) (iblk m c 3 t) y) (iblk m c 2 t y) := by
  unfold k0_pay6
  frame_out
  rfl

/-- The four results' tiles lie at the same places, and the staged tiles of weight, mean and square lie there too. -/
theorem place5 (t : Fin cfg0.N) (y : S128x1024.Idx) :
    ((cfg0.win 5).blk t).view.emb y = ((cfg0.win 4).blk t).view.emb y := rfl
theorem place6 (t : Fin cfg0.N) (y : S128x1024.Idx) :
    ((cfg0.win 6).blk t).view.emb y = ((cfg0.win 4).blk t).view.emb y := rfl
theorem place7 (t : Fin cfg0.N) (y : S128x1024.Idx) :
    ((cfg0.win 7).blk t).view.emb y = ((cfg0.win 4).blk t).view.emb y := rfl
theorem weight (t : Fin cfg0.N) (y : S128x1024.Idx) : iblk m c 0 t y = W m c (((cfg0.win 4).blk t).view.emb y) := by
  simp only [iblk]
  entry_read
  blk_point [iblk, V, idx t]
theorem mean (t : Fin cfg0.N) (y : S128x1024.Idx) : iblk m c 2 t y = M m c (((cfg0.win 4).blk t).view.emb y) := by
  simp only [iblk]
  entry_read
  blk_point [iblk, V, idx t]
theorem square (t : Fin cfg0.N) (y : S128x1024.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  exact congrArg (fun u => Adam.deltaOf (iblk m c 0 t y) u (Adam.square _ (iblk m c 3 t y))) (mean_tile m c t y)

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  exact mean_tile m c t y

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel22Ideal_Reference22Ideal := by
  pair_intro
  · run_from Cert.Kernel22Ideal.Gen.run_main m g
  · refine θ_run_mono (Cert.Reference22Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel22Ideal.AdamW2

end
-- ==== Proof.AdamOut.lean ====
/-
  The optimiser step of `w_out`, whose gradient comes as eight parts, one from each device.

  WHAT A BLOCK COMPUTES: the one grid point takes the whole arrays, adds the eight parts' tiles of the gradient in order, and applies the step to every
  entry of the tile.
  WHAT THE ARRAYS HOLD: the gradient, the change of the weight, the new running mean and square of every entry.
  WHAT THE REFERENCE COMPUTES: the sum over the eight parts, and the same step on the whole arrays.
-/
module

public import proofs.«01_k».proof.Defs
public import proofs.«01_k».proof.Proof.Gen.Kernel23Ideal.Frame
public import proofs.«01_k».proof.Proof.Gen.Reference23Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel23Ideal.AdamOut

open Cert.Kernel23Ideal Cert.Kernel23Ideal.Gen

/-- The reference's own term: the sum of the gradient parts. -/
abbrev G (P : FVec Ideal S8x128x1024 .f32) : FVec Ideal S128x1024 .f32 :=
  Host.reduceAdd P (constant Cert.Reference23Ideal.S_ .f32 0x00000000#32) Cert.Reference23Ideal.Gen.reducesTo_S8x128x1024_S128x1024_d0 Cert.Reference23Ideal.Gen.h_S_

/-- A scalar extends to the whole array. -/
abbrev hb := Cert.Reference23Ideal.Gen.bcast_S_S128x1024

variable (m : (ℓ : Loc nD τ sig) → Buf (Elt Ideal) ℓ) (c : Dev nD)

/-- The arguments: weight, gradient parts, running mean, running square. -/
abbrev W : FVec Ideal S128x1024 .f32 := m ((c : Thread nD τ).loc main_arg0)
abbrev P : FVec Ideal S8x128x1024 .f32 := m ((c : Thread nD τ).loc main_arg1)
abbrev M : FVec Ideal S128x1024 .f32 := m ((c : Thread nD τ).loc main_arg2)
abbrev Q : FVec Ideal S128x1024 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S128x1024.Idx) :
    k0_pay5 (iblk m c 0 t) (iblk m c 1 t) (iblk m c 2 t) (iblk m c 3 t) y = G (P m c) (((cfg0.win 4).blk t).view.emb y) := by
  unfold k0_pay5
  pointwise [k0_pay3, G]
  simp only [iblk]
  entry_read
  rw [Fin.sum_univ_eight]
  blk_point [iblk, V, P, idx t]

/-- The new running mean of a tile is the mean of the tile's gradient. -/
theorem mean_tile (t : Fin cfg0.N) (y : S128x1024.Idx) :
    k0_pay6 (iblk m c 0 t) (iblk m c 1 t) (iblk m c 2 t) (iblk m c 3 t) y
      = Adam.mean (k0_pay5 (iblk m c 0 t) (iblk m c 1 t) (iblk m c 2 t) (iblk m c 3 t) y) (iblk m c 2 t y) := by
  unfold k0_pay6
  frame_out
  rfl

/-- The four results' tiles lie at the same places, and the staged tiles of weight, mean and square lie there too. -/
theorem place5 (t : Fin cfg0.N) (y : S128x1024.Idx) :
    ((cfg0.win 5).blk t).view.emb y = ((cfg0.win 4).blk t).view.emb y := rfl
theorem place6 (t : Fin cfg0.N) (y : S128x1024.Idx) :
    ((cfg0.win 6).blk t).view.emb y = ((cfg0.win 4).blk t).view.emb y := rfl
theorem place7 (t : Fin cfg0.N) (y : S128x1024.Idx) :
    ((cfg0.win 7).blk t).view.emb y = ((cfg0.win 4).blk t).view.emb y := rfl
theorem weight (t : Fin cfg0.N) (y : S128x1024.Idx) : iblk m c 0 t y = W m c (((cfg0.win 4).blk t).view.emb y) := by
  simp only [iblk]
  entry_read
  blk_point [iblk, V, idx t]
theorem mean (t : Fin cfg0.N) (y : S128x1024.Idx) : iblk m c 2 t y = M m c (((cfg0.win 4).blk t).view.emb y) := by
  simp only [iblk]
  entry_read
  blk_point [iblk, V, idx t]
theorem square (t : Fin cfg0.N) (y : S128x1024.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  exact congrArg (fun u => Adam.deltaOf (iblk m c 0 t y) u (Adam.square _ (iblk m c 3 t y))) (mean_tile m c t y)

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  exact mean_tile m c t y

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel23Ideal_Reference23Ideal := by
  pair_intro
  · run_from Cert.Kernel23Ideal.Gen.run_main m g
  · refine θ_run_mono (Cert.Reference23Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel23Ideal.AdamOut

end
-- ==== Proof.AdamGlu.lean ====
/-
  The optimiser step of `s5_w_glu`, whose gradient comes as eight parts, one from each device.

  WHAT A BLOCK COMPUTES: the one grid point takes the whole arrays, adds the eight parts' tiles of the gradient in order, and applies the step to every
  entry of the tile.
  WHAT THE ARRAYS HOLD: the gradient, the change of the weight, the new running mean and square of every entry.
  WHAT THE REFERENCE COMPUTES: the sum over the eight parts, and the same step on the whole arrays.
-/
module

public import proofs.«01_k».proof.Defs
public import proofs.«01_k».proof.Proof.Gen.Kernel24Ideal.Frame
public import proofs.«01_k».proof.Proof.Gen.Reference24Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel24Ideal.AdamGlu

open Cert.Kernel24Ideal Cert.Kernel24Ideal.Gen

/-- The reference's own term: the sum of the gradient parts. -/
abbrev G (P : FVec Ideal S8x64x512 .f32) : FVec Ideal S64x512 .f32 :=
  Host.reduceAdd P (constant Cert.Reference24Ideal.S_ .f32 0x00000000#32) Cert.Reference24Ideal.Gen.reducesTo_S8x64x512_S64x512_d0 Cert.Reference24Ideal.Gen.h_S_

/-- A scalar extends to the whole array. -/
abbrev hb := Cert.Reference24Ideal.Gen.bcast_S_S64x512

variable (m : (ℓ : Loc nD τ sig) → Buf (Elt Ideal) ℓ) (c : Dev nD)

/-- The arguments: weight, gradient parts, running mean, running square. -/
abbrev W : FVec Ideal S64x512 .f32 := m ((c : Thread nD τ).loc main_arg0)
abbrev P : FVec Ideal S8x64x512 .f32 := m ((c : Thread nD τ).loc main_arg1)
abbrev M : FVec Ideal S64x512 .f32 := m ((c : Thread nD τ).loc main_arg2)
abbrev Q : FVec Ideal S64x512 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S64x512.Idx) :
    k0_pay5 (iblk m c 0 t) (iblk m c 1 t) (iblk m c 2 t) (iblk m c 3 t) y = G (P m c) (((cfg0.win 4).blk t).view.emb y) := by
  unfold k0_pay5
  pointwise [k0_pay3, G]
  simp only [iblk]
  entry_read
  rw [Fin.sum_univ_eight]
  blk_point [iblk, V, P, idx t]

/-- The new running mean of a tile is the mean of the tile's gradient. -/
theorem mean_tile (t : Fin cfg0.N) (y : S64x512.Idx) :
    k0_pay6 (iblk m c 0 t) (iblk m c 1 t) (iblk m c 2 t) (iblk m c 3 t) y
      = Adam.mean (k0_pay5 (iblk m c 0 t) (iblk m c 1 t) (iblk m c 2 t) (iblk m c 3 t) y) (iblk m c 2 t y) := by
  unfold k0_pay6
  frame_out
  rfl

/-- The four results' tiles lie at the same places, and the staged tiles of weight, mean and square lie there too. -/
theorem place5 (t : Fin cfg0.N) (y : S64x512.Idx) :
    ((cfg0.win 5).blk t).view.emb y = ((cfg0.win 4).blk t).view.emb y := rfl
theorem place6 (t : Fin cfg0.N) (y : S64x512.Idx) :
    ((cfg0.win 6).blk t).view.emb y = ((cfg0.win 4).blk t).view.emb y := rfl
theorem place7 (t : Fin cfg0.N) (y : S64x512.Idx) :
    ((cfg0.win 7).blk t).view.emb y = ((cfg0.win 4).blk t).view.emb y := rfl
theorem weight (t : Fin cfg0.N) (y : S64x512.Idx) : iblk m c 0 t y = W m c (((cfg0.win 4).blk t).view.emb y) := by
  simp only [iblk]
  entry_read
  blk_point [iblk, V, idx t]
theorem mean (t : Fin cfg0.N) (y : S64x512.Idx) : iblk m c 2 t y = M m c (((cfg0.win 4).blk t).view.emb y) := by
  simp only [iblk]
  entry_read
  blk_point [iblk, V, idx t]
theorem square (t : Fin cfg0.N) (y : S64x512.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  exact congrArg (fun u => Adam.deltaOf (iblk m c 0 t y) u (Adam.square _ (iblk m c 3 t y))) (mean_tile m c t y)

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  exact mean_tile m c t y

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel24Ideal_Reference24Ideal := by
  pair_intro
  · run_from Cert.Kernel24Ideal.Gen.run_main m g
  · refine θ_run_mono (Cert.Reference24Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel24Ideal.AdamGlu

end
-- ==== Proof.AdamIn.lean ====
/-
  The optimiser step of `w_in`, whose gradient comes as eight parts in bfloat16, one from each device.

  WHAT A BLOCK COMPUTES: grid point `t` takes rows `512 t ..`, adds the eight parts' tiles of the gradient in order, in
  f32, and applies the step to every entry of the tile.
  WHAT THE ARRAYS HOLD: the gradient, the change of the weight, the new running mean and square of every entry.
  WHAT THE REFERENCE COMPUTES: the sum over the eight parts in f32, and the same step on the whole arrays.
-/
module

public import proofs.«01_k».proof.Defs
public import proofs.«01_k».proof.Proof.Gen.Kernel25Ideal.Frame
public import proofs.«01_k».proof.Proof.Gen.Reference25Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel25Ideal.AdamIn

open Cert.Kernel25Ideal Cert.Kernel25Ideal.Gen

/-- The reference's own term: the sum of the gradient parts. -/
abbrev G (P : FVec Ideal S8x1024x192 .bf16) : FVec Ideal S1024x192 .f32 :=
  Host.reduceAdd (extf .f32 P Cert.Reference25Ideal.Gen.bitsLt_bf16_f32) (constant Cert.Reference25Ideal.S_ .f32 0x00000000#32) Cert.Reference25Ideal.Gen.reducesTo_S8x1024x192_S1024x192_d0 Cert.Reference25Ideal.Gen.h_S_

/-- A scalar extends to the whole array. -/
abbrev hb := Cert.Reference25Ideal.Gen.bcast_S_S1024x192

variable (m : (ℓ : Loc nD τ sig) → Buf (Elt Ideal) ℓ) (c : Dev nD)

/-- The arguments: weight, gradient parts, running mean, running square. -/
abbrev W : FVec Ideal S1024x192 .f32 := m ((c : Thread nD τ).loc main_arg0)
abbrev P : FVec Ideal S8x1024x192 .bf16 := m ((c : Thread nD τ).loc main_arg1)
abbrev M : FVec Ideal S1024x192 .f32 := m ((c : Thread nD τ).loc main_arg2)
abbrev Q : FVec Ideal S1024x192 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S512x192.Idx) :
    k0_pay5 (iblk m c 0 t) (iblk m c 1 t) (iblk m c 2 t) (iblk m c 3 t) y = G (P m c) (((cfg0.win 4).blk t).view.emb y) := by
  unfold k0_pay5
  pointwise [k0_pay4, G]
  simp only [iblk]
  entry_read
  rw [Fin.sum_univ_eight]
  blk_point [iblk, V, P, idx t]

/-- The four results' tiles lie at the same places, and the staged tiles of weight, mean and square lie there too. -/
theorem place5 (t : Fin cfg0.N) (y : S512x192.Idx) :
    ((cfg0.win 5).blk t).view.emb y = ((cfg0.win 4).blk t).view.emb y := rfl
theorem place6 (t : Fin cfg0.N) (y : S512x192.Idx) :
    ((cfg0.win 6).blk t).view.emb y = ((cfg0.win 4).blk t).view.emb y := rfl
theorem place7 (t : Fin cfg0.N) (y : S512x192.Idx) :
    ((cfg0.win 7).blk t).view.emb y = ((cfg0.win 4).blk t).view.emb y := rfl
theorem weight (t : Fin cfg0.N) (y : S512x192.Idx) : iblk m c 0 t y = W m c (((cfg0.win 4).blk t).view.emb y) := by
  simp only [iblk]
  entry_read
  blk_point [iblk, V, idx t]
theorem mean (t : Fin cfg0.N) (y : S512x192.Idx) : iblk m c 2 t y = M m c (((cfg0.win 4).blk t).view.emb y) := by
  simp only [iblk]
  entry_read
  blk_point [iblk, V, idx t]
theorem square (t : Fin cfg0.N) (y : S512x192.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  rfl

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  rfl

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel25Ideal_Reference25Ideal := by
  pair_intro
  · run_from Cert.Kernel25Ideal.Gen.run_main m g
  · refine θ_run_mono (Cert.Reference25Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel25Ideal.AdamIn

end
-- ==== Proof.AdamConv.lean ====
/-
  The optimiser step of `conv_w`, whose gradient comes as eight parts, one from each device.

  WHAT A BLOCK COMPUTES: the one grid point takes the whole arrays, adds the eight parts' tiles of the gradient in order, and applies the step to every
  entry of the tile.
  WHAT THE ARRAYS HOLD: the gradient, the change of the weight, the new running mean and square of every entry.
  WHAT THE REFERENCE COMPUTES: the sum over the eight parts, and the same step on the whole arrays.
-/
module

public import proofs.«01_k».proof.Defs
public import proofs.«01_k».proof.Proof.Gen.Kernel26Ideal.Frame
public import proofs.«01_k».proof.Proof.Gen.Reference26Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel26Ideal.AdamConv

open Cert.Kernel26Ideal Cert.Kernel26Ideal.Gen

/-- The reference's own term: the sum of the gradient parts. -/
abbrev G (P : FVec Ideal S8x31x64 .f32) : FVec Ideal S31x64 .f32 :=
  Host.reduceAdd P (constant Cert.Reference26Ideal.S_ .f32 0x00000000#32) Cert.Reference26Ideal.Gen.reducesTo_S8x31x64_S31x64_d0 Cert.Reference26Ideal.Gen.h_S_

/-- A scalar extends to the whole array. -/
abbrev hb := Cert.Reference26Ideal.Gen.bcast_S_S31x64

variable (m : (ℓ : Loc nD τ sig) → Buf (Elt Ideal) ℓ) (c : Dev nD)

/-- The arguments: weight, gradient parts, running mean, running square. -/
abbrev W : FVec Ideal S31x64 .f32 := m ((c : Thread nD τ).loc main_arg0)
abbrev P : FVec Ideal S8x31x64 .f32 := m ((c : Thread nD τ).loc main_arg1)
abbrev M : FVec Ideal S31x64 .f32 := m ((c : Thread nD τ).loc main_arg2)
abbrev Q : FVec Ideal S31x64 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S31x64.Idx) :
    k0_pay5 (iblk m c 0 t) (iblk m c 1 t) (iblk m c 2 t) (iblk m c 3 t) y = G (P m c) (((cfg0.win 4).blk t).view.emb y) := by
  unfold k0_pay5
  pointwise [k0_pay3, G]
  simp only [iblk]
  entry_read
  rw [Fin.sum_univ_eight]
  blk_point [iblk, V, P, idx t]

/-- The new running mean of a tile is the mean of the tile's gradient. -/
theorem mean_tile (t : Fin cfg0.N) (y : S31x64.Idx) :
    k0_pay6 (iblk m c 0 t) (iblk m c 1 t) (iblk m c 2 t) (iblk m c 3 t) y
      = Adam.mean (k0_pay5 (iblk m c 0 t) (iblk m c 1 t) (iblk m c 2 t) (iblk m c 3 t) y) (iblk m c 2 t y) := by
  unfold k0_pay6
  frame_out
  rfl

/-- The four results' tiles lie at the same places, and the staged tiles of weight, mean and square lie there too. -/
theorem place5 (t : Fin cfg0.N) (y : S31x64.Idx) :
    ((cfg0.win 5).blk t).view.emb y = ((cfg0.win 4).blk t).view.emb y := rfl
theorem place6 (t : Fin cfg0.N) (y : S31x64.Idx) :
    ((cfg0.win 6).blk t).view.emb y = ((cfg0.win 4).blk t).view.emb y := rfl
theorem place7 (t : Fin cfg0.N) (y : S31x64.Idx) :
    ((cfg0.win 7).blk t).view.emb y = ((cfg0.win 4).blk t).view.emb y := rfl
theorem weight (t : Fin cfg0.N) (y : S31x64.Idx) : iblk m c 0 t y = W m c (((cfg0.win 4).blk t).view.emb y) := by
  simp only [iblk]
  entry_read
  blk_point [iblk, V, idx t]
theorem mean (t : Fin cfg0.N) (y : S31x64.Idx) : iblk m c 2 t y = M m c (((cfg0.win 4).blk t).view.emb y) := by
  simp only [iblk]
  entry_read
  blk_point [iblk, V, idx t]
theorem square (t : Fin cfg0.N) (y : S31x64.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  exact congrArg (fun u => Adam.deltaOf (iblk m c 0 t y) u (Adam.square _ (iblk m c 3 t y))) (mean_tile m c t y)

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  exact mean_tile m c t y

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel26Ideal_Reference26Ideal := by
  pair_intro
  · run_from Cert.Kernel26Ideal.Gen.run_main m g
  · refine θ_run_mono (Cert.Reference26Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel26Ideal.AdamConv

end
-- ==== Proof.AdamSmall.lean ====
/-
  The optimiser step of the twelve small weights, which the host packs into one array of 24 rows; their gradients are the
  first 24 rows of the packed sums of all devices.

  WHAT A BLOCK COMPUTES: grid point `t` takes rows `8 t ..` of the packed weights, sums, means and squares, and applies
  the step entry by entry.
  WHAT THE ARRAYS HOLD: the gradient, the change of the weight, the new running mean and square of every entry.
  WHAT THE REFERENCE COMPUTES: the first 24 rows of the sums, and the same step on the whole arrays.
-/
module

public import proofs.«01_k».proof.Defs
public import proofs.«01_k».proof.Proof.Gen.Kernel27Ideal.Frame
public import proofs.«01_k».proof.Proof.Gen.Reference27Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel27Ideal.AdamSmall

open Cert.Kernel27Ideal Cert.Kernel27Ideal.Gen

/-- The reference's own term: the first 24 rows of the packed sums. -/
abbrev G (P : FVec Ideal S1x320x1024 .f32) : FVec Ideal S24x1024 .f32 :=
  shapeCast _ (extractStridedSlice Cert.Reference27Ideal.S1x24x1024 ![0, 0, 0] P Cert.Reference27Ideal.Gen.slices_S1x320x1024_S1x24x1024_0_0_0)
    Cert.Reference27Ideal.Gen.shapeCasts_S1x24x1024_S24x1024

/-- A scalar extends to the whole array. -/
abbrev hb := Cert.Reference27Ideal.Gen.bcast_S_S24x1024

variable (m : (ℓ : Loc nD τ sig) → Buf (Elt Ideal) ℓ) (c : Dev nD)

/-- The arguments: weight, packed sums, running mean, running square. -/
abbrev W : FVec Ideal S24x1024 .f32 := m ((c : Thread nD τ).loc main_arg0)
abbrev P : FVec Ideal S1x320x1024 .f32 := m ((c : Thread nD τ).loc main_arg1)
abbrev M : FVec Ideal S24x1024 .f32 := m ((c : Thread nD τ).loc main_arg2)
abbrev Q : FVec Ideal S24x1024 .f32 := m ((c : Thread nD τ).loc main_arg3)

/-- Which block each window stages at grid point `t`: rows tile `t` of every array. -/
theorem idx : ∀ t : Fin cfg0.N, win0_0.index t = ![t.val, 0] ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- One tile of the gradient, at the place of the first result. -/
theorem grad (t : Fin cfg0.N) (y : S8x1024.Idx) :
    k0_pay1 (iblk m c 1 t) y = G (P m c) (((cfg0.win 4).blk t).view.emb y) := by
  pointwise [k0_pay1, G]
  simp only [iblk]
  entry_read
  blk_point [iblk, V, P, idx t]

/-- The four results' tiles lie at the same places, and the staged tiles of weight, mean and square lie there too. -/
theorem place5 (t : Fin cfg0.N) (y : S8x1024.Idx) :
    ((cfg0.win 5).blk t).view.emb y = ((cfg0.win 4).blk t).view.emb y := rfl
theorem place6 (t : Fin cfg0.N) (y : S8x1024.Idx) :
    ((cfg0.win 6).blk t).view.emb y = ((cfg0.win 4).blk t).view.emb y := rfl
theorem place7 (t : Fin cfg0.N) (y : S8x1024.Idx) :
    ((cfg0.win 7).blk t).view.emb y = ((cfg0.win 4).blk t).view.emb y := rfl
theorem weight (t : Fin cfg0.N) (y : S8x1024.Idx) : iblk m c 0 t y = W m c (((cfg0.win 4).blk t).view.emb y) := by
  simp only [iblk]
  entry_read
  blk_point [iblk, V, idx t]
theorem mean (t : Fin cfg0.N) (y : S8x1024.Idx) : iblk m c 2 t y = M m c (((cfg0.win 4).blk t).view.emb y) := by
  simp only [iblk]
  entry_read
  blk_point [iblk, V, idx t]
theorem square (t : Fin cfg0.N) (y : S8x1024.Idx) : iblk m c 3 t y = Q m c (((cfg0.win 4).blk t).view.emb y) := by
  simp only [iblk]
  entry_read
  blk_point [iblk, V, idx t]

/-- The gradient after the run. -/
theorem final4 : (dats m 0 c).arrAt 4 cfg0.N = G (P m c) := by
  refine (dats m 0 c).arrAt_eq_of_covers 4 _ (by decide +kernel) fun t _ y => ?_
  blk_simp
  rw [after0_4]
  frame_out
  exact grad m c t y

/-- The change of the weight after the run. -/
theorem final5 : (dats m 0 c).arrAt 5 cfg0.N = Adam.Delta hb (W m c) (G (P m c)) (M m c) (Q m c) := by
  refine (dats m 0 c).arrAt_eq_of_covers 5 _ (by decide +kernel) fun t _ y => ?_
  blk_simp
  rw [after0_5]
  frame_out
  rw [place5, Adam.Delta_at, ← grad m c t y, ← weight m c t y, ← mean m c t y, ← square m c t y]
  rfl

/-- The running mean after the run. -/
theorem final6 : (dats m 0 c).arrAt 6 cfg0.N = Adam.Mean hb (G (P m c)) (M m c) := by
  refine (dats m 0 c).arrAt_eq_of_covers 6 _ (by decide +kernel) fun t _ y => ?_
  blk_simp
  rw [after0_6]
  frame_out
  rw [place6, Adam.Mean_at, ← grad m c t y, ← mean m c t y]
  rfl

/-- The running square after the run. -/
theorem final7 : (dats m 0 c).arrAt 7 cfg0.N = Adam.Square hb (G (P m c)) (Q m c) := by
  refine (dats m 0 c).arrAt_eq_of_covers 7 _ (by decide +kernel) fun t _ y => ?_
  blk_simp
  rw [after0_7]
  frame_out
  rw [place7, Adam.Square_at, ← grad m c t y, ← square m c t y]
  rfl

/-- The kernel's four results are the reference's, from any memory in which their arguments agree. -/
theorem algebraic : Cert.algebraic_Kernel27Ideal_Reference27Ideal := by
  pair_intro
  · run_from Cert.Kernel27Ideal.Gen.run_main m g
  · refine θ_run_mono (Cert.Reference27Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, ((hr c).2.2.2.1.trans ?_).trans (final7 m c).symm, (hr c).2.2.2.2⟩
    · exact congrArg G h1
    · exact Adam.Delta_congr hb h0 (congrArg G h1) h2 h3
    · exact Adam.Mean_congr hb (congrArg G h1) h2
    · exact Adam.Square_congr hb (congrArg G h1) h3

end Cert.Kernel27Ideal.AdamSmall

end
-- ==== Proof.AdamB.lean ====
/-
  The optimiser step of the real and the imaginary part of the input matrix of the recurrence (`s5_b_re`, `s5_b_im`), on the
  arrays in their own five axes with the last two exchanged: one call for each, on the same lines.

  WHAT A BLOCK COMPUTES: the one grid point takes the whole exchanged weight, mean and square, which the host has prepared,
  and the gradient, and applies the step entry by entry; the host then exchanges the two axes of the three results.
  WHAT THE ARRAYS HOLD: the change of the weight, the new running mean and square of every entry, axes exchanged.
  WHAT THE REFERENCE COMPUTES: the same step on the arrays as they are, with the gradient exchanged.
  Exchanging the axes twice changes nothing (`back`), and the step of exchanged arrays is the exchanged step (`T_Delta` ..).
-/
module

public import proofs.«01_k».proof.Defs
public import proofs.«01_k».proof.Proof.Gen.Kernel28Ideal.Frame
public import proofs.«01_k».proof.Proof.Gen.Reference28Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel28Ideal.AdamB

open Cert.Kernel28Ideal Cert.Kernel28Ideal.Gen

/-- A scalar extends to the whole array. -/
abbrev hb := Cert.Reference28Ideal.Gen.bcast_S_S1x2x32x64x16
theorem hbT : Adam.S0.BroadcastsInDim S1x2x32x16x64 (![] : Fin 0 → Fin S1x2x32x16x64.rank) := by decide

/-- The last two axes exchanged, in either direction. -/
abbrev E (X : FVec Ideal S1x2x32x64x16 .f32) : FVec Ideal S1x2x32x16x64 .f32 :=
  transpose S1x2x32x16x64 [0, 1, 2, 4, 3] X Gen.transposes_S1x2x32x64x16_S1x2x32x16x64_0_1_2_4_3
abbrev T (X : FVec Ideal S1x2x32x16x64 .f32) : FVec Ideal S1x2x32x64x16 .f32 :=
  transpose S1x2x32x64x16 [0, 1, 2, 4, 3] X Gen.transposes_S1x2x32x16x64_S1x2x32x64x16_0_1_2_4_3

/-- Exchanging twice changes nothing. -/
theorem back (X : FVec Ideal S1x2x32x64x16 .f32) : T (E X) = X := by
  funext j
  pointwise [T, E]
  refine congrArg X (funext fun i => ?_)
  fin_cases i
  · exact Subsingleton.elim (α := Fin 1) _ _
  all_goals rfl

/-- The step of exchanged arrays is the exchanged step. -/
theorem T_Delta (W P M Q : FVec Ideal S1x2x32x16x64 .f32) :
    T (Adam.Delta hbT W P M Q) = Adam.Delta hb (T W) (T P) (T M) (T Q) := rfl
theorem T_Mean (P M : FVec Ideal S1x2x32x16x64 .f32) : T (Adam.Mean hbT P M) = Adam.Mean hb (T P) (T M) := rfl
theorem T_Square (P Q : FVec Ideal S1x2x32x16x64 .f32) : T (Adam.Square hbT P Q) = Adam.Square hb (T P) (T Q) := rfl

variable (m : (ℓ : Loc nD τ sig) → Buf (Elt Ideal) ℓ) (c : Dev nD)

/-- The arguments: weight, gradient, running mean, running square. -/
abbrev W : FVec Ideal S1x2x32x64x16 .f32 := m ((c : Thread nD τ).loc main_arg0)
abbrev P : FVec Ideal S1x2x32x16x64 .f32 := m ((c : Thread nD τ).loc main_arg1)
abbrev M : FVec Ideal S1x2x32x64x16 .f32 := m ((c : Thread nD τ).loc main_arg2)
abbrev Q : FVec Ideal S1x2x32x64x16 .f32 := m ((c : Thread nD τ).loc main_arg3)

/-- Each window stages its whole array, so an entry of the staged block is the entry of the array at the result's place. -/
theorem weight (t : Fin cfg0.N) (y : S1x2x32x16x64.Idx) :
    iblk m c 0 t y = E (W m c) (((cfg0.win 4).blk t).view.emb y) := by
  simp only [iblk]
  entry_read
  rfl
theorem grad (t : Fin cfg0.N) (y : S1x2x32x16x64.Idx) :
    iblk m c 1 t y = P m c (((cfg0.win 4).blk t).view.emb y) := by
  simp only [iblk]
  entry_read
  rfl
theorem mean (t : Fin cfg0.N) (y : S1x2x32x16x64.Idx) :
    iblk m c 2 t y = E (M m c) (((cfg0.win 4).blk t).view.emb y) := by
  simp only [iblk]
  entry_read
  rfl
theorem square (t : Fin cfg0.N) (y : S1x2x32x16x64.Idx) :
    iblk m c 3 t y = E (Q m c) (((cfg0.win 4).blk t).view.emb y) := by
  simp only [iblk]
  entry_read
  rfl
theorem place5 (t : Fin cfg0.N) (y : S1x2x32x16x64.Idx) :
    ((cfg0.win 5).blk t).view.emb y = ((cfg0.win 4).blk t).view.emb y := rfl
theorem place6 (t : Fin cfg0.N) (y : S1x2x32x16x64.Idx) :
    ((cfg0.win 6).blk t).view.emb y = ((cfg0.win 4).blk t).view.emb y := rfl

/-- The body's three payloads, entry by entry. -/
theorem pay1_at (g M : FVec Ideal S1x2x32x16x64 .f32) (y : S1x2x32x16x64.Idx) : k0_pay1 (F := Ideal) g M y = Adam.mean (g y) (M y) := by
  simp only [k0_pay1, shapeCast_self]
  rfl
theorem pay2_at (g Q : FVec Ideal S1x2x32x16x64 .f32) (y : S1x2x32x16x64.Idx) : k0_pay2 (F := Ideal) g Q y = Adam.square (g y) (Q y) := by
  simp only [k0_pay2, shapeCast_self]
  rfl
theorem pay3_at (g M Q W : FVec Ideal S1x2x32x16x64 .f32) (y : S1x2x32x16x64.Idx) :
    k0_pay3 (F := Ideal) g M Q W y = Adam.delta (W y) (g y) (M y) (Q y) := by
  rw [Adam.delta, ← pay1_at, ← pay2_at]
  simp only [k0_pay3, shapeCast_self]
  rfl

/-- The change of the weight after the run. -/
theorem final4 : (dats m 0 c).arrAt 4 cfg0.N = Adam.Delta hbT (E (W m c)) (P m c) (E (M m c)) (E (Q m c)) := by
  refine (dats m 0 c).arrAt_eq_of_covers 4 _ (by decide +kernel) fun t _ y => ?_
  blk_simp
  rw [after0_4]
  frame_out
  rw [Adam.Delta_at, ← grad m c t y, ← weight m c t y, ← mean m c t y, ← square m c t y]
  exact pay3_at _ _ _ _ y

/-- The running mean after the run. -/
theorem final5 : (dats m 0 c).arrAt 5 cfg0.N = Adam.Mean hbT (P m c) (E (M m c)) := by
  refine (dats m 0 c).arrAt_eq_of_covers 5 _ (by decide +kernel) fun t _ y => ?_
  blk_simp
  rw [after0_5]
  frame_out
  rw [place5, Adam.Mean_at, ← grad m c t y, ← mean m c t y]
  exact pay1_at _ _ y

/-- The running square after the run. -/
theorem final6 : (dats m 0 c).arrAt 6 cfg0.N = Adam.Square hbT (P m c) (E (Q m c)) := by
  refine (dats m 0 c).arrAt_eq_of_covers 6 _ (by decide +kernel) fun t _ y => ?_
  blk_simp
  rw [after0_6]
  frame_out
  rw [place6, Adam.Square_at, ← grad m c t y, ← square m c t y]
  exact pay2_at _ _ y

/-- What the host's lines behind the call leave, from any contents `V` of the arrays: the call's results with the axes exchanged. -/
theorem behind4 (V : Valuation τ sig (Elt Ideal)) : StableHlo.after ([hostOps1].flatten) V (Proc.devRef .tc main_v4)
    = T (V (Proc.devRef .tc (Pipeline.arrRef spec0 4))) := by
  after_results
  rfl
theorem tail4 : Pipeline.afterTail₀ cfgs (dats m) 0 (V0 m) [hostOps1] c main_v4 = T ((dats m 0 c).arrAt 4 cfg0.N) :=
  (behind4 _).trans (congrArg T (Pipeline.withArrays_arr spec0 (by decide) c _ _ 4))
theorem behind5 (V : Valuation τ sig (Elt Ideal)) : StableHlo.after ([hostOps1].flatten) V (Proc.devRef .tc main_v5)
    = T (V (Proc.devRef .tc (Pipeline.arrRef spec0 5))) := by
  after_results
  rfl
theorem tail5 : Pipeline.afterTail₀ cfgs (dats m) 0 (V0 m) [hostOps1] c main_v5 = T ((dats m 0 c).arrAt 5 cfg0.N) :=
  (behind5 _).trans (congrArg T (Pipeline.withArrays_arr spec0 (by decide) c _ _ 5))
theorem behind6 (V : Valuation τ sig (Elt Ideal)) : StableHlo.after ([hostOps1].flatten) V (Proc.devRef .tc main_v6)
    = T (V (Proc.devRef .tc (Pipeline.arrRef spec0 6))) := by
  after_results
  rfl
theorem tail6 : Pipeline.afterTail₀ cfgs (dats m) 0 (V0 m) [hostOps1] c main_v6 = T ((dats m 0 c).arrAt 6 cfg0.N) :=
  (behind6 _).trans (congrArg T (Pipeline.withArrays_arr spec0 (by decide) c _ _ 6))

/-- The kernel's three results are the reference's, from any memory in which their arguments agree. -/
theorem algebraic : Cert.algebraic_Kernel28Ideal_Reference28Ideal := by
  intro m g m' g' hpre hagree
  refine ⟨fun c => T ((dats m 0 c).arrAt 4 cfg0.N), fun c => T ((dats m 0 c).arrAt 5 cfg0.N),
    fun c => T ((dats m 0 c).arrAt 6 cfg0.N), ?_, ?_⟩
  · refine θ_run_mono (θ_run_and (run_main m g) (unchanged m g)) fun r hr c => ?_
    exact ⟨((hr.1 c).2 main_v4 (Pipeline.mem_restRefs_of main_v4 (by decide) (by decide))).trans (tail4 m c),
      ((hr.1 c).2 main_v5 (Pipeline.mem_restRefs_of main_v5 (by decide) (by decide))).trans (tail5 m c),
      ((hr.1 c).2 main_v6 (Pipeline.mem_restRefs_of main_v6 (by decide) (by decide))).trans (tail6 m c), hr.2 c⟩
  · refine θ_run_mono (Cert.Reference28Ideal.Value.run m' g') fun r hr c => ?_
    obtain ⟨h0, h1, h2, h3⟩ := hagree c
    refine ⟨((hr c).1.trans ?_).trans (congrArg T (final4 m c)).symm, ((hr c).2.1.trans ?_).trans (congrArg T (final5 m c)).symm,
      ((hr c).2.2.1.trans ?_).trans (congrArg T (final6 m c)).symm, (hr c).2.2.2⟩
    · rw [T_Delta, back, back, back]
      exact Adam.Delta_congr hb h0 (congrArg T h1) h2 h3
    · rw [T_Mean, back]
      exact Adam.Mean_congr hb (congrArg T h1) h2
    · rw [T_Square, back]
      exact Adam.Square_congr hb (congrArg T h1) h3

end Cert.Kernel28Ideal.AdamB

end
-- ==== Proof.AdamC.lean ====
/-
  The optimiser step of the real and the imaginary part of the output matrix of the recurrence (`s5_c_re`, `s5_c_im`),
  on the arrays in their own five axes: one call for each, on the same lines.

  WHAT A BLOCK COMPUTES: the one grid point takes the whole arrays and applies the step entry by entry.
  WHAT THE ARRAYS HOLD: the change of the weight, the new running mean and square of every entry.
  WHAT THE REFERENCE COMPUTES: the same step on the whole arrays.
-/
module

public import proofs.«01_k».proof.Defs
public import proofs.«01_k».proof.Proof.Gen.Kernel29Ideal.Frame
public import proofs.«01_k».proof.Proof.Gen.Reference29Ideal.Run
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel29Ideal.AdamC

open Cert.Kernel29Ideal Cert.Kernel29Ideal.Gen

/-- A scalar extends to the whole array. -/
abbrev hb := Cert.Reference29Ideal.Gen.bcast_S_S1x2x32x16x64

variable (m : (ℓ : Loc nD τ sig) → Buf (Elt Ideal) ℓ) (c : Dev nD)

/-- The arguments: weight, gradient, running mean, running square. -/
abbrev W : FVec Ideal S1x2x32x16x64 .f32 := m ((c : Thread nD τ).loc main_arg0)
abbrev P : FVec Ideal S1x2x32x16x64 .f32 := m ((c : Thread nD τ).loc main_arg1)
abbrev M : FVec Ideal S1x2x32x16x64 .f32 := m ((c : Thread nD τ).loc main_arg2)
abbrev Q : FVec Ideal S1x2x32x16x64 .f32 := m ((c : Thread nD τ).loc main_arg3)

/-- Each window stages its whole array, so an entry of the staged block is the entry of the array at the result's place. -/
theorem weight (t : Fin cfg0.N) (y : S1x2x32x16x64.Idx) : iblk m c 0 t y = W m c (((cfg0.win 4).blk t).view.emb y) := rfl
theorem grad (t : Fin cfg0.N) (y : S1x2x32x16x64.Idx) : iblk m c 1 t y = P m c (((cfg0.win 4).blk t).view.emb y) := rfl
theorem mean (t : Fin cfg0.N) (y : S1x2x32x16x64.Idx) : iblk m c 2 t y = M m c (((cfg0.win 4).blk t).view.emb y) := rfl
theorem square (t : Fin cfg0.N) (y : S1x2x32x16x64.Idx) : iblk m c 3 t y = Q m c (((cfg0.win 4).blk t).view.emb y) := rfl
theorem place5 (t : Fin cfg0.N) (y : S1x2x32x16x64.Idx) :
    ((cfg0.win 5).blk t).view.emb y = ((cfg0.win 4).blk t).view.emb y := rfl
theorem place6 (t : Fin cfg0.N) (y : S1x2x32x16x64.Idx) :
    ((cfg0.win 6).blk t).view.emb y = ((cfg0.win 4).blk t).view.emb y := rfl

/-- The change of the weight after the run. -/
theorem final4 : (dats m 0 c).arrAt 4 cfg0.N = Adam.Delta hb (W m c) (P m c) (M m c) (Q m c) := by
  refine (dats m 0 c).arrAt_eq_of_covers 4 _ (by decide +kernel) fun t _ y => ?_
  blk_simp
  rw [after0_4]
  frame_out
  rw [Adam.Delta_at, ← grad m c t y, ← weight m c t y, ← mean m c t y, ← square m c t y]
  rfl

/-- The running mean after the run. -/
theorem final5 : (dats m 0 c).arrAt 5 cfg0.N = Adam.Mean hb (P m c) (M m c) := by
  refine (dats m 0 c).arrAt_eq_of_covers 5 _ (by decide +kernel) fun t _ y => ?_
  blk_simp
  rw [after0_5]
  frame_out
  rw [place5, Adam.Mean_at, ← grad m c t y, ← mean m c t y]
  rfl

/-- The running square after the run. -/
theorem final6 : (dats m 0 c).arrAt 6 cfg0.N = Adam.Square hb (P m c) (Q m c) := by
  refine (dats m 0 c).arrAt_eq_of_covers 6 _ (by decide +kernel) fun t _ y => ?_
  blk_simp
  rw [after0_6]
  frame_out
  rw [place6, Adam.Square_at, ← grad m c t y, ← square m c t y]
  rfl

/-- The kernel's three results are the reference's, from any memory in which their arguments agree. -/
theorem algebraic : Cert.algebraic_Kernel29Ideal_Reference29Ideal := by
  pair_intro
  · run_from Cert.Kernel29Ideal.Gen.run_main m g
  · refine θ_run_mono (Cert.Reference29Ideal.Value.run m' g') fun r hr c => ?_
    obtain ⟨h0, h1, h2, h3⟩ := hagree c
    refine ⟨((hr c).1.trans ?_).trans (final4 m c).symm, ((hr c).2.1.trans ?_).trans (final5 m c).symm,
      ((hr c).2.2.1.trans ?_).trans (final6 m c).symm, (hr c).2.2.2⟩
    · exact Adam.Delta_congr hb h0 h1 h2 h3
    · exact Adam.Mean_congr hb h1 h2
    · exact Adam.Square_congr hb h1 h3

end Cert.Kernel29Ideal.AdamC

end
-- ==== Proof.SumParts.lean ====
/-
  The sum over the devices of a chunk of the packed small gradients.

  WHAT THE BLOCK COMPUTES: the one block holds the eight devices' chunks, reads them one after the other and adds them up.
  WHAT THE ARRAY HOLDS: the block is the whole array.
  WHAT THE REFERENCE COMPUTES: the sum along the first axis.
  THE EQUATION: a sum over eight is the eight terms in their order.
-/
module

public import proofs.«01_k».proof.Defs
public import proofs.«01_k».proof.Proof.Gen.Kernel30Ideal.Frame
public import proofs.«01_k».proof.Proof.Gen.Reference30Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel30Ideal.SumParts

open Cert.Kernel30Ideal Cert.Kernel30Ideal.Gen

/-- The reference's array. -/
abbrev SUM (P : FVec Ideal S8x40x1024 .f32) : FVec Ideal S40x1024 .f32 :=
  Host.reduceAdd P (constant Cert.Reference30Ideal.S_ .f32 0x00000000#32) Cert.Reference30Ideal.Gen.reducesTo_S8x40x1024_S40x1024_d0 Cert.Reference30Ideal.Gen.h_S_

variable (m : (ℓ : Loc nD τ sig) → Buf (Elt Ideal) ℓ) (c : Dev nD)

/-- The argument: the devices' chunks. -/
abbrev P : FVec Ideal S8x40x1024 .f32 := m ((c : Thread nD τ).loc main_arg0)

/-- Every window stages its whole array. -/
theorem idx : ∀ t : Fin cfg0.N, win0_0.index t = ![0, 0, 0] ∧ win0_1.index t = ![0, 0] := (by decide +kernel : ∀ t : Fin grid0.N, _)

/-- The sum after the run. -/
theorem final1 : (dats m 0 c).arrAt 1 cfg0.N = SUM (P m c) := by
  refine (dats m 0 c).arrAt_eq_of_covers 1 _ (by decide +kernel) fun t _ y => ?_
  blk_simp
  rw [after0_1]
  frame_out
  obtain ⟨a, b, rfl⟩ : ∃ (a : Fin 40) (b : Fin 1024), y = ix2 a b := ⟨y 0, y 1, eq_ix2 y⟩
  pointwise [k0_pay1, SUM]
  simp only [iblk]
  entry_read
  rw [Fin.sum_univ_eight]
  blk_point [iblk, V, P, idx t]

/-- The kernel's result is the reference's, from any memory in which their arguments agree. -/
theorem algebraic : Cert.algebraic_Kernel30Ideal_Reference30Ideal := by
  pair_intro
  · run_from Cert.Kernel30Ideal.Gen.run_main m g
  · refine θ_run_mono (Cert.Reference30Ideal.Value.run m' g') fun r hr c => ?_
    have h0 := hagree c
    exact ⟨((hr c).1.trans (congrArg SUM h0)).trans (final1 m c).symm, (hr c).2⟩

end Cert.Kernel30Ideal.SumParts

end
-- ==== Proof.AdaFwd.lean ====
/-
  The modulation: a product of the conditioning vectors' silu with the weight, and the bias.

  WHAT THE BLOCK COMPUTES: the one block holds the sixteen vectors, the weight and the bias whole; the silu is a vector times one
  over one plus the exponential of zero minus it.
  WHAT THE ARRAY HOLDS: the block is the whole array.
  WHAT THE REFERENCE COMPUTES: the same with the silu as reference.py has it, whose exponential is of the negated vector.
  THE EQUATION: zero minus a number is its negation; entry by entry the products agree.
-/
module

public import proofs.«01_k».proof.Defs
public import proofs.«01_k».proof.Proof.Gen.Kernel31Ideal.Frame
public import proofs.«01_k».proof.Proof.Gen.Reference31Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel31Ideal.AdaFwd

open Cert.Kernel31Ideal Cert.Kernel31Ideal.Gen

/-- The reference's array. -/
abbrev COND (C : FVec Ideal S16x1024 .f32) (W : FVec Ideal S1024x768 .f32) (B : FVec Ideal S1x768 .f32) : FVec Ideal S16x768 .f32 :=
  addf (Host.dotGeneral Cert.Reference31Ideal.dot_S16x1024_S1024x768_S16x768_1_0_0_1_n_n none
      (mulf C (Host.divf (broadcastInDim Cert.Reference31Ideal.S16x1024 ![] Cert.Reference31Ideal.Gen.bcast_S_S16x1024 (constant Cert.Reference31Ideal.S_ .f32 0x3F800000#32))
        (addf (broadcastInDim Cert.Reference31Ideal.S16x1024 ![] Cert.Reference31Ideal.Gen.bcast_S_S16x1024 (constant Cert.Reference31Ideal.S_ .f32 0x3F800000#32)) (Host.exp (Host.negf C))))) W)
    (broadcastInDim Cert.Reference31Ideal.S16x768 ![0, 1] Cert.Reference31Ideal.Gen.bcast_S1x768_S16x768_0_1 B)

theorem COND_congr {C C' : FVec Ideal S16x1024 .f32} {W W' : FVec Ideal S1024x768 .f32} {B B' : FVec Ideal S1x768 .f32} (a : C = C')
    (b : W = W') (d : B = B') : COND C W B = COND C' W' B' := by cases a; cases b; cases d; rfl

/-- One number's silu. -/
def silu (x : EReal) : EReal := x * Ideal.div 1 (1 + Ideal.exp (-x))

theorem COND_at (C : FVec Ideal S16x1024 .f32) (W : FVec Ideal S1024x768 .f32) (B : FVec Ideal S1x768 .f32) (p : Fin 16) (q : Fin 768) :
    COND C W B (ix2 p q) = (∑ k : Fin 1024, silu (C (ix2 p k)) * W (ix2 k q)) + B (ix2 0 q) := by
  pointwise [COND]
  rfl
theorem pay_at (C : FVec Ideal S16x1024 .f32) (W : FVec Ideal S1024x768 .f32) (B : FVec Ideal S1x768 .f32) (p : Fin 16) (q : Fin 768) :
    k0_pay1 (F := Ideal) C W B (ix2 p q) = (∑ k : Fin 1024, silu (C (ix2 p k)) * W (ix2 k q)) + B (ix2 0 q) := by
  pointwise [k0_pay1]
  simp only [zero_sub]
  rfl

variable (m : (ℓ : Loc nD τ sig) → Buf (Elt Ideal) ℓ) (c : Dev nD)

/-- The arguments: the conditioning vectors, the weight, the bias. -/
abbrev C : FVec Ideal S16x1024 .f32 := m ((c : Thread nD τ).loc main_arg0)
abbrev W : FVec Ideal S1024x768 .f32 := m ((c : Thread nD τ).loc main_arg1)
abbrev B : FVec Ideal S1x768 .f32 := m ((c : Thread nD τ).loc main_arg2)

/-- Every window stages its whole array. -/
theorem idx : ∀ t : Fin cfg0.N, win0_0.index t = ![0, 0] ∧ win0_1.index t = ![0, 0] ∧ win0_2.index t = ![0, 0]
    ∧ win0_3.index t = ![0, 0] := (by decide +kernel : ∀ t : Fin grid0.N, _)
theorem c_at (t : Fin cfg0.N) (a : Fin 16) (k : Fin 1024) : iblk m c 0 t (ix2 a k) = C m c (ix2 a k) := by
  simp only [iblk]
  entry_read
  blk_point [iblk, V, idx t]
theorem w_at (t : Fin cfg0.N) (k : Fin 1024) (b : Fin 768) : iblk m c 1 t (ix2 k b) = W m c (ix2 k b) := by
  simp only [iblk]
  entry_read
  blk_point [iblk, V, idx t]
theorem b_at (t : Fin cfg0.N) (b : Fin 768) : iblk m c 2 t (ix2 0 b) = B m c (ix2 0 b) := by
  simp only [iblk]
  entry_read
  blk_point [iblk, V, idx t]
theorem emb3 (X : FVec Ideal S16x768 .f32) (t : Fin cfg0.N) (a : Fin 16) (b : Fin 768) :
    X (((cfg0.win 3).blk t).view.emb (ix2 a b)) = X (ix2 a b) := by
  blk_point [idx t]

/-- The modulation after the run. -/
theorem final3 : (dats m 0 c).arrAt 3 cfg0.N = COND (C m c) (W m c) (B m c) := by
  refine (dats m 0 c).arrAt_eq_of_covers 3 _ (by decide +kernel) fun t _ y => ?_
  blk_simp
  rw [after0_3]
  frame_out
  obtain ⟨a, b, rfl⟩ : ∃ (a : Fin 16) (b : Fin 768), y = ix2 a b := ⟨y 0, y 1, eq_ix2 y⟩
  refine (pay_at (iblk m c 0 t) (iblk m c 1 t) (iblk m c 2 t) a b).trans ?_
  rw [emb3 (COND (C m c) (W m c) (B m c)), COND_at, b_at]
  exact congrArg (· + _) (Finset.sum_congr rfl fun k _ => by rw [c_at, w_at])

/-- The kernel's result is the reference's, from any memory in which their arguments agree. -/
theorem algebraic : Cert.algebraic_Kernel31Ideal_Reference31Ideal := by
  pair_intro
  · run_from Cert.Kernel31Ideal.Gen.run_main m g
  · refine θ_run_mono (Cert.Reference31Ideal.Value.run m' g') fun r hr c => ?_
    obtain ⟨h0, h1, h2⟩ := hagree c
    exact ⟨((hr c).1.trans (COND_congr h0 h1 h2)).trans (final3 m c).symm, (hr c).2⟩

end Cert.Kernel31Ideal.AdaFwd

end
-- ==== Proof.AdaBwd.lean ====
/-
  The gradients of the modulation's weight and of the context's vector.

  WHAT THE BLOCK COMPUTES: the one block holds everything whole. It multiplies the transposed silu of sixteen vectors, the last
  eight of which are the context's, by the incoming gradient; and the sum of the last eight rows of the incoming gradient by the
  transposed weight, times the silu's derivative, of which it keeps the first of eight equal rows.
  WHAT THE ARRAYS HOLD: the blocks are the whole arrays.
  WHAT THE REFERENCE COMPUTES: the context's vector enters once, so its silu meets the sum of the eight rows; the silu is
  differentiated as a product.
  THE EQUATION: of finite numbers, the sum of eight products with one factor is the product with the sum, and
  `d (s (1 + x (1 - s))) = d s + x d (s (1 - s))`.
-/
module

public import proofs.«01_k».proof.Defs
public import proofs.«01_k».proof.Proof.Gen.Kernel32Ideal.Frame
public import proofs.«01_k».proof.Proof.Gen.Reference32Ideal.Run
public import Idealize.ShloMosaic.Lib.Pipeline.ValueKit
public import Idealize.ShloMosaic.Lib.Pointwise
public import Idealize.ShloMosaic.Lib.Claim
public import proofs.«01_k».proof.Proof.NormGrad
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel32Ideal.AdaBwd

open Cert.Kernel32Ideal Cert.Kernel32Ideal.Gen

open Cert.NormGrad (IsReal)

/-- One number's sigmoid, silu. -/
def sig1 (x : EReal) : EReal := Ideal.div 1 (1 + Ideal.exp (-x))
def silu (x : EReal) : EReal := x * sig1 x

theorem sig1_real {x : EReal} (h : IsReal x) : IsReal (sig1 x) := by
  obtain ⟨r, rfl⟩ := h
  exact ⟨_, Ideal.logistic_coe r⟩
theorem silu_real {x : EReal} (h : IsReal x) : IsReal (silu x) := h.mul (sig1_real h)

/-- Of finite numbers, a common factor leaves a sum. -/
theorem sum_mul_real {s : EReal} {f : Fin 8 → EReal} (hs : IsReal s) (hf : ∀ r, IsReal (f r)) :
    ∑ r, s * f r = (∑ r, f r) * s := by
  obtain ⟨a, rfl⟩ := hs
  choose g hg using hf
  simp only [hg, ← EReal.coe_mul, NormGrad.coe_sum]
  rw [Finset.sum_mul]
  exact congrArg _ (Finset.sum_congr rfl fun r _ => mul_comm _ _)

/-- The silu's derivative, as one product and as the sum of the product rule. -/
theorem deriv_real {d s x : EReal} (hd : IsReal d) (hs : IsReal s) (hx : IsReal x) :
    d * (s * (1 + x * (1 - s))) = d * s + x * d * (s * (1 - s)) := by
  obtain ⟨d, rfl⟩ := hd; obtain ⟨s, rfl⟩ := hs; obtain ⟨x, rfl⟩ := hx
  simp only [← EReal.coe_one, ← EReal.coe_mul, ← EReal.coe_add, ← EReal.coe_sub]
  congr 1
  ring

/-- The reference's sum of the context's eight rows, its sigmoid of the context's vector, and that sum through the weight. -/
abbrev SUM8 (D : FVec Ideal S16x768 .f32) : FVec Ideal Cert.Reference32Ideal.S768 .f32 :=
  Host.reduceAdd (extractStridedSlice Cert.Reference32Ideal.S8x768 ![8, 0] D Cert.Reference32Ideal.Gen.slices_S16x768_S8x768_8_0) (constant Cert.Reference32Ideal.S_ .f32 0x00000000#32)
    Cert.Reference32Ideal.Gen.reducesTo_S8x768_S768_d0 Cert.Reference32Ideal.Gen.h_S_
abbrev SIG (X : FVec Ideal S1024 .f32) : FVec Ideal S1024 .f32 :=
  Host.divf (broadcastInDim Cert.Reference32Ideal.S1024 ![] Cert.Reference32Ideal.Gen.bcast_S_S1024 (constant Cert.Reference32Ideal.S_ .f32 0x3F800000#32))
    (addf (broadcastInDim Cert.Reference32Ideal.S1024 ![] Cert.Reference32Ideal.Gen.bcast_S_S1024 (constant Cert.Reference32Ideal.S_ .f32 0x3F800000#32)) (Host.exp (Host.negf X)))
abbrev DS (D : FVec Ideal S16x768 .f32) (W : FVec Ideal S1024x768 .f32) : FVec Ideal S1024 .f32 :=
  Host.reduceAdd (Host.dotGeneral Cert.Reference32Ideal.dot_S1x768_S1024x768_S1x1024_1_1_0_0_n_n none
      (broadcastInDim Cert.Reference32Ideal.S1x768 ![1] Cert.Reference32Ideal.Gen.bcast_S768_S1x768_1 (SUM8 D)) W)
    (constant Cert.Reference32Ideal.S_ .f32 0x00000000#32) Cert.Reference32Ideal.Gen.reducesTo_S1x1024_S1024_d0 Cert.Reference32Ideal.Gen.h_S_

/-- The reference's gradient of the weight. -/
abbrev DWT (C : FVec Ideal S8x1024 .f32) (D : FVec Ideal S16x768 .f32) (X : FVec Ideal S1024 .f32) : FVec Ideal S1024x768 .f32 :=
  addf (transpose Cert.Reference32Ideal.S1024x768 [1, 0] (Host.dotGeneral Cert.Reference32Ideal.dot_S1x768_S1x1024_S768x1024_0_0_1_1_n_n none
        (broadcastInDim Cert.Reference32Ideal.S1x768 ![1] Cert.Reference32Ideal.Gen.bcast_S768_S1x768_1 (SUM8 D))
        (broadcastInDim Cert.Reference32Ideal.S1x1024 ![1] Cert.Reference32Ideal.Gen.bcast_S1024_S1x1024_1 (mulf X (SIG X))))
      Cert.Reference32Ideal.Gen.transposes_S768x1024_S1024x768_1_0)
    (transpose Cert.Reference32Ideal.S1024x768 [1, 0] (Host.dotGeneral Cert.Reference32Ideal.dot_S8x768_S8x1024_S768x1024_0_0_1_1_n_n none
      (extractStridedSlice Cert.Reference32Ideal.S8x768 ![0, 0] D Cert.Reference32Ideal.Gen.slices_S16x768_S8x768_0_0)
      (mulf C (Host.divf (broadcastInDim Cert.Reference32Ideal.S8x1024 ![] Cert.Reference32Ideal.Gen.bcast_S_S8x1024 (constant Cert.Reference32Ideal.S_ .f32 0x3F800000#32))
        (addf (broadcastInDim Cert.Reference32Ideal.S8x1024 ![] Cert.Reference32Ideal.Gen.bcast_S_S8x1024 (constant Cert.Reference32Ideal.S_ .f32 0x3F800000#32)) (Host.exp (Host.negf C))))))
      Cert.Reference32Ideal.Gen.transposes_S768x1024_S1024x768_1_0)

/-- The reference's gradient of the context's vector, in the first of eight rows. -/
abbrev DCTX (D : FVec Ideal S16x768 .f32) (W : FVec Ideal S1024x768 .f32) (X : FVec Ideal S1024 .f32) : FVec Ideal S8x1024 .f32 :=
  concatenate Cert.Reference32Ideal.S8x1024 0 [⟨Cert.Reference32Ideal.S1x1024, (broadcastInDim Cert.Reference32Ideal.S1x1024 ![1] Cert.Reference32Ideal.Gen.bcast_S1024_S1x1024_1
      (addf (mulf (DS D W) (SIG X))
        (mulf (mulf X (DS D W)) (mulf (SIG X)
          (subf (broadcastInDim Cert.Reference32Ideal.S1024 ![] Cert.Reference32Ideal.Gen.bcast_S_S1024 (constant Cert.Reference32Ideal.S_ .f32 0x3F800000#32)) (SIG X))))))⟩,
    ⟨Cert.Reference32Ideal.S7x1024, (broadcastInDim Cert.Reference32Ideal.S7x1024 ![] Cert.Reference32Ideal.Gen.bcast_S_S7x1024 (constant Cert.Reference32Ideal.S_ .f32 0x00000000#32))⟩]
    Cert.Reference32Ideal.Gen.concatenates_S1x1024_S7x1024_S8x1024_d0

theorem DWT_congr {C C' : FVec Ideal S8x1024 .f32} {D D' : FVec Ideal S16x768 .f32} {X X' : FVec Ideal S1024 .f32} (a : C = C')
    (b : D = D') (d : X = X') : DWT C D X = DWT C' D' X' := by cases a; cases b; cases d; rfl
theorem DCTX_congr {D D' : FVec Ideal S16x768 .f32} {W W' : FVec Ideal S1024x768 .f32} {X X' : FVec Ideal S1024 .f32} (a : D = D')
    (b : W = W') (d : X = X') : DCTX D W X = DCTX D' W' X' := by cases a; cases b; cases d; rfl

/-- The last eight of sixteen, and the first. -/
abbrev hi (r : Fin 8) : Fin 16 := ⟨8 + r.val, by omega⟩
abbrev lo (r : Fin 8) : Fin 16 := ⟨r.val, by omega⟩
theorem sum16 (f : Fin 16 → EReal) : ∑ r, f r = ∑ r, f (lo r) + ∑ r, f (hi r) := Fin.sum_univ_add (a := 8) (b := 8) f

theorem SUM8_at (D : FVec Ideal S16x768 .f32) (q : Fin 768) : SUM8 D (ix1 q) = ∑ r, D (ix2 (hi r) q) := by
  pointwise [SUM8]
theorem SIG_at (X : FVec Ideal S1024 .f32) (k : Fin 1024) : SIG X (ix1 k) = sig1 (X (ix1 k)) := by
  pointwise [SIG]
  rfl
theorem DS_at (D : FVec Ideal S16x768 .f32) (W : FVec Ideal S1024x768 .f32) (k : Fin 1024) :
    DS D W (ix1 k) = ∑ j : Fin 768, (∑ r, D (ix2 (hi r) j)) * W (ix2 k j) := by
  pointwise [DS, SUM8]
  simp

theorem DWT_at (C : FVec Ideal S8x1024 .f32) (D : FVec Ideal S16x768 .f32) (X : FVec Ideal S1024 .f32) (k : Fin 1024) (q : Fin 768) :
    DWT C D X (ix2 k q) = (∑ r, D (ix2 (hi r) q)) * silu (X (ix1 k)) + ∑ r : Fin 8, D (ix2 (lo r) q) * silu (C (ix2 r k)) := by
  pointwise [DWT, SUM8, SIG]
  simp only [Finset.univ_unique, Finset.sum_singleton]
  rfl
theorem DCTX_at (D : FVec Ideal S16x768 .f32) (W : FVec Ideal S1024x768 .f32) (X : FVec Ideal S1024 .f32) (p : Fin 8) (k : Fin 1024) :
    DCTX D W X (ix2 p k) = if p.val = 0 then DS D W (ix1 k) * sig1 (X (ix1 k))
      + X (ix1 k) * DS D W (ix1 k) * (sig1 (X (ix1 k)) * (1 - sig1 (X (ix1 k)))) else 0 := by
  rw [← SIG_at]
  unfold DCTX
  generalize DS D W = s
  generalize SIG X = g
  pointwise
  simp only [Nat.lt_one_iff, dite_eq_ite]

theorem pay2_at (C : FVec Ideal S16x1024 .f32) (D : FVec Ideal S16x768 .f32) (k : Fin 1024) (q : Fin 768) :
    k0_pay2 (F := Ideal) C D (ix2 k q) = ∑ r : Fin 16, silu (C (ix2 r k)) * D (ix2 r q) := by
  pointwise [k0_pay2]
  simp only [zero_sub]
  rfl
theorem pay3_at (D : FVec Ideal S16x768 .f32) (W : FVec Ideal S1024x768 .f32) (p : Fin 8) (k : Fin 1024) :
    k0_pay3 (F := Ideal) D W (ix2 p k) = ∑ j : Fin 768, (∑ r, D (ix2 (hi r) j)) * W (ix2 k j) := by
  pointwise [k0_pay3]
theorem pay6_at (X : FVec Ideal S1x1024 .f32) (k : Fin 1024) : k0_pay6 (F := Ideal) X (ix2 0 k) = sig1 (X (ix2 0 k)) := by
  pointwise [k0_pay6, k0_pay5]
  simp only [zero_sub]
  rfl
theorem pay7_at (X : FVec Ideal S1x1024 .f32) (k : Fin 1024) : k0_pay7 (F := Ideal) X (ix2 0 k) = 1 - sig1 (X (ix2 0 k)) := by
  rw [← pay6_at]
  unfold k0_pay7
  generalize k0_pay6 (F := Ideal) X = g
  pointwise
theorem first_row : ∀ p : Fin 8, IntOp.cmpi .eq (BitVec.ofNat 32 p.val) 0#32 = if p.val = 0 then 1#1 else 0#1 := by decide
theorem pay1_at (s : FVec Ideal S8x1024 .f32) (x : FVec Ideal S1x1024 .f32) (g h : FVec Ideal S1x1024 .f32) (p : Fin 8) (k : Fin 1024) :
    k0_pay1 (F := Ideal) s k0_pay4 (k0_pay5 x) g h (ix2 p k) = if p.val = 0 then
      s (ix2 p k) * (g (ix2 0 k) * (1 + x (ix2 0 k) * h (ix2 0 k))) else 0 := by
  pointwise [k0_pay1, k0_pay4, k0_pay5]
  rw [first_row]
  split_ifs <;> rfl

variable (m : (ℓ : Loc nD τ sig) → Buf (Elt Ideal) ℓ) (c : Dev nD)

/-- The arguments: the latent conditioning vectors, the incoming gradient, the weight, the context's vector. -/
abbrev C : FVec Ideal S8x1024 .f32 := m ((c : Thread nD τ).loc main_arg0)
abbrev D : FVec Ideal S16x768 .f32 := m ((c : Thread nD τ).loc main_arg1)
abbrev W : FVec Ideal S1024x768 .f32 := m ((c : Thread nD τ).loc main_arg2)
abbrev X : FVec Ideal S1024 .f32 := m ((c : Thread nD τ).loc main_arg3)

/-- Every window stages its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := (by decide +kernel : ∀ t : Fin grid0.N, _)
theorem read0 (Y : FVec Ideal S16x1024 .f32) (t : Fin cfg0.N) (a : Fin 16) (k : Fin 1024) :
    View.read (Elt Ideal) ((View.whole main_v2).slice ((win0 0).rect t)) Y (ix2 a k) = Y (ix2 a k) := by
  blk_point [idx t]
theorem read3 (Y : FVec Ideal S1x1024 .f32) (t : Fin cfg0.N) (k : Fin 1024) :
    View.read (Elt Ideal) ((View.whole main_v3).slice ((win0 3).rect t)) Y (ix2 0 k) = Y (ix2 0 k) := by
  blk_point [idx t]
theorem c_lo (t : Fin cfg0.N) (a : Fin 8) (k : Fin 1024) : iblk m c 0 t (ix2 (lo a) k) = C m c (ix2 a k) := by
  simp only [iblk]
  entry_read
  refine (read0 _ t (lo a) k).trans ?_
  pointwise [C, X]
theorem c_hi (t : Fin cfg0.N) (a : Fin 8) (k : Fin 1024) : iblk m c 0 t (ix2 (hi a) k) = X m c (ix1 k) := by
  simp only [iblk]
  entry_read
  refine (read0 _ t (hi a) k).trans ?_
  pointwise [C, X]
theorem d_at (t : Fin cfg0.N) (a : Fin 16) (b : Fin 768) : iblk m c 1 t (ix2 a b) = D m c (ix2 a b) := by
  simp only [iblk]
  entry_read
  blk_point [iblk, V, idx t]
theorem w_at (t : Fin cfg0.N) (k : Fin 1024) (b : Fin 768) : iblk m c 2 t (ix2 k b) = W m c (ix2 k b) := by
  simp only [iblk]
  entry_read
  blk_point [iblk, V, idx t]
theorem x_at (t : Fin cfg0.N) (k : Fin 1024) : iblk m c 3 t (ix2 0 k) = X m c (ix1 k) := by
  simp only [iblk]
  entry_read
  refine (read3 _ t  k).trans ?_
  pointwise [C, X]
theorem emb4 (Y : FVec Ideal S1024x768 .f32) (t : Fin cfg0.N) (a : Fin 1024) (b : Fin 768) :
    Y (((cfg0.win 4).blk t).view.emb (ix2 a b)) = Y (ix2 a b) := by
  blk_point [idx t]
theorem emb5 (Y : FVec Ideal S8x1024 .f32) (t : Fin cfg0.N) (a : Fin 8) (b : Fin 1024) :
    Y (((cfg0.win 5).blk t).view.emb (ix2 a b)) = Y (ix2 a b) := by
  blk_point [idx t]

/-- The numbers the equations want finite. -/
structure Finite : Prop where
  d : ∀ (r : Fin 8) (q : Fin 768), IsReal (D m c (ix2 (hi r) q))
  w : ∀ j, IsReal (W m c j)
  x : ∀ j, IsReal (X m c j)

/-- The weight's gradient after the run. -/
theorem final4 (h : Finite m c) : (dats m 0 c).arrAt 4 cfg0.N = DWT (C m c) (D m c) (X m c) := by
  refine (dats m 0 c).arrAt_eq_of_covers 4 _ (by decide +kernel) fun t _ y => ?_
  blk_simp
  rw [after0_4]
  frame_out
  obtain ⟨a, b, rfl⟩ : ∃ (a : Fin 1024) (b : Fin 768), y = ix2 a b := ⟨y 0, y 1, eq_ix2 y⟩
  refine (pay2_at (iblk m c 0 t) (iblk m c 1 t) a b).trans ?_
  rw [emb4 (DWT (C m c) (D m c) (X m c)), DWT_at, sum16, add_comm]
  simp only [c_lo, c_hi, d_at]
  rw [sum_mul_real (silu_real (h.x _)) fun r => h.d r b]
  exact congrArg (_ + ·) (Finset.sum_congr rfl fun r _ => mul_comm _ _)

/-- The context vector's gradient after the run. -/
theorem final5 (h : Finite m c) : (dats m 0 c).arrAt 5 cfg0.N = DCTX (D m c) (W m c) (X m c) := by
  refine (dats m 0 c).arrAt_eq_of_covers 5 _ (by decide +kernel) fun t _ y => ?_
  blk_simp
  rw [after0_5]
  frame_out
  obtain ⟨a, b, rfl⟩ : ∃ (a : Fin 8) (b : Fin 1024), y = ix2 a b := ⟨y 0, y 1, eq_ix2 y⟩
  refine (pay1_at _ (iblk m c 3 t) _ _ a b).trans ?_
  rw [emb5 (DCTX (D m c) (W m c) (X m c)), DCTX_at]
  refine if_congr Iff.rfl ?_ rfl
  rw [pay7_at (iblk m c 3 t), pay6_at (iblk m c 3 t), pay3_at (iblk m c 1 t) (iblk m c 2 t), DS_at, x_at]
  simp only [d_at, w_at]
  exact deriv_real (IsReal.sum _ fun j => (IsReal.sum _ fun r => h.d r j).mul (h.w _)) (sig1_real (h.x _)) (h.x _)

instance preFacts : Cert.Pre_finite_ada_bwd.Facts where
  slices_S16x768_S8x768_8_0 := by decide
  bcast_S_S8x768 := by decide
  reducesTo_S8x768_S_d0_1 := by decide
  h_S_ := by decide
  bcast_S_S1024x768 := by decide
  reducesTo_S1024x768_S_d0_1 := by decide
  bcast_S_S1024 := by decide
  reducesTo_S1024_S_d0 := by decide

/-- The context's rows are the last eight. -/
theorem slice_at (d : FVec Ideal S16x768 .f32) (h : S16x768.Slices ![8, 0] Cert.Reference32Ideal.S8x768) (p : Fin 8) (k : Fin 768) :
    extractStridedSlice Cert.Reference32Ideal.S8x768 ![8, 0] d h (ix2 p k) = d (ix2 (hi p) k) := by
  pointwise

/-- The precondition says that these numbers are finite. -/
theorem finite_of [Cert.Pre_finite_ada_bwd.Facts] (h : Cert.Pre_Kernel32Ideal_finite_ada_bwd m) : Finite m c := by
  have h0 := congrFun (h c) (fun i => i.elim0)
  obtain ⟨h0, h2⟩ := IntOp.andi_eq_one.1 h0
  obtain ⟨h0, h1⟩ := IntOp.andi_eq_one.1 h0
  exact ⟨fun p k => slice_at (D m c) Cert.Pre_finite_ada_bwd.Facts.slices_S16x768_S8x768_8_0 p k
      ▸ NormGrad.isReal_of_test (Host.reduce_andi_all _ _ _ _ _ h0 (ix2 p k)),
    fun j => NormGrad.isReal_of_test (Host.reduce_andi_all _ _ _ _ _ h1 j),
    fun j => NormGrad.isReal_of_test (Host.reduce_andi_all _ _ _ _ _ h2 j)⟩

set_option maxHeartbeats 1600000 in
/-- The kernel's two results are the reference's, from any memory in which their arguments agree and are finite. -/
theorem algebraic [Cert.Pre_finite_ada_bwd.Facts] : Cert.algebraic_Kernel32Ideal_Reference32Ideal_pre_finite_ada_bwd := by
  pair_intro
  · run_from Cert.Kernel32Ideal.Gen.run_main m g
  · refine θ_run_mono (Cert.Reference32Ideal.Value.run m' g') fun r hr c => ?_
    obtain ⟨h0, h1, h2, h3⟩ := hagree c
    have hf := finite_of m c hpre
    exact ⟨(hr c).1.trans ((DWT_congr h0 h1 h3).trans (final4 m c hf).symm),
      (hr c).2.1.trans ((DCTX_congr h1 h2 h3).trans (final5 m c hf).symm), (hr c).2.2⟩

end Cert.Kernel32Ideal.AdaBwd

end
-- ==== Proof.NormBwdCtx.lean ====
/-
  The gradients of the first norm's shift, scale and gain from the context rows, copy by copy.

  WHAT THE BLOCK COMPUTES: the one block holds the 256 context rows and their incoming gradient whole. It zeroes its output and
  adds, into one slab each, the sums over the rows of each of eight copies of the incoming gradient; of that gradient times the
  normalised row and the gain; and of that gradient times one plus the scale and the normalised row. The fourth slab stays zero.
  WHAT THE ARRAY HOLDS: the block is the whole array.
  WHAT THE REFERENCE COMPUTES: the gradients of the norm in copies of its three vectors, and zeros.
  THE EQUATION: slab by slab the same sums, of products in another order.
-/
module

public import proofs.«01_k».proof.Defs
public import proofs.«01_k».proof.Proof.Gen.Kernel33Ideal.Frame
public import proofs.«01_k».proof.Proof.Gen.Reference33Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel33Ideal.NormBwdCtx

open Cert.Kernel33Ideal Cert.Kernel33Ideal.Gen

/-- A piece stored over one slab is read on that slab, and the earlier pieces elsewhere. -/
theorem canon_slab (k : ℕ) (inb : ∀ a, (![k, 0, 0] : Fin 3 → ℕ) a + (![1, 8, 1024] : Fin 3 → ℕ) a ≤ S4x8x1024.size a)
    (w : (Rect.unit (s := S4x8x1024) ![k, 0, 0] ![1, 8, 1024] inb).shape.Idx → Elt Ideal .f32)
    (L : List (View.Piece (Elt Ideal) S4x8x1024 .f32)) (y : S4x8x1024.Idx)
    (x : (Rect.unit (s := S4x8x1024) ![k, 0, 0] ![1, 8, 1024] inb).shape.Idx)
    (h : (Rect.unit (s := S4x8x1024) ![k, 0, 0] ![1, 8, 1024] inb).emb x = y) :
    View.canon (⟨Rect.unit (s := S4x8x1024) ![k, 0, 0] ![1, 8, 1024] inb, w⟩ :: L) y = w x := by
  rw [← h]
  exact View.canon_cons_emb _ w L x
theorem emb_slab (k : ℕ) (inb : ∀ a, (![k, 0, 0] : Fin 3 → ℕ) a + (![1, 8, 1024] : Fin 3 → ℕ) a ≤ S4x8x1024.size a)
    (s : Fin 4) (a : Fin 8) (b : Fin 1024) (h : s.val = k) :
    (Rect.unit (s := S4x8x1024) ![k, 0, 0] ![1, 8, 1024] inb).emb (ix3 (0 : Fin 1) a b) = ix3 s a b := by
  funext i
  refine Fin.ext ((ValueKit.rect_emb_unit_val _ _ inb _ i).trans ?_)
  match i with
  | 0 => exact h.symm
  | 1 => exact Nat.zero_add _
  | 2 => exact Nat.zero_add _
theorem canon_other (k : ℕ) (inb : ∀ a, (![k, 0, 0] : Fin 3 → ℕ) a + (![1, 8, 1024] : Fin 3 → ℕ) a ≤ S4x8x1024.size a)
    (w : FVec Ideal S1x8x1024 .f32) (L : List (View.Piece (Elt Ideal) S4x8x1024 .f32)) (s : Fin 4) (a : Fin 8) (b : Fin 1024)
    (h : s.val ≠ k) :
    View.canon (⟨Rect.unit (s := S4x8x1024) ![k, 0, 0] ![1, 8, 1024] inb, w⟩ :: L) (ix3 s a b) = View.canon L (ix3 s a b) := by
  refine View.canon_cons_of_not_mem _ L fun hm => h ?_
  have h0 := ((Rect.mem_set_unit (inb := inb)).1 hm (0 : Fin 3))
  simp [ix3] at h0
  omega

/-- The reference's three sums over the rows of each copy, and its rows normalised with a gain of one. -/
abbrev SUMROWS (X : FVec Ideal Cert.Reference33Ideal.S32x8x1024 .f32) : FVec Ideal Cert.Reference33Ideal.S1x8x1024 .f32 :=
  broadcastInDim Cert.Reference33Ideal.S1x8x1024 ![1, 2] Cert.Reference33Ideal.Gen.bcast_S8x1024_S1x8x1024_1_2
    (Host.reduceAdd (shapeCast _ (Host.reduceAdd X (constant Cert.Reference33Ideal.S_ .f32 0x00000000#32) Cert.Reference33Ideal.Gen.reducesTo_S32x8x1024_S8x1024_d0 Cert.Reference33Ideal.Gen.h_S_)
      Cert.Reference33Ideal.Gen.shapeCasts_S8x1024_S1x8x1024) (constant Cert.Reference33Ideal.S_ .f32 0x00000000#32) Cert.Reference33Ideal.Gen.reducesTo_S1x8x1024_S8x1024_d0 Cert.Reference33Ideal.Gen.h_S_)
abbrev UNIT (X : FVec Ideal S256x1024 .f32) : FVec Ideal S256x1024 .f32 :=
  mulf (mulf X (broadcastInDim Cert.Reference33Ideal.S256x1024 ![0, 1] Cert.Reference33Ideal.Gen.bcast_S256x1_S256x1024_0_1 (Host.rsqrt (addf (Host.divf
      (broadcastInDim Cert.Reference33Ideal.S256x1 ![0] Cert.Reference33Ideal.Gen.bcast_S256_S256x1_0 (Host.reduceAdd (mulf X X) (constant Cert.Reference33Ideal.S_ .f32 0x00000000#32)
        Cert.Reference33Ideal.Gen.reducesTo_S256x1024_S256_d1 Cert.Reference33Ideal.Gen.h_S_)) (broadcastInDim Cert.Reference33Ideal.S256x1 ![] Cert.Reference33Ideal.Gen.bcast_S_S256x1 (constant Cert.Reference33Ideal.S_ .f32 0x44800000#32)))
      (broadcastInDim Cert.Reference33Ideal.S256x1 ![] Cert.Reference33Ideal.Gen.bcast_S_S256x1 (constant Cert.Reference33Ideal.S_ .f32 0x358637BD#32))))))
    (broadcastInDim Cert.Reference33Ideal.S256x1024 ![0, 1] Cert.Reference33Ideal.Gen.bcast_S1x1024_S256x1024_0_1 (broadcastInDim Cert.Reference33Ideal.S1x1024 ![1] Cert.Reference33Ideal.Gen.bcast_S1024_S1x1024_1
      (broadcastInDim Cert.Reference33Ideal.S1024 ![] Cert.Reference33Ideal.Gen.bcast_S_S1024 (constant Cert.Reference33Ideal.S_ .f32 0x3F800000#32))))
abbrev ROWS (X : FVec Ideal S256x1024 .f32) : FVec Ideal Cert.Reference33Ideal.S32x8x1024 .f32 := shapeCast _ X Cert.Reference33Ideal.Gen.shapeCasts_S256x1024_S32x8x1024
abbrev COPIES (v : FVec Ideal Cert.Reference33Ideal.S8x1024 .f32) : FVec Ideal Cert.Reference33Ideal.S32x8x1024 .f32 :=
  broadcastInDim Cert.Reference33Ideal.S32x8x1024 ![0, 1, 2] Cert.Reference33Ideal.Gen.bcast_S1x8x1024_S32x8x1024_0_1_2
    (broadcastInDim Cert.Reference33Ideal.S1x8x1024 ![1, 2] Cert.Reference33Ideal.Gen.bcast_S8x1024_S1x8x1024_1_2 v)

/-- The reference's array. -/
abbrev VECS (X D : FVec Ideal S256x1024 .f32) (g sc : FVec Ideal S1x1024 .f32) : FVec Ideal S4x8x1024 .f32 :=
  concatenate Cert.Reference33Ideal.S4x8x1024 0 [⟨Cert.Reference33Ideal.S1x8x1024, SUMROWS (ROWS D)⟩,
    ⟨Cert.Reference33Ideal.S1x8x1024, SUMROWS (mulf (mulf (ROWS (UNIT X)) (COPIES (broadcastInDim Cert.Reference33Ideal.S8x1024 ![0, 1] Cert.Reference33Ideal.Gen.bcast_S1x1024_S8x1024_0_1 g)))
      (ROWS D))⟩,
    ⟨Cert.Reference33Ideal.S1x8x1024, SUMROWS (mulf (ROWS (UNIT X)) (mulf (ROWS D) (COPIES (addf (broadcastInDim Cert.Reference33Ideal.S8x1024 ![] Cert.Reference33Ideal.Gen.bcast_S_S8x1024
      (constant Cert.Reference33Ideal.S_ .f32 0x3F800000#32)) (broadcastInDim Cert.Reference33Ideal.S8x1024 ![0, 1] Cert.Reference33Ideal.Gen.bcast_S1x1024_S8x1024_0_1 sc)))))⟩,
    ⟨Cert.Reference33Ideal.S1x8x1024, (broadcastInDim Cert.Reference33Ideal.S1x8x1024 ![1, 2] Cert.Reference33Ideal.Gen.bcast_S8x1024_S1x8x1024_1_2
      (broadcastInDim Cert.Reference33Ideal.S8x1024 ![] Cert.Reference33Ideal.Gen.bcast_S_S8x1024 (constant Cert.Reference33Ideal.S_ .f32 0x00000000#32)))⟩]
    Cert.Reference33Ideal.Gen.concatenates_S1x8x1024_S1x8x1024_S1x8x1024_S1x8x1024_S4x8x1024_d0

theorem VECS_congr {X X' D D' : FVec Ideal S256x1024 .f32} {g g' s s' : FVec Ideal S1x1024 .f32} (a : X = X') (b : D = D')
    (d : g = g') (e : s = s') : VECS X D g s = VECS X' D' g' s' := by cases a; cases b; cases d; cases e; rfl

/-- Row `k` of copy `a`; one normalised entry. -/
abbrev row (k : Fin 32) (a : Fin 8) : Fin 256 := ⟨k.val * 8 + a.val, by omega⟩
def unit (x : Fin 1024 → EReal) (b : Fin 1024) : EReal :=
  x b * Ideal.rsqrt (Ideal.div (∑ j, x j * x j) (Ideal.ofBits .f32 0x44800000#32) + Ideal.ofBits .f32 0x358637BD#32)

theorem UNIT_at (X : FVec Ideal S256x1024 .f32) (r : Fin 256) (b : Fin 1024) : UNIT X (ix2 r b) = unit (fun j => X (ix2 r j)) b := by
  pointwise [UNIT]
  rfl
theorem SUMROWS_at (Y : FVec Ideal Cert.Reference33Ideal.S32x8x1024 .f32) (a : Fin 8) (b : Fin 1024) : SUMROWS Y (ix3 0 a b) = ∑ k, Y (ix3 k a b) := by
  pointwise [SUMROWS]
  exact Fin.sum_univ_one _
theorem ROWS_at (Y : FVec Ideal S256x1024 .f32) (k : Fin 32) (a : Fin 8) (b : Fin 1024) : ROWS Y (ix3 k a b) = Y (ix2 (row k a) b) := by
  pointwise [ROWS]
theorem stack_at (A B Y Z : FVec Ideal Cert.Reference33Ideal.S1x8x1024 .f32) (s : Fin 4) (a : Fin 8) (b : Fin 1024) :
    concatenate Cert.Reference33Ideal.S4x8x1024 0 [⟨Cert.Reference33Ideal.S1x8x1024, A⟩, ⟨Cert.Reference33Ideal.S1x8x1024, B⟩, ⟨Cert.Reference33Ideal.S1x8x1024, Y⟩, ⟨Cert.Reference33Ideal.S1x8x1024, Z⟩]
      Cert.Reference33Ideal.Gen.concatenates_S1x8x1024_S1x8x1024_S1x8x1024_S1x8x1024_S4x8x1024_d0 (ix3 s a b) = if s.val = 0 then A (ix3 0 a b)
        else if s.val = 1 then B (ix3 0 a b) else if s.val = 2 then Y (ix3 0 a b) else Z (ix3 0 a b) := by
  have h : s.val = 0 ∨ s.val = 1 ∨ s.val = 2 ∨ s.val = 3 := by omega
  pointwise
  rcases h with h | h | h | h <;> simp [h]
theorem VECS_at (X D : FVec Ideal S256x1024 .f32) (g sc : FVec Ideal S1x1024 .f32) (s : Fin 4) (a : Fin 8) (b : Fin 1024) :
    VECS X D g sc (ix3 s a b) = if s.val = 0 then ∑ k, D (ix2 (row k a) b)
      else if s.val = 1 then ∑ k, unit (fun j => X (ix2 (row k a) j)) b * g (ix2 0 b) * D (ix2 (row k a) b)
      else if s.val = 2 then ∑ k, unit (fun j => X (ix2 (row k a) j)) b * (D (ix2 (row k a) b) * (1 + sc (ix2 0 b))) else 0 := by
  simp only [← UNIT_at]
  unfold VECS
  generalize UNIT X = U
  rw [stack_at]
  simp only [SUMROWS_at]
  refine if_congr Iff.rfl ?_ (if_congr Iff.rfl ?_ (if_congr Iff.rfl ?_ ?_))
  · pointwise [ROWS]
  · pointwise [ROWS, COPIES]
  · pointwise [ROWS, COPIES]
  · pointwise

theorem zero_at (y : S4x8x1024.Idx) : k0_pay3 (F := Ideal) y = 0 := by
  pointwise [k0_pay3]
theorem pay4_at (X : FVec Ideal S256x1024 .f32) (r : Fin 256) (b : Fin 1024) :
    k0_pay4 (F := Ideal) X (ix2 r b) = unit (fun j => X (ix2 r j)) b := by
  pointwise [k0_pay4]
  rfl
theorem pay6_at (D : FVec Ideal S256x1024 .f32) (o : FVec Ideal S1x8x1024 .f32) (a : Fin 8) (b : Fin 1024) :
    k0_pay6 (F := Ideal) D o (ix3 0 a b) = o (ix3 0 a b) + ∑ k, D (ix2 (row k a) b) := by
  pointwise [k0_pay6]
theorem pay1_at (X D : FVec Ideal S256x1024 .f32) (g : FVec Ideal S1x1024 .f32) (o : FVec Ideal S1x8x1024 .f32) (a : Fin 8)
    (b : Fin 1024) : k0_pay1 (F := Ideal) D (k0_pay7 o) (k0_pay8 X g) (ix3 0 a b)
      = o (ix3 0 a b) + ∑ k, D (ix2 (row k a) b) * (unit (fun j => X (ix2 (row k a) j)) b * g (ix2 0 b)) := by
  simp only [← pay4_at]
  unfold k0_pay8
  generalize k0_pay4 (F := Ideal) X = U
  pointwise [k0_pay1, k0_pay7]
theorem pay2_at (X D : FVec Ideal S256x1024 .f32) (sc : FVec Ideal S1x1024 .f32) (o : FVec Ideal S1x8x1024 .f32) (a : Fin 8)
    (b : Fin 1024) : k0_pay2 (F := Ideal) (k0_pay4 X) (k0_pay5 D sc) o (ix3 0 a b)
      = o (ix3 0 a b) + ∑ k, D (ix2 (row k a) b) * (1 + sc (ix2 0 b)) * unit (fun j => X (ix2 (row k a) j)) b := by
  simp only [← pay4_at]
  generalize k0_pay4 (F := Ideal) X = U
  pointwise [k0_pay2, k0_pay5]

variable (m : (ℓ : Loc nD τ sig) → Buf (Elt Ideal) ℓ) (c : Dev nD)

/-- The arguments: the context rows, their incoming gradient, the gain, the scale. -/
abbrev X : FVec Ideal S256x1024 .f32 := m ((c : Thread nD τ).loc main_arg0)
abbrev D : FVec Ideal S256x1024 .f32 := m ((c : Thread nD τ).loc main_arg1)
abbrev gain : FVec Ideal S1x1024 .f32 := m ((c : Thread nD τ).loc main_arg2)
abbrev scale : FVec Ideal S1x1024 .f32 := m ((c : Thread nD τ).loc main_arg3)

/-- Every window stages its whole array. -/
theorem idx : ∀ t : Fin cfg0.N, win0_0.index t = ![0, 0] ∧ win0_1.index t = ![0, 0] ∧ win0_2.index t = ![0, 0]
    ∧ win0_3.index t = ![0, 0] ∧ win0_4.index t = ![0, 0, 0] := (by decide +kernel : ∀ t : Fin grid0.N, _)
theorem x_at (t : Fin cfg0.N) (a : Fin 256) (b : Fin 1024) : iblk m c 0 t (ix2 a b) = X m c (ix2 a b) := by
  simp only [iblk]
  entry_read
  blk_point [iblk, V, idx t]
theorem d_at (t : Fin cfg0.N) (a : Fin 256) (b : Fin 1024) : iblk m c 1 t (ix2 a b) = D m c (ix2 a b) := by
  simp only [iblk]
  entry_read
  blk_point [iblk, V, idx t]
theorem g_at (t : Fin cfg0.N) (b : Fin 1024) : iblk m c 2 t (ix2 0 b) = gain m c (ix2 0 b) := by
  simp only [iblk]
  entry_read
  blk_point [iblk, V, idx t]
theorem s_at (t : Fin cfg0.N) (b : Fin 1024) : iblk m c 3 t (ix2 0 b) = scale m c (ix2 0 b) := by
  simp only [iblk]
  entry_read
  blk_point [iblk, V, idx t]
theorem emb4 (Y : FVec Ideal S4x8x1024 .f32) (t : Fin cfg0.N) (s : Fin 4) (a : Fin 8) (b : Fin 1024) :
    Y (((cfg0.win 4).blk t).view.emb (ix3 s a b)) = Y (ix3 s a b) := by
  blk_point [idx t]

/-- The sums after the run. -/
theorem final4 : (dats m 0 c).arrAt 4 cfg0.N = VECS (X m c) (D m c) (gain m c) (scale m c) := by
  refine (dats m 0 c).arrAt_eq_of_covers 4 _ (by decide +kernel) fun t _ y => ?_
  blk_simp
  rw [after0_4]
  unfold outsAt0
  frame_out
  obtain ⟨s, a, b, rfl⟩ : ∃ (s : Fin 4) (a : Fin 8) (b : Fin 1024), y = ix3 s a b := ⟨y 0, y 1, y 2, eq_ix3 y⟩
  simp (disch := decide) only [View.readCov_skip, View.readCov_fill]
  rw [emb4 (VECS (X m c) (D m c) (gain m c) (scale m c)), VECS_at]
  simp only [← x_at m c t, ← d_at m c t, ← g_at m c t, ← s_at m c t]
  split_ifs with h0 h1 h2
  · refine (canon_other 2 _ _ _ s a b (by omega)).trans ((canon_other 1 _ _ _ s a b (by omega)).trans
      ((canon_slab 0 _ _ _ _ (ix3 (0 : Fin 1) a b) (emb_slab 0 _ s a b h0)).trans ((pay6_at (iblk m c 1 t) _ a b).trans ?_)))
    exact (congrArg (· + _) (zero_at _)).trans (zero_add _)
  · refine (canon_other 2 _ _ _ s a b (by omega)).trans ((canon_slab 1 _ _ _ _ (ix3 (0 : Fin 1) a b) (emb_slab 1 _ s a b h1)).trans
      ((pay1_at (iblk m c 0 t) (iblk m c 1 t) (iblk m c 2 t) _ a b).trans ?_))
    exact ((congrArg (· + _) (zero_at _)).trans (zero_add _)).trans (Finset.sum_congr rfl fun k _ => mul_comm _ _)
  · refine (canon_slab 2 _ _ _ _ (ix3 (0 : Fin 1) a b) (emb_slab 2 _ s a b h2)).trans ((pay2_at (iblk m c 0 t) (iblk m c 1 t) (iblk m c 3 t) _ a b).trans ?_)
    exact ((congrArg (· + _) (zero_at _)).trans (zero_add _)).trans (Finset.sum_congr rfl fun k _ => mul_comm _ _)
  · refine (canon_other 2 _ _ _ s a b h2).trans ((canon_other 1 _ _ _ s a b h1).trans ((canon_other 0 _ _ _ s a b h0).trans ?_))
    rw [View.canon_cons_unit_lit _ _ _ (by decide)]
    exact zero_at _

/-- The kernel's result is the reference's, from any memory in which their arguments agree. -/
theorem algebraic : Cert.algebraic_Kernel33Ideal_Reference33Ideal := by
  pair_intro
  · run_from Cert.Kernel33Ideal.Gen.run_main m g
  · refine θ_run_mono (Cert.Reference33Ideal.Value.run m' g') fun r hr c => ?_
    obtain ⟨h0, h1, h2, h3⟩ := hagree c
    exact ⟨((hr c).1.trans (VECS_congr h0 h1 h2 h3)).trans (final4 m c).symm, (hr c).2⟩

end Cert.Kernel33Ideal.NormBwdCtx

end
-- ==== Proof.Prenorm.lean ====
/-
  The first norm with its modulation, of the latent rows and of the context rows, stored twice: as it is and transposed.

  WHAT A BLOCK COMPUTES: the first sixteen points normalise a tile of 256 latent rows with the latent's shift and scale, the last
  one the context rows with the context's; each stores its rows, and the rows transposed.
  WHAT THE ARRAYS HOLD: the seventeen tiles one after the other.
  WHAT THE REFERENCE COMPUTES: the same of the latent rows and of the context rows, joined, and their transpose.
  THE EQUATION: a row of the joined array lies in one tile, and is the same expression of the same row there.
-/
module

public import proofs.«01_k».proof.Defs
public import proofs.«01_k».proof.Proof.Gen.Kernel34Ideal.Frame
public import proofs.«01_k».proof.Proof.Gen.Reference34Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel34Ideal.Prenorm

open Cert.Kernel34Ideal Cert.Kernel34Ideal.Gen

/-- One entry of a normalised, modulated row. -/
def nrm (x g sc sh : Fin 1024 → EReal) (b : Fin 1024) : EReal :=
  x b * Ideal.rsqrt (Ideal.div (∑ j, x j * x j) (Ideal.ofBits .f32 0x44800000#32) + Ideal.ofBits .f32 0x358637BD#32) * g b
    * (1 + sc b) + sh b

/-- The reference's shift and scale of the latent rows and of the context rows. -/
abbrev SHL (V : FVec Ideal S2x2x1024 .f32) : FVec Ideal S1x1024 .f32 :=
  extractStridedSlice Cert.Reference34Ideal.S1x1024 ![0, 0] (shapeCast _ (extractStridedSlice Cert.Reference34Ideal.S1x2x1024 ![0, 0, 0] V
    Cert.Reference34Ideal.Gen.slices_S2x2x1024_S1x2x1024_0_0_0) Cert.Reference34Ideal.Gen.shapeCasts_S1x2x1024_S2x1024) Cert.Reference34Ideal.Gen.slices_S2x1024_S1x1024_0_0
abbrev SCL (V : FVec Ideal S2x2x1024 .f32) : FVec Ideal S1x1024 .f32 :=
  extractStridedSlice Cert.Reference34Ideal.S1x1024 ![1, 0] (shapeCast _ (extractStridedSlice Cert.Reference34Ideal.S1x2x1024 ![0, 0, 0] V
    Cert.Reference34Ideal.Gen.slices_S2x2x1024_S1x2x1024_0_0_0) Cert.Reference34Ideal.Gen.shapeCasts_S1x2x1024_S2x1024) Cert.Reference34Ideal.Gen.slices_S2x1024_S1x1024_1_0
abbrev SHC (V : FVec Ideal S2x2x1024 .f32) : FVec Ideal S1x1024 .f32 :=
  extractStridedSlice Cert.Reference34Ideal.S1x1024 ![0, 0] (shapeCast _ (extractStridedSlice Cert.Reference34Ideal.S1x2x1024 ![1, 0, 0] V
    Cert.Reference34Ideal.Gen.slices_S2x2x1024_S1x2x1024_1_0_0) Cert.Reference34Ideal.Gen.shapeCasts_S1x2x1024_S2x1024) Cert.Reference34Ideal.Gen.slices_S2x1024_S1x1024_0_0
abbrev SCC (V : FVec Ideal S2x2x1024 .f32) : FVec Ideal S1x1024 .f32 :=
  extractStridedSlice Cert.Reference34Ideal.S1x1024 ![1, 0] (shapeCast _ (extractStridedSlice Cert.Reference34Ideal.S1x2x1024 ![1, 0, 0] V
    Cert.Reference34Ideal.Gen.slices_S2x2x1024_S1x2x1024_1_0_0) Cert.Reference34Ideal.Gen.shapeCasts_S1x2x1024_S2x1024) Cert.Reference34Ideal.Gen.slices_S2x1024_S1x1024_1_0

/-- The reference's latent rows and context rows. -/
abbrev LAT (X : FVec Ideal S4096x1024 .f32) (g sc sh : FVec Ideal S1x1024 .f32) : FVec Ideal S4096x1024 .f32 :=
  addf (mulf (mulf
    (mulf X (broadcastInDim Cert.Reference34Ideal.S4096x1024 ![0, 1] Cert.Reference34Ideal.Gen.bcast_S4096x1_S4096x1024_0_1 (Host.rsqrt (addf (Host.divf
      (broadcastInDim Cert.Reference34Ideal.S4096x1 ![0] Cert.Reference34Ideal.Gen.bcast_S4096_S4096x1_0 (Host.reduceAdd (mulf X X) (constant Cert.Reference34Ideal.S_ .f32 0x00000000#32)
        Cert.Reference34Ideal.Gen.reducesTo_S4096x1024_S4096_d1 Cert.Reference34Ideal.Gen.h_S_)) (broadcastInDim Cert.Reference34Ideal.S4096x1 ![] Cert.Reference34Ideal.Gen.bcast_S_S4096x1 (constant Cert.Reference34Ideal.S_ .f32 0x44800000#32)))
      (broadcastInDim Cert.Reference34Ideal.S4096x1 ![] Cert.Reference34Ideal.Gen.bcast_S_S4096x1 (constant Cert.Reference34Ideal.S_ .f32 0x358637BD#32))))))
    (broadcastInDim Cert.Reference34Ideal.S4096x1024 ![0, 1] Cert.Reference34Ideal.Gen.bcast_S1x1024_S4096x1024_0_1 g))
    (broadcastInDim Cert.Reference34Ideal.S4096x1024 ![0, 1] Cert.Reference34Ideal.Gen.bcast_S1x1024_S4096x1024_0_1
      (addf (broadcastInDim Cert.Reference34Ideal.S1x1024 ![] Cert.Reference34Ideal.Gen.bcast_S_S1x1024 (constant Cert.Reference34Ideal.S_ .f32 0x3F800000#32)) sc)))
    (broadcastInDim Cert.Reference34Ideal.S4096x1024 ![0, 1] Cert.Reference34Ideal.Gen.bcast_S1x1024_S4096x1024_0_1 sh)
abbrev CTX (X : FVec Ideal S256x1024 .f32) (g sc sh : FVec Ideal S1x1024 .f32) : FVec Ideal S256x1024 .f32 :=
  addf (mulf (mulf
    (mulf X (broadcastInDim Cert.Reference34Ideal.S256x1024 ![0, 1] Cert.Reference34Ideal.Gen.bcast_S256x1_S256x1024_0_1 (Host.rsqrt (addf (Host.divf
      (broadcastInDim Cert.Reference34Ideal.S256x1 ![0] Cert.Reference34Ideal.Gen.bcast_S256_S256x1_0 (Host.reduceAdd (mulf X X) (constant Cert.Reference34Ideal.S_ .f32 0x00000000#32)
        Cert.Reference34Ideal.Gen.reducesTo_S256x1024_S256_d1 Cert.Reference34Ideal.Gen.h_S_)) (broadcastInDim Cert.Reference34Ideal.S256x1 ![] Cert.Reference34Ideal.Gen.bcast_S_S256x1 (constant Cert.Reference34Ideal.S_ .f32 0x44800000#32)))
      (broadcastInDim Cert.Reference34Ideal.S256x1 ![] Cert.Reference34Ideal.Gen.bcast_S_S256x1 (constant Cert.Reference34Ideal.S_ .f32 0x358637BD#32))))))
    (broadcastInDim Cert.Reference34Ideal.S256x1024 ![0, 1] Cert.Reference34Ideal.Gen.bcast_S1x1024_S256x1024_0_1 g))
    (broadcastInDim Cert.Reference34Ideal.S256x1024 ![0, 1] Cert.Reference34Ideal.Gen.bcast_S1x1024_S256x1024_0_1
      (addf (broadcastInDim Cert.Reference34Ideal.S1x1024 ![] Cert.Reference34Ideal.Gen.bcast_S_S1x1024 (constant Cert.Reference34Ideal.S_ .f32 0x3F800000#32)) sc)))
    (broadcastInDim Cert.Reference34Ideal.S256x1024 ![0, 1] Cert.Reference34Ideal.Gen.bcast_S1x1024_S256x1024_0_1 sh)

/-- The reference's joined rows, and their transpose. -/
abbrev ACT (X : FVec Ideal S4096x1024 .f32) (Y : FVec Ideal S256x1024 .f32) (g : FVec Ideal S1x1024 .f32)
    (V : FVec Ideal S2x2x1024 .f32) : FVec Ideal S4352x1024 .bf16 :=
  truncf .bf16 (concatenate Cert.Reference34Ideal.S4352x1024 0 [⟨Cert.Reference34Ideal.S4096x1024, LAT X g (SCL V) (SHL V)⟩, ⟨Cert.Reference34Ideal.S256x1024, CTX Y g (SCC V) (SHC V)⟩]
    Cert.Reference34Ideal.Gen.concatenates_S4096x1024_S256x1024_S4352x1024_d0) Cert.Reference34Ideal.Gen.bitsLt_bf16_f32
abbrev ACTT (X : FVec Ideal S4096x1024 .f32) (Y : FVec Ideal S256x1024 .f32) (g : FVec Ideal S1x1024 .f32)
    (V : FVec Ideal S2x2x1024 .f32) : FVec Ideal S1024x4352 .bf16 :=
  transpose Cert.Reference34Ideal.S1024x4352 [1, 0] (ACT X Y g V) Cert.Reference34Ideal.Gen.transposes_S4352x1024_S1024x4352_1_0

theorem ACT_congr {X X' : FVec Ideal S4096x1024 .f32} {Y Y' : FVec Ideal S256x1024 .f32} {g g' : FVec Ideal S1x1024 .f32}
    {V V' : FVec Ideal S2x2x1024 .f32} (a : X = X') (b : Y = Y') (d : g = g') (e : V = V') : ACT X Y g V = ACT X' Y' g' V' := by
  cases a; cases b; cases d; cases e; rfl
theorem ACTT_congr {X X' : FVec Ideal S4096x1024 .f32} {Y Y' : FVec Ideal S256x1024 .f32} {g g' : FVec Ideal S1x1024 .f32}
    {V V' : FVec Ideal S2x2x1024 .f32} (a : X = X') (b : Y = Y') (d : g = g') (e : V = V') : ACTT X Y g V = ACTT X' Y' g' V' := by
  cases a; cases b; cases d; cases e; rfl

theorem LAT_at (X : FVec Ideal S4096x1024 .f32) (g sc sh : FVec Ideal S1x1024 .f32) (r : Fin 4096) (b : Fin 1024) :
    LAT X g sc sh (ix2 r b)
      = nrm (fun j => X (ix2 r j)) (fun j => g (ix2 0 j)) (fun j => sc (ix2 0 j)) (fun j => sh (ix2 0 j)) b := by
  pointwise [LAT]
  rfl
theorem CTX_at (X : FVec Ideal S256x1024 .f32) (g sc sh : FVec Ideal S1x1024 .f32) (r : Fin 256) (b : Fin 1024) :
    CTX X g sc sh (ix2 r b)
      = nrm (fun j => X (ix2 r j)) (fun j => g (ix2 0 j)) (fun j => sc (ix2 0 j)) (fun j => sh (ix2 0 j)) b := by
  pointwise [CTX]
  rfl
theorem SHL_at (V : FVec Ideal S2x2x1024 .f32) (j : Fin 1024) : SHL V (ix2 0 j) = V (ix3 0 0 j) := by
  pointwise [SHL]
theorem SCL_at (V : FVec Ideal S2x2x1024 .f32) (j : Fin 1024) : SCL V (ix2 0 j) = V (ix3 0 1 j) := by
  pointwise [SCL]
theorem SHC_at (V : FVec Ideal S2x2x1024 .f32) (j : Fin 1024) : SHC V (ix2 0 j) = V (ix3 1 0 j) := by
  pointwise [SHC]
theorem SCC_at (V : FVec Ideal S2x2x1024 .f32) (j : Fin 1024) : SCC V (ix2 0 j) = V (ix3 1 1 j) := by
  pointwise [SCC]

/-- Row `a` of tile `t`, in the latent rows and in the joined rows; row `a` of the context in the joined rows. -/
abbrev latRow (t : ℕ) (h : t < 16) (a : Fin 256) : Fin 4096 := ⟨t * 256 + a.val, by omega⟩
abbrev joinRow (t : ℕ) (h : t < 17) (a : Fin 256) : Fin 4352 := ⟨t * 256 + a.val, by omega⟩

theorem join_lat (A : FVec Ideal Cert.Reference34Ideal.S4096x1024 .f32) (B : FVec Ideal Cert.Reference34Ideal.S256x1024 .f32) (t : ℕ) (h : t < 16) (a : Fin 256)
    (b : Fin 1024) : concatenate Cert.Reference34Ideal.S4352x1024 0 [⟨Cert.Reference34Ideal.S4096x1024, A⟩, ⟨Cert.Reference34Ideal.S256x1024, B⟩]
      Cert.Reference34Ideal.Gen.concatenates_S4096x1024_S256x1024_S4352x1024_d0 (ix2 (joinRow t (by omega) a) b) = A (ix2 (latRow t h a) b) := by
  have hl : t * 256 + a.val < 4096 := by omega
  pointwise
  simp only [hl, dif_pos]
theorem join_ctx (A : FVec Ideal Cert.Reference34Ideal.S4096x1024 .f32) (B : FVec Ideal Cert.Reference34Ideal.S256x1024 .f32) (t : ℕ) (h : t = 16) (a : Fin 256)
    (b : Fin 1024) : concatenate Cert.Reference34Ideal.S4352x1024 0 [⟨Cert.Reference34Ideal.S4096x1024, A⟩, ⟨Cert.Reference34Ideal.S256x1024, B⟩]
      Cert.Reference34Ideal.Gen.concatenates_S4096x1024_S256x1024_S4352x1024_d0 (ix2 (joinRow t (by omega) a) b) = B (ix2 a b) := by
  subst h
  have hl : ¬(16 * 256 + a.val < 4096) := by omega
  pointwise

theorem ACT_lat (X : FVec Ideal S4096x1024 .f32) (Y : FVec Ideal S256x1024 .f32) (g : FVec Ideal S1x1024 .f32)
    (V : FVec Ideal S2x2x1024 .f32) (t : ℕ) (h : t < 16) (a : Fin 256) (b : Fin 1024) :
    ACT X Y g V (ix2 (joinRow t (by omega) a) b) = nrm (fun j => X (ix2 (latRow t h a) j)) (fun j => g (ix2 0 j))
      (fun j => V (ix3 0 1 j)) (fun j => V (ix3 0 0 j)) b := by
  refine (join_lat (LAT X g (SCL V) (SHL V)) (CTX Y g (SCC V) (SHC V)) t h a b).trans ?_
  rw [LAT_at]
  simp only [SCL_at, SHL_at]
theorem ACT_ctx (X : FVec Ideal S4096x1024 .f32) (Y : FVec Ideal S256x1024 .f32) (g : FVec Ideal S1x1024 .f32)
    (V : FVec Ideal S2x2x1024 .f32) (t : ℕ) (h : t = 16) (a : Fin 256) (b : Fin 1024) :
    ACT X Y g V (ix2 (joinRow t (by omega) a) b) = nrm (fun j => Y (ix2 a j)) (fun j => g (ix2 0 j))
      (fun j => V (ix3 1 1 j)) (fun j => V (ix3 1 0 j)) b := by
  refine (join_ctx (LAT X g (SCL V) (SHL V)) (CTX Y g (SCC V) (SHC V)) t h a b).trans ?_
  rw [CTX_at]
  simp only [SCC_at, SHC_at]
theorem ACTT_at (X : FVec Ideal S4096x1024 .f32) (Y : FVec Ideal S256x1024 .f32) (g : FVec Ideal S1x1024 .f32)
    (V : FVec Ideal S2x2x1024 .f32) (r : Fin 4352) (b : Fin 1024) : ACTT X Y g V (ix2 b r) = ACT X Y g V (ix2 r b) := by
  unfold ACTT
  generalize ACT X Y g V = A
  pointwise

theorem pay1_at (x : FVec Ideal S256x1024 .f32) (g : FVec Ideal S1x1024 .f32) (sc sh : FVec Ideal S1x1x1024 .f32) (a : Fin 256)
    (b : Fin 1024) : k0_pay1 (F := Ideal) x g sc sh (ix2 a b)
      = nrm (fun j => x (ix2 a j)) (fun j => g (ix2 0 j)) (fun j => sc (ix3 0 0 j)) (fun j => sh (ix3 0 0 j)) b := by
  pointwise [k0_pay1]
  rfl
theorem pay2_at (x : FVec Ideal S256x1024 .f32) (g : FVec Ideal S1x1024 .f32) (sc sh : FVec Ideal S1x1x1024 .f32) (a : Fin 256)
    (b : Fin 1024) : k0_pay2 (F := Ideal) x g sc sh (ix2 a b)
      = nrm (fun j => x (ix2 a j)) (fun j => g (ix2 0 j)) (fun j => sc (ix3 0 0 j)) (fun j => sh (ix3 0 0 j)) b :=
  pay1_at x g sc sh a b
theorem pay3_at (x : FVec Ideal S256x1024 .f32) (g : FVec Ideal S1x1024 .f32) (sc sh : FVec Ideal S1x1x1024 .f32) (a : Fin 256)
    (b : Fin 1024) : k0_pay3 (F := Ideal) x g sc sh (ix2 b a)
      = nrm (fun j => x (ix2 a j)) (fun j => g (ix2 0 j)) (fun j => sc (ix3 0 0 j)) (fun j => sh (ix3 0 0 j)) b := by
  rw [← pay1_at]
  unfold k0_pay3
  generalize k0_pay1 (F := Ideal) x g sc sh = A
  pointwise
theorem pay5_at (x : FVec Ideal S256x1024 .f32) (g : FVec Ideal S1x1024 .f32) (sc sh : FVec Ideal S1x1x1024 .f32) (a : Fin 256)
    (b : Fin 1024) : k0_pay5 (F := Ideal) x g sc sh (ix2 a b)
      = nrm (fun j => x (ix2 a j)) (fun j => g (ix2 0 j)) (fun j => sc (ix3 0 0 j)) (fun j => sh (ix3 0 0 j)) b :=
  pay1_at x g sc sh a b
theorem pay6_at (x : FVec Ideal S256x1024 .f32) (g : FVec Ideal S1x1024 .f32) (sc sh : FVec Ideal S1x1x1024 .f32) (a : Fin 256)
    (b : Fin 1024) : k0_pay6 (F := Ideal) x g sc sh (ix2 b a)
      = nrm (fun j => x (ix2 a j)) (fun j => g (ix2 0 j)) (fun j => sc (ix3 0 0 j)) (fun j => sh (ix3 0 0 j)) b :=
  pay3_at x g sc sh a b

variable (m : (ℓ : Loc nD τ sig) → Buf (Elt Ideal) ℓ) (c : Dev nD)

/-- The arguments: the latent rows, the context rows, the gain, and the shift and scale of both. -/
abbrev X : FVec Ideal S4096x1024 .f32 := m ((c : Thread nD τ).loc main_arg0)
abbrev Y : FVec Ideal S256x1024 .f32 := m ((c : Thread nD τ).loc main_arg1)
abbrev gain : FVec Ideal S1x1024 .f32 := m ((c : Thread nD τ).loc main_arg2)
abbrev mods : FVec Ideal S2x2x1024 .f32 := m ((c : Thread nD τ).loc main_arg3)

/-- Which block each window stages: the latent rows' tile, the context rows, the gain, and one of the two pairs of vectors. -/
theorem idx : ∀ t : Fin cfg0.N, win0_1.index t = ![0, 0] ∧ win0_2.index t = ![0, 0] ∧ win0_4.index t = ![t.val, 0]
    ∧ win0_5.index t = ![0, t.val] := (by decide +kernel : ∀ t : Fin grid0.N, _)
theorem idxA : ∀ t : Fin cfg0.N, t.val < 16 → win0_0.index t = ![t.val, 0] ∧ win0_3.index t = ![0, 0, 0] :=
  (by decide +kernel : ∀ t : Fin grid0.N, _)
theorem idxB : ∀ t : Fin cfg0.N, ¬t.val < 16 → win0_3.index t = ![1, 0, 0] := (by decide +kernel : ∀ t : Fin grid0.N, _)
theorem lt17 (t : Fin cfg0.N) : t.val < 17 := lt_of_lt_of_eq t.isLt (show cfg0.N = 17 from N_0)

theorem x_at (t : Fin cfg0.N) (h : t.val < 16) (a : Fin 256) (b : Fin 1024) :
    iblk m c 0 t (ix2 a b) = X m c (ix2 (latRow t.val h a) b) := by
  simp only [iblk]
  entry_read
  blk_point [iblk, V, idxA t h, latRow]
theorem y_at (t : Fin cfg0.N) (a : Fin 256) (b : Fin 1024) : iblk m c 1 t (ix2 a b) = Y m c (ix2 a b) := by
  simp only [iblk]
  entry_read
  blk_point [iblk, V, idx t]
theorem g_at (t : Fin cfg0.N) (b : Fin 1024) : iblk m c 2 t (ix2 0 b) = gain m c (ix2 0 b) := by
  simp only [iblk]
  entry_read
  blk_point [iblk, V, idx t]
theorem lat_at (t : Fin cfg0.N) (h : t.val < 16) (k : Fin 2) (b : Fin 1024) : iblk m c 3 t (ix3 0 k b) = mods m c (ix3 0 k b) := by
  simp only [iblk]
  entry_read
  blk_point [iblk, V, idxA t h]
theorem ctx_at (t : Fin cfg0.N) (h : ¬t.val < 16) (k : Fin 2) (b : Fin 1024) : iblk m c 3 t (ix3 0 k b) = mods m c (ix3 1 k b) := by
  simp only [iblk]
  entry_read
  blk_point [iblk, V, idxB t h]
theorem emb4 (Z : FVec Ideal S4352x1024 .bf16) (t : Fin cfg0.N) (a : Fin 256) (b : Fin 1024) :
    Z (((cfg0.win 4).blk t).view.emb (ix2 a b)) = Z (ix2 (joinRow t.val (lt17 t) a) b) := by
  blk_point [idx t, joinRow]
theorem emb5 (Z : FVec Ideal S1024x4352 .bf16) (t : Fin cfg0.N) (a : Fin 256) (b : Fin 1024) :
    Z (((cfg0.win 5).blk t).view.emb (ix2 b a)) = Z (ix2 b (joinRow t.val (lt17 t) a)) := by
  blk_point [idx t, joinRow]

/-- The loads of a pair of vectors: the scale is its second vector, the shift its first. -/
theorem scale_ld (t : Fin cfg0.N) (j : Fin 1024) :
    View.ld (iblk m c 3 t) (Rect.unit ![0, 1, 0] ![1, 1, 1024] inb_S1x2x1024_S1x1x1024_0_1_0)
      (ix3 (0 : Fin 1) (0 : Fin 1) j) = iblk m c 3 t (ix3 0 1 j) := by
  simp only [View.ld]
  generalize iblk m c 3 t = Z
  blk_point
  all_goals simp [Rect.unit]
theorem shift_ld (t : Fin cfg0.N) (j : Fin 1024) :
    View.ld (iblk m c 3 t) (Rect.unit ![0, 0, 0] ![1, 1, 1024] inb_S1x2x1024_S1x1x1024_0_0_0)
      (ix3 (0 : Fin 1) (0 : Fin 1) j) = iblk m c 3 t (ix3 0 0 j) := by
  simp only [View.ld]
  generalize iblk m c 3 t = Z
  blk_point
  all_goals simp [Rect.unit]

theorem nrm_congr {x x' g g' sc sc' sh sh' : Fin 1024 → EReal} (a : ∀ j, x j = x' j) (b : ∀ j, g j = g' j) (d : ∀ j, sc j = sc' j)
    (e : ∀ j, sh j = sh' j) (k : Fin 1024) : nrm x g sc sh k = nrm x' g' sc' sh' k := by
  cases funext a; cases funext b; cases funext d; cases funext e; rfl

/-- The joined rows after the run. -/
theorem final4 : (dats m 0 c).arrAt 4 cfg0.N = ACT (X m c) (Y m c) (gain m c) (mods m c) := by
  refine (dats m 0 c).arrAt_eq_of_covers 4 _ (by decide +kernel) fun t _ y => ?_
  blk_simp
  rw [after0_4]
  obtain ⟨a, b, rfl⟩ : ∃ (a : Fin 256) (b : Fin 1024), y = ix2 a b := ⟨y 0, y 1, eq_ix2 y⟩
  have h17 := lt17 t
  rw [emb4 (ACT (X m c) (Y m c) (gain m c) (mods m c))]
  by_cases h : t.val < 16
  · rw [outsAt0_A m c t h (by omega)]
    frame_out
    refine (pay2_at (iblk m c 0 t) (iblk m c 2 t) _ _ a b).trans ?_
    rw [ACT_lat _ _ _ _ t.val h]
    exact nrm_congr (fun j => x_at m c t h a j) (fun j => g_at m c t j) (fun j => (scale_ld m c t j).trans (lat_at m c t h 1 j))
      (fun j => (shift_ld m c t j).trans (lat_at m c t h 0 j)) b
  · rw [outsAt0_B m c t h (by omega)]
    frame_out
    refine (pay5_at (iblk m c 1 t) (iblk m c 2 t) _ _ a b).trans ?_
    rw [ACT_ctx _ _ _ _ t.val (by omega)]
    exact nrm_congr (fun j => y_at m c t a j) (fun j => g_at m c t j) (fun j => (scale_ld m c t j).trans (ctx_at m c t h 1 j))
      (fun j => (shift_ld m c t j).trans (ctx_at m c t h 0 j)) b

/-- The transposed rows after the run. -/
theorem final5 : (dats m 0 c).arrAt 5 cfg0.N = ACTT (X m c) (Y m c) (gain m c) (mods m c) := by
  refine (dats m 0 c).arrAt_eq_of_covers 5 _ (by decide +kernel) fun t _ y => ?_
  blk_simp
  rw [after0_5]
  obtain ⟨b, a, rfl⟩ : ∃ (b : Fin 1024) (a : Fin 256), y = ix2 b a := ⟨y 0, y 1, eq_ix2 y⟩
  have h17 := lt17 t
  rw [emb5 (ACTT (X m c) (Y m c) (gain m c) (mods m c)), ACTT_at]
  by_cases h : t.val < 16
  · rw [outsAt0_A m c t h (by omega)]
    frame_out
    refine (pay3_at (iblk m c 0 t) (iblk m c 2 t) _ _ a b).trans ?_
    rw [ACT_lat _ _ _ _ t.val h]
    exact nrm_congr (fun j => x_at m c t h a j) (fun j => g_at m c t j) (fun j => (scale_ld m c t j).trans (lat_at m c t h 1 j))
      (fun j => (shift_ld m c t j).trans (lat_at m c t h 0 j)) b
  · rw [outsAt0_B m c t h (by omega)]
    frame_out
    refine (pay6_at (iblk m c 1 t) (iblk m c 2 t) _ _ a b).trans ?_
    rw [ACT_ctx _ _ _ _ t.val (by omega)]
    exact nrm_congr (fun j => y_at m c t a j) (fun j => g_at m c t j) (fun j => (scale_ld m c t j).trans (ctx_at m c t h 1 j))
      (fun j => (shift_ld m c t j).trans (ctx_at m c t h 0 j)) b

/-- The kernel's two results are the reference's, from any memory in which their arguments agree. -/
theorem algebraic : Cert.algebraic_Kernel34Ideal_Reference34Ideal := by
  pair_intro
  · run_from Cert.Kernel34Ideal.Gen.run_main m g
  · refine θ_run_mono (Cert.Reference34Ideal.Value.run m' g') fun r hr c => ?_
    obtain ⟨h0, h1, h2, h3⟩ := hagree c
    exact ⟨(hr c).1.trans ((ACT_congr h0 h1 h2 h3).trans (final4 m c).symm),
      (hr c).2.1.trans ((ACTT_congr h0 h1 h2 h3).trans (final5 m c).symm), (hr c).2.2⟩

end Cert.Kernel34Ideal.Prenorm

end
-- ==== Proof.lean ====
/-
  The certificate: the side facts of every program, the frame of every program, and for every call of the kernel that its
  idealisation is the printed text and computes what its reference computes (proved in the call's own module).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.DownDx
public import proofs.«01_k».proof.Proof.Gen.Kernel5.Frame
public import proofs.«01_k».proof.Proof.Gen.Kernel5Ideal.Frame
public import proofs.«01_k».proof.Proof.Gen.Reference5Ideal.Run
public import proofs.«01_k».proof.Proof.DownDw
public import proofs.«01_k».proof.Proof.Gen.Kernel6.Frame
public import proofs.«01_k».proof.Proof.Gen.Kernel6Ideal.Frame
public import proofs.«01_k».proof.Proof.Gen.Reference6Ideal.Run
public import proofs.«01_k».proof.Proof.UpDw
public import proofs.«01_k».proof.Proof.Gen.Kernel2.Frame
public import proofs.«01_k».proof.Proof.Gen.Kernel2Ideal.Frame
public import proofs.«01_k».proof.Proof.Gen.Reference2Ideal.Run
public import proofs.«01_k».proof.Proof.UpDx
public import proofs.«01_k».proof.Proof.Gen.Kernel7.Frame
public import proofs.«01_k».proof.Proof.Gen.Kernel7Ideal.Frame
public import proofs.«01_k».proof.Proof.Gen.Reference7Ideal.Run
public import proofs.«01_k».proof.Proof.OutDx
public import proofs.«01_k».proof.Proof.Gen.Kernel8.Frame
public import proofs.«01_k».proof.Proof.Gen.Kernel8Ideal.Frame
public import proofs.«01_k».proof.Proof.Gen.Reference8Ideal.Run
public import proofs.«01_k».proof.Proof.OutDw
public import proofs.«01_k».proof.Proof.Gen.Kernel9.Frame
public import proofs.«01_k».proof.Proof.Gen.Kernel9Ideal.Frame
public import proofs.«01_k».proof.Proof.Gen.Reference9Ideal.Run
public import proofs.«01_k».proof.Proof.Up
public import proofs.«01_k».proof.Proof.Gen.Kernel10.Frame
public import proofs.«01_k».proof.Proof.Gen.Kernel10Ideal.Frame
public import proofs.«01_k».proof.Proof.Gen.Reference10Ideal.Run
public import proofs.«01_k».proof.Proof.In
public import proofs.«01_k».proof.Proof.Gen.Kernel11.Frame
public import proofs.«01_k».proof.Proof.Gen.Kernel11Ideal.Frame
public import proofs.«01_k».proof.Proof.Gen.Reference11Ideal.Run
public import proofs.«01_k».proof.Proof.InDw
public import proofs.«01_k».proof.Proof.Gen.Kernel12.Frame
public import proofs.«01_k».proof.Proof.Gen.Kernel12Ideal.Frame
public import proofs.«01_k».proof.Proof.Gen.Reference12Ideal.Run
public import proofs.«01_k».proof.Proof.InDxCtx
public import proofs.«01_k».proof.Proof.Gen.Kernel13.Frame
public import proofs.«01_k».proof.Proof.Gen.Kernel13Ideal.Frame
public import proofs.«01_k».proof.Proof.Gen.Reference13Ideal.Run
public import proofs.«01_k».proof.Proof.InDx
public import proofs.«01_k».proof.Proof.Gen.Kernel14.Frame
public import proofs.«01_k».proof.Proof.Gen.Kernel14Ideal.Frame
public import proofs.«01_k».proof.Proof.Gen.Reference14Ideal.Run
public import proofs.«01_k».proof.Proof.Out
public import proofs.«01_k».proof.Proof.Gen.Kernel15.Frame
public import proofs.«01_k».proof.Proof.Gen.Kernel15Ideal.Frame
public import proofs.«01_k».proof.Proof.Gen.Reference15Ideal.Run
public import proofs.«01_k».proof.Proof.Down
public import proofs.«01_k».proof.Proof.Gen.Kernel20.Frame
public import proofs.«01_k».proof.Proof.Gen.Kernel20Ideal.Frame
public import proofs.«01_k».proof.Proof.Gen.Reference20Ideal.Run
public import proofs.«01_k».proof.Proof.AdamAda
public import proofs.«01_k».proof.Proof.Gen.Kernel21.Frame
public import proofs.«01_k».proof.Proof.Gen.Kernel21Ideal.Frame
public import proofs.«01_k».proof.Proof.Gen.Reference21Ideal.Run
public import proofs.«01_k».proof.Proof.AdamW1
public import proofs.«01_k».proof.Proof.Gen.Kernel22.Frame
public import proofs.«01_k».proof.Proof.Gen.Kernel22Ideal.Frame
public import proofs.«01_k».proof.Proof.Gen.Reference22Ideal.Run
public import proofs.«01_k».proof.Proof.AdamW2
public import proofs.«01_k».proof.Proof.Gen.Kernel23.Frame
public import proofs.«01_k».proof.Proof.Gen.Kernel23Ideal.Frame
public import proofs.«01_k».proof.Proof.Gen.Reference23Ideal.Run
public import proofs.«01_k».proof.Proof.AdamOut
public import proofs.«01_k».proof.Proof.Gen.Kernel24.Frame
public import proofs.«01_k».proof.Proof.Gen.Kernel24Ideal.Frame
public import proofs.«01_k».proof.Proof.Gen.Reference24Ideal.Run
public import proofs.«01_k».proof.Proof.AdamGlu
public import proofs.«01_k».proof.Proof.Gen.Kernel25.Frame
public import proofs.«01_k».proof.Proof.Gen.Kernel25Ideal.Frame
public import proofs.«01_k».proof.Proof.Gen.Reference25Ideal.Run
public import proofs.«01_k».proof.Proof.AdamIn
public import proofs.«01_k».proof.Proof.Gen.Kernel26.Frame
public import proofs.«01_k».proof.Proof.Gen.Kernel26Ideal.Frame
public import proofs.«01_k».proof.Proof.Gen.Reference26Ideal.Run
public import proofs.«01_k».proof.Proof.AdamConv
public import proofs.«01_k».proof.Proof.Gen.Kernel27.Frame
public import proofs.«01_k».proof.Proof.Gen.Kernel27Ideal.Frame
public import proofs.«01_k».proof.Proof.Gen.Reference27Ideal.Run
public import proofs.«01_k».proof.Proof.AdamSmall
public import proofs.«01_k».proof.Proof.Gen.Kernel28.Frame
public import proofs.«01_k».proof.Proof.Gen.Kernel28Ideal.Frame
public import proofs.«01_k».proof.Proof.Gen.Reference28Ideal.Run
public import proofs.«01_k».proof.Proof.AdamB
public import proofs.«01_k».proof.Proof.Gen.Kernel29.Frame
public import proofs.«01_k».proof.Proof.Gen.Kernel29Ideal.Frame
public import proofs.«01_k».proof.Proof.Gen.Reference29Ideal.Run
public import proofs.«01_k».proof.Proof.AdamC
public import proofs.«01_k».proof.Proof.Gen.Kernel30.Frame
public import proofs.«01_k».proof.Proof.Gen.Kernel30Ideal.Frame
public import proofs.«01_k».proof.Proof.Gen.Reference30Ideal.Run
public import proofs.«01_k».proof.Proof.SumParts
public import proofs.«01_k».proof.Proof.Gen.Kernel31.Frame
public import proofs.«01_k».proof.Proof.Gen.Kernel31Ideal.Frame
public import proofs.«01_k».proof.Proof.Gen.Reference31Ideal.Run
public import proofs.«01_k».proof.Proof.AdaFwd
public import proofs.«01_k».proof.Proof.Gen.Kernel32.Frame
public import proofs.«01_k».proof.Proof.Gen.Kernel32Ideal.Frame
public import proofs.«01_k».proof.Proof.Gen.Reference32Ideal.Run
public import proofs.«01_k».proof.Proof.AdaBwd
public import proofs.«01_k».proof.Proof.Gen.Kernel33.Frame
public import proofs.«01_k».proof.Proof.Gen.Kernel33Ideal.Frame
public import proofs.«01_k».proof.Proof.Gen.Reference33Ideal.Run
public import proofs.«01_k».proof.Proof.NormBwdCtx
public import proofs.«01_k».proof.Proof.Gen.Kernel34.Frame
public import proofs.«01_k».proof.Proof.Gen.Kernel34Ideal.Frame
public import proofs.«01_k».proof.Proof.Gen.Reference34Ideal.Run
public import proofs.«01_k».proof.Proof.Prenorm
public import Idealize.ShloMosaic.Lib.Quiescent

@[expose] public section

set_option maxRecDepth 16384

open Idealize.ShloMosaic Idealize.ShloMosaic.TcCoe Idealize.SL.Sem

namespace Cert.Proof

/-- Everything stated in Defs.lean. -/
theorem claim : Cert.Claim := ⟨
  Cert.Kernel.Gen.facts,
  Cert.KernelIdeal.Gen.facts,
  Cert.ReferenceIdeal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel14.Gen.facts,
  Cert.Kernel14Ideal.Gen.facts,
  Cert.Reference14Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel2.Gen.facts,
  Cert.Kernel2Ideal.Gen.facts,
  Cert.Reference2Ideal.Gen.facts,
  Cert.Kernel13.Gen.facts,
  Cert.Kernel13Ideal.Gen.facts,
  Cert.Reference13Ideal.Gen.facts,
  Cert.Kernel15.Gen.facts,
  Cert.Kernel15Ideal.Gen.facts,
  Cert.Reference15Ideal.Gen.facts,
  Cert.Kernel32.Gen.facts,
  Cert.Kernel32Ideal.Gen.facts,
  Cert.Reference32Ideal.Gen.facts,
  Cert.Kernel2Ideal.UpDx.preFacts,
  Cert.Kernel13Ideal.InDx.preFacts,
  Cert.Kernel15Ideal.Down.preFacts,
  Cert.Kernel32Ideal.AdaBwd.preFacts,
  fun m ρ _ => Cert.Kernel.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems (by decide) r.2⟩)
    (Cert.Reference5Ideal.Value.run (F := Ideal) m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems (by decide) r.2⟩)
    (Cert.Reference7Ideal.Value.run (F := Ideal) m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems (by decide) r.2⟩)
    (Cert.Reference8Ideal.Value.run (F := Ideal) m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2.2, sem_eq_zero_of_no_sems (by decide) r.2⟩)
    (Cert.Reference9Ideal.Value.run (F := Ideal) m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2, sem_eq_zero_of_no_sems (by decide) r.2⟩)
    (Cert.Reference10Ideal.Value.run (F := Ideal) m ρ),
  fun m ρ _ => Cert.Kernel11.Gen.frame m ρ,
  fun m ρ _ => Cert.Kernel11Ideal.Gen.frame m ρ,
  fun m ρ _ => (θ_run Cert.Reference11Ideal.defs _ _).mono (fun r h => ⟨fun c => (h c).2, sem_eq_zero_of_no_sems (by decide) r.2⟩)
    (Cert.Reference11Ideal.Value.run (F := Ideal) m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2, sem_eq_zero_of_no_sems (by decide) r.2⟩)
    (Cert.Reference12Ideal.Value.run (F := Ideal) m ρ),
  fun m ρ _ => Cert.Kernel14.Gen.frame m ρ,
  fun m ρ _ => Cert.Kernel14Ideal.Gen.frame m ρ,
  fun m ρ _ => (θ_run Cert.Reference14Ideal.defs _ _).mono (fun r h => ⟨fun c => (h c).2.2.2.2, sem_eq_zero_of_no_sems (by decide) r.2⟩)
    (Cert.Reference14Ideal.Value.run (F := Ideal) m ρ),
  fun m ρ _ => Cert.Kernel20.Gen.frame m ρ,
  fun m ρ _ => Cert.Kernel20Ideal.Gen.frame m ρ,
  fun m ρ _ => (θ_run Cert.Reference20Ideal.defs _ _).mono (fun r h => ⟨fun c => (h c).2.2.2.2, sem_eq_zero_of_no_sems (by decide) r.2⟩)
    (Cert.Reference20Ideal.Value.run (F := Ideal) m ρ),
  fun m ρ _ => Cert.Kernel21.Gen.frame m ρ,
  fun m ρ _ => Cert.Kernel21Ideal.Gen.frame m ρ,
  fun m ρ _ => (θ_run Cert.Reference21Ideal.defs _ _).mono (fun r h => ⟨fun c => (h c).2.2.2.2, sem_eq_zero_of_no_sems (by decide) r.2⟩)
    (Cert.Reference21Ideal.Value.run (F := Ideal) m ρ),
  fun m ρ _ => Cert.Kernel22.Gen.frame m ρ,
  fun m ρ _ => Cert.Kernel22Ideal.Gen.frame m ρ,
  fun m ρ _ => (θ_run Cert.Reference22Ideal.defs _ _).mono (fun r h => ⟨fun c => (h c).2.2.2.2, sem_eq_zero_of_no_sems (by decide) r.2⟩)
    (Cert.Reference22Ideal.Value.run (F := Ideal) m ρ),
  fun m ρ _ => Cert.Kernel23.Gen.frame m ρ,
  fun m ρ _ => Cert.Kernel23Ideal.Gen.frame m ρ,
  fun m ρ _ => (θ_run Cert.Reference23Ideal.defs _ _).mono (fun r h => ⟨fun c => (h c).2.2.2.2, sem_eq_zero_of_no_sems (by decide) r.2⟩)
    (Cert.Reference23Ideal.Value.run (F := Ideal) m ρ),
  fun m ρ _ => Cert.Kernel24.Gen.frame m ρ,
  fun m ρ _ => Cert.Kernel24Ideal.Gen.frame m ρ,
  fun m ρ _ => (θ_run Cert.Reference24Ideal.defs _ _).mono (fun r h => ⟨fun c => (h c).2.2.2.2, sem_eq_zero_of_no_sems (by decide) r.2⟩)
    (Cert.Reference24Ideal.Value.run (F := Ideal) m ρ),
  fun m ρ _ => Cert.Kernel25.Gen.frame m ρ,
  fun m ρ _ => Cert.Kernel25Ideal.Gen.frame m ρ,
  fun m ρ _ => (θ_run Cert.Reference25Ideal.defs _ _).mono (fun r h => ⟨fun c => (h c).2.2.2.2, sem_eq_zero_of_no_sems (by decide) r.2⟩)
    (Cert.Reference25Ideal.Value.run (F := Ideal) m ρ),
  fun m ρ _ => Cert.Kernel26.Gen.frame m ρ,
  fun m ρ _ => Cert.Kernel26Ideal.Gen.frame m ρ,
  fun m ρ _ => (θ_run Cert.Reference26Ideal.defs _ _).mono (fun r h => ⟨fun c => (h c).2.2.2.2, sem_eq_zero_of_no_sems (by decide) r.2⟩)
    (Cert.Reference26Ideal.Value.run (F := Ideal) m ρ),
  fun m ρ _ => Cert.Kernel27.Gen.frame m ρ,
  fun m ρ _ => Cert.Kernel27Ideal.Gen.frame m ρ,
  fun m ρ _ => (θ_run Cert.Reference27Ideal.defs _ _).mono (fun r h => ⟨fun c => (h c).2.2.2.2, sem_eq_zero_of_no_sems (by decide) r.2⟩)
    (Cert.Reference27Ideal.Value.run (F := Ideal) m ρ),
  fun m ρ _ => Cert.Kernel28.Gen.frame m ρ,
  fun m ρ _ => Cert.Kernel28Ideal.Gen.frame m ρ,
  fun m ρ _ => (θ_run Cert.Reference28Ideal.defs _ _).mono (fun r h => ⟨fun c => (h c).2.2.2, sem_eq_zero_of_no_sems (by decide) r.2⟩)
    (Cert.Reference28Ideal.Value.run (F := Ideal) m ρ),
  fun m ρ _ => Cert.Kernel29.Gen.frame m ρ,
  fun m ρ _ => Cert.Kernel29Ideal.Gen.frame m ρ,
  fun m ρ _ => (θ_run Cert.Reference29Ideal.defs _ _).mono (fun r h => ⟨fun c => (h c).2.2.2, sem_eq_zero_of_no_sems (by decide) r.2⟩)
    (Cert.Reference29Ideal.Value.run (F := Ideal) m ρ),
  fun m ρ _ => Cert.Kernel30.Gen.frame m ρ,
  fun m ρ _ => Cert.Kernel30Ideal.Gen.frame m ρ,
  fun m ρ _ => (θ_run Cert.Reference30Ideal.defs _ _).mono (fun r h => ⟨fun c => (h c).2, sem_eq_zero_of_no_sems (by decide) r.2⟩)
    (Cert.Reference30Ideal.Value.run (F := Ideal) m ρ),
  fun m ρ _ => Cert.Kernel31.Gen.frame m ρ,
  fun m ρ _ => Cert.Kernel31Ideal.Gen.frame m ρ,
  fun m ρ _ => (θ_run Cert.Reference31Ideal.defs _ _).mono (fun r h => ⟨fun c => (h c).2, sem_eq_zero_of_no_sems (by decide) r.2⟩)
    (Cert.Reference31Ideal.Value.run (F := Ideal) m ρ),
  fun m ρ _ => Cert.Kernel33.Gen.frame m ρ,
  fun m ρ _ => Cert.Kernel33Ideal.Gen.frame m ρ,
  fun m ρ _ => (θ_run Cert.Reference33Ideal.defs _ _).mono (fun r h => ⟨fun c => (h c).2, sem_eq_zero_of_no_sems (by decide) r.2⟩)
    (Cert.Reference33Ideal.Value.run (F := Ideal) m ρ),
  fun m ρ _ => Cert.Kernel34.Gen.frame m ρ,
  fun m ρ _ => Cert.Kernel34Ideal.Gen.frame m ρ,
  fun m ρ _ => (θ_run Cert.Reference34Ideal.defs _ _).mono (fun r h => ⟨fun c => (h c).2.2, sem_eq_zero_of_no_sems (by decide) r.2⟩)
    (Cert.Reference34Ideal.Value.run (F := Ideal) m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run Cert.Reference2Ideal.defs _ _).mono (fun r h => ⟨fun c => (h c).2.2.2.2.2.2, sem_eq_zero_of_no_sems (by decide) r.2⟩)
    (Cert.Reference2Ideal.Value.run (F := Ideal) m ρ),
  fun m ρ _ => (θ_run Cert.Reference2Ideal.defs _ _).mono (fun r h => ⟨fun c => (h c).2.2.2.2.2.2, sem_eq_zero_of_no_sems (by decide) r.2⟩)
    (Cert.Reference2Ideal.Value.run (F := Ideal) m ρ),
  fun m ρ _ => Cert.Kernel13.Gen.frame m ρ,
  fun m ρ _ => Cert.Kernel13Ideal.Gen.frame m ρ,
  fun m ρ _ => Cert.Kernel13Ideal.Gen.frame m ρ,
  fun m ρ _ => (θ_run Cert.Reference13Ideal.defs _ _).mono (fun r h => ⟨fun c => (h c).2.2.2.2.2, sem_eq_zero_of_no_sems (by decide) r.2⟩)
    (Cert.Reference13Ideal.Value.run (F := Ideal) m ρ),
  fun m ρ _ => (θ_run Cert.Reference13Ideal.defs _ _).mono (fun r h => ⟨fun c => (h c).2.2.2.2.2, sem_eq_zero_of_no_sems (by decide) r.2⟩)
    (Cert.Reference13Ideal.Value.run (F := Ideal) m ρ),
  fun m ρ _ => Cert.Kernel15.Gen.frame m ρ,
  fun m ρ _ => Cert.Kernel15Ideal.Gen.frame m ρ,
  fun m ρ _ => Cert.Kernel15Ideal.Gen.frame m ρ,
  fun m ρ _ => (θ_run Cert.Reference15Ideal.defs _ _).mono (fun r h => ⟨fun c => (h c).2.2.2.2.2, sem_eq_zero_of_no_sems (by decide) r.2⟩)
    (Cert.Reference15Ideal.Value.run (F := Ideal) m ρ),
  fun m ρ _ => (θ_run Cert.Reference15Ideal.defs _ _).mono (fun r h => ⟨fun c => (h c).2.2.2.2.2, sem_eq_zero_of_no_sems (by decide) r.2⟩)
    (Cert.Reference15Ideal.Value.run (F := Ideal) m ρ),
  fun m ρ _ => Cert.Kernel32.Gen.frame m ρ,
  fun m ρ _ => Cert.Kernel32Ideal.Gen.frame m ρ,
  fun m ρ _ => Cert.Kernel32Ideal.Gen.frame m ρ,
  fun m ρ _ => (θ_run Cert.Reference32Ideal.defs _ _).mono (fun r h => ⟨fun c => (h c).2.2, sem_eq_zero_of_no_sems (by decide) r.2⟩)
    (Cert.Reference32Ideal.Value.run (F := Ideal) m ρ),
  fun m ρ _ => (θ_run Cert.Reference32Ideal.defs _ _).mono (fun r h => ⟨fun c => (h c).2.2, sem_eq_zero_of_no_sems (by decide) r.2⟩)
    (Cert.Reference32Ideal.Value.run (F := Ideal) m ρ),
  trivial,
  Cert.KernelIdeal.DownDx.algebraic,
  trivial,
  Cert.Kernel5Ideal.DownDw.algebraic,
  trivial,
  Cert.Kernel6Ideal.UpDw.algebraic,
  trivial,
  Cert.Kernel7Ideal.OutDx.algebraic,
  trivial,
  Cert.Kernel8Ideal.OutDw.algebraic,
  trivial,
  Cert.Kernel9Ideal.Up.algebraic,
  trivial,
  Cert.Kernel10Ideal.In.algebraic,
  trivial,
  Cert.Kernel11Ideal.InDw.algebraic,
  trivial,
  Cert.Kernel12Ideal.InDxCtx.algebraic,
  trivial,
  Cert.Kernel14Ideal.Out.algebraic,
  trivial,
  Cert.Kernel20Ideal.AdamAda.algebraic,
  trivial,
  Cert.Kernel21Ideal.AdamW1.algebraic,
  trivial,
  Cert.Kernel22Ideal.AdamW2.algebraic,
  trivial,
  Cert.Kernel23Ideal.AdamOut.algebraic,
  trivial,
  Cert.Kernel24Ideal.AdamGlu.algebraic,
  trivial,
  Cert.Kernel25Ideal.AdamIn.algebraic,
  trivial,
  Cert.Kernel26Ideal.AdamConv.algebraic,
  trivial,
  Cert.Kernel27Ideal.AdamSmall.algebraic,
  trivial,
  Cert.Kernel28Ideal.AdamB.algebraic,
  trivial,
  Cert.Kernel29Ideal.AdamC.algebraic,
  trivial,
  Cert.Kernel30Ideal.SumParts.algebraic,
  trivial,
  Cert.Kernel31Ideal.AdaFwd.algebraic,
  trivial,
  Cert.Kernel33Ideal.NormBwdCtx.algebraic,
  trivial,
  Cert.Kernel34Ideal.Prenorm.algebraic,
  trivial,
  Cert.Kernel2Ideal.UpDx.algebraic,
  trivial,
  Cert.Kernel13Ideal.InDx.algebraic,
  trivial,
  Cert.Kernel15Ideal.Down.algebraic,
  trivial,
  Cert.Kernel32Ideal.AdaBwd.algebraic⟩

end Cert.Proof

end
